-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scene [hPre_scene : Cert.Pre_scene.Facts] (m : (ℓ : Loc Cert.KernelIdeal.nD Cert.KernelIdeal.τ Cert.KernelIdeal.sig) → Buf (Elt Ideal) ℓ) : Prop :=
  ∀ c : Dev Cert.KernelIdeal.nD,
    (Cert.Pre_scene.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_Guarded (m : (ℓ : Loc Cert.Guarded.nD Cert.Guarded.τ Cert.Guarded.sig) → Buf (Elt Bits) ℓ) : Prop :=
  True

def Pre_GuardedIdeal (m : (ℓ : Loc Cert.GuardedIdeal.nD Cert.GuardedIdeal.τ Cert.GuardedIdeal.sig) → Buf (Elt Ideal) ℓ) : Prop :=
  True

def Pre_GuardedIdeal_scene [hPre_scene : Cert.Pre_scene.Facts] (m : (ℓ : Loc Cert.GuardedIdeal.nD Cert.GuardedIdeal.τ Cert.GuardedIdeal.sig) → Buf (Elt Ideal) ℓ) : Prop :=
  ∀ c : Dev Cert.GuardedIdeal.nD,
    (Cert.Pre_scene.fn (F := Ideal) (m ((c.tc : Thread Cert.GuardedIdeal.nD Cert.GuardedIdeal.τ).loc Cert.GuardedIdeal.main_arg0)) (m ((c.tc : Thread Cert.GuardedIdeal.nD Cert.GuardedIdeal.τ).loc Cert.GuardedIdeal.main_arg1)) (m ((c.tc : Thread Cert.GuardedIdeal.nD Cert.GuardedIdeal.τ).loc Cert.GuardedIdeal.main_arg2)) (m ((c.tc : Thread Cert.GuardedIdeal.nD Cert.GuardedIdeal.τ).loc Cert.GuardedIdeal.main_arg3)) (m ((c.tc : Thread Cert.GuardedIdeal.nD Cert.GuardedIdeal.τ).loc Cert.GuardedIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scene [hPre_scene : Cert.Pre_scene.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scene.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scene [hKernelIdeal : Cert.KernelIdeal.Facts] [hPre_scene : Cert.Pre_scene.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scene m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Guarded [hGuarded : Cert.Guarded.Facts] : Prop :=
  ∀ (m : (ℓ : Loc Cert.Guarded.nD Cert.Guarded.τ Cert.Guarded.sig) → Buf (Elt Bits) ℓ) (g : Dev Cert.Guarded.nD → PrngReg), Pre_Guarded m →
    θ_run (Cert.Guarded.defs (F := Bits)) (onTc (τ := Cert.Guarded.τ) (Cert.Guarded.main (F := Bits))) ⟨m, fun _ => 0, g⟩ (fun r => (∀ c : Dev Cert.Guarded.nD,
      r.2.mem ((c.tc : Thread Cert.Guarded.nD Cert.Guarded.τ).loc Cert.Guarded.main_arg0) = m ((c.tc : Thread Cert.Guarded.nD Cert.Guarded.τ).loc Cert.Guarded.main_arg0)
      ∧ r.2.mem ((c.tc : Thread Cert.Guarded.nD Cert.Guarded.τ).loc Cert.Guarded.main_arg1) = m ((c.tc : Thread Cert.Guarded.nD Cert.Guarded.τ).loc Cert.Guarded.main_arg1)
      ∧ r.2.mem ((c.tc : Thread Cert.Guarded.nD Cert.Guarded.τ).loc Cert.Guarded.main_arg2) = m ((c.tc : Thread Cert.Guarded.nD Cert.Guarded.τ).loc Cert.Guarded.main_arg2)
      ∧ r.2.mem ((c.tc : Thread Cert.Guarded.nD Cert.Guarded.τ).loc Cert.Guarded.main_arg3) = m ((c.tc : Thread Cert.Guarded.nD Cert.Guarded.τ).loc Cert.Guarded.main_arg3)
      ∧ r.2.mem ((c.tc : Thread Cert.Guarded.nD Cert.Guarded.τ).loc Cert.Guarded.main_arg4) = m ((c.tc : Thread Cert.Guarded.nD Cert.Guarded.τ).loc Cert.Guarded.main_arg4))
      ∧ r.2.sem = fun _ => 0)

def quiescent_GuardedIdeal [hGuardedIdeal : Cert.GuardedIdeal.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1)
      ∧ r.2.mem ((c.tc : Thread Cert.GuardedIdeal.nD Cert.GuardedIdeal.τ).loc Cert.GuardedIdeal.main_arg2) = m ((c.tc : Thread Cert.GuardedIdeal.nD Cert.GuardedIdeal.τ).loc Cert.GuardedIdeal.main_arg2)
      ∧ r.2.mem ((c.tc : Thread Cert.GuardedIdeal.nD Cert.GuardedIdeal.τ).loc Cert.GuardedIdeal.main_arg3) = m ((c.tc : Thread Cert.GuardedIdeal.nD Cert.GuardedIdeal.τ).loc Cert.GuardedIdeal.main_arg3)
      ∧ r.2.mem ((c.tc : Thread Cert.GuardedIdeal.nD Cert.GuardedIdeal.τ).loc Cert.GuardedIdeal.main_arg4) = m ((c.tc : Thread Cert.GuardedIdeal.nD Cert.GuardedIdeal.τ).loc Cert.GuardedIdeal.main_arg4))
      ∧ r.2.sem = fun _ => 0)

def quiescent_GuardedIdeal_pre_scene [hGuardedIdeal : Cert.GuardedIdeal.Facts] [hPre_scene : Cert.Pre_scene.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal_scene m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1)
      ∧ r.2.mem ((c.tc : Thread Cert.GuardedIdeal.nD Cert.GuardedIdeal.τ).loc Cert.GuardedIdeal.main_arg2) = m ((c.tc : Thread Cert.GuardedIdeal.nD Cert.GuardedIdeal.τ).loc Cert.GuardedIdeal.main_arg2)
      ∧ r.2.mem ((c.tc : Thread Cert.GuardedIdeal.nD Cert.GuardedIdeal.τ).loc Cert.GuardedIdeal.main_arg3) = m ((c.tc : Thread Cert.GuardedIdeal.nD Cert.GuardedIdeal.τ).loc Cert.GuardedIdeal.main_arg3)
      ∧ r.2.mem ((c.tc : Thread Cert.GuardedIdeal.nD Cert.GuardedIdeal.τ).loc Cert.GuardedIdeal.main_arg4) = m ((c.tc : Thread Cert.GuardedIdeal.nD Cert.GuardedIdeal.τ).loc Cert.GuardedIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scene [hReferenceIdeal : Cert.ReferenceIdeal.Facts] [hPre_scene : Cert.Pre_scene.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scene m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "pitch" .f32 0x3B002008#32 ((2 / 1023 : ℝ) : EReal)
  ∧ IdealRules.sign_bit.MaskStatement Cert.KernelIdeal.S128x1024 .f32

def preserves_Guarded_GuardedIdeal : Prop :=
  IdealRules.named_const.Statement Cert.GuardedIdeal.κ "pitch" .f32 0x3B002008#32 ((2 / 1023 : ℝ) : EReal)
  ∧ IdealRules.sign_bit.MaskStatement Cert.GuardedIdeal.S128x1024 .f32

def algebraic_KernelIdeal_ReferenceIdeal_on_meets_1_to_7_pre_scene [hKernelIdeal : Cert.KernelIdeal.Facts] [hReferenceIdeal : Cert.ReferenceIdeal.Facts] [hPre_scene : Cert.Pre_scene.Facts] [hOn_meets_1_to_7 : Cert.On_meets_1_to_7.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scene m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1024, 1024, 3]⟩ : Shape).Idx, (Cert.On_meets_1_to_7.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v16) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1024, 1024, 3]⟩ : Shape).Idx, (Cert.On_meets_1_to_7.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v155) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_GuardedIdeal_ReferenceIdeal_pre_scene [hGuardedIdeal : Cert.GuardedIdeal.Facts] [hReferenceIdeal : Cert.ReferenceIdeal.Facts] [hPre_scene : Cert.Pre_scene.Facts] : Prop :=
  ∀ (m : (ℓ : Loc Cert.GuardedIdeal.nD Cert.GuardedIdeal.τ Cert.GuardedIdeal.sig) → Buf (Elt Ideal) ℓ) (g : Dev Cert.GuardedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_GuardedIdeal_scene m →
    (∀ c : Dev Cert.GuardedIdeal.nD,
      m' ((c.tc : Thread Cert.ReferenceIdeal.nD Cert.ReferenceIdeal.τ).loc Cert.ReferenceIdeal.main_arg0) = m ((c.tc : Thread Cert.GuardedIdeal.nD Cert.GuardedIdeal.τ).loc Cert.GuardedIdeal.main_arg0)
      ∧ m' ((c.tc : Thread Cert.ReferenceIdeal.nD Cert.ReferenceIdeal.τ).loc Cert.ReferenceIdeal.main_arg1) = m ((c.tc : Thread Cert.GuardedIdeal.nD Cert.GuardedIdeal.τ).loc Cert.GuardedIdeal.main_arg1)
      ∧ m' ((c.tc : Thread Cert.ReferenceIdeal.nD Cert.ReferenceIdeal.τ).loc Cert.ReferenceIdeal.main_arg2) = m ((c.tc : Thread Cert.GuardedIdeal.nD Cert.GuardedIdeal.τ).loc Cert.GuardedIdeal.main_arg2)
      ∧ m' ((c.tc : Thread Cert.ReferenceIdeal.nD Cert.ReferenceIdeal.τ).loc Cert.ReferenceIdeal.main_arg3) = m ((c.tc : Thread Cert.GuardedIdeal.nD Cert.GuardedIdeal.τ).loc Cert.GuardedIdeal.main_arg3)
      ∧ m' ((c.tc : Thread Cert.ReferenceIdeal.nD Cert.ReferenceIdeal.τ).loc Cert.ReferenceIdeal.main_arg4) = m ((c.tc : Thread Cert.GuardedIdeal.nD Cert.GuardedIdeal.τ).loc Cert.GuardedIdeal.main_arg4)) →
    ∃ (v0 : (c : Dev Cert.GuardedIdeal.nD) → Buf (Elt Ideal) ((c.tc : Thread Cert.GuardedIdeal.nD Cert.GuardedIdeal.τ).loc Cert.GuardedIdeal.main_v16)),
      θ_run (Cert.GuardedIdeal.defs (F := Ideal)) (onTc (τ := Cert.GuardedIdeal.τ) (Cert.GuardedIdeal.main (F := Ideal))) ⟨m, fun _ => 0, g⟩ (fun r => ∀ c : Dev Cert.GuardedIdeal.nD,
          r.2.mem ((c.tc : Thread Cert.GuardedIdeal.nD Cert.GuardedIdeal.τ).loc Cert.GuardedIdeal.main_v16) = v0 c
          ∧ r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
          ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1)
          ∧ r.2.mem ((c.tc : Thread Cert.GuardedIdeal.nD Cert.GuardedIdeal.τ).loc Cert.GuardedIdeal.main_arg2) = m ((c.tc : Thread Cert.GuardedIdeal.nD Cert.GuardedIdeal.τ).loc Cert.GuardedIdeal.main_arg2)
          ∧ r.2.mem ((c.tc : Thread Cert.GuardedIdeal.nD Cert.GuardedIdeal.τ).loc Cert.GuardedIdeal.main_arg3) = m ((c.tc : Thread Cert.GuardedIdeal.nD Cert.GuardedIdeal.τ).loc Cert.GuardedIdeal.main_arg3)
          ∧ r.2.mem ((c.tc : Thread Cert.GuardedIdeal.nD Cert.GuardedIdeal.τ).loc Cert.GuardedIdeal.main_arg4) = m ((c.tc : Thread Cert.GuardedIdeal.nD Cert.GuardedIdeal.τ).loc Cert.GuardedIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hGuarded : Cert.Guarded.Facts) (hGuardedIdeal : Cert.GuardedIdeal.Facts) (hReferenceIdeal : Cert.ReferenceIdeal.Facts) (hPre_scene : Cert.Pre_scene.Facts) (hOn_meets_1_to_7 : Cert.On_meets_1_to_7.Facts),
    quiescent_Kernel (hKernel := hKernel)
    ∧ quiescent_KernelIdeal (hKernelIdeal := hKernelIdeal)
    ∧ quiescent_KernelIdeal_pre_scene (hKernelIdeal := hKernelIdeal) (hPre_scene := hPre_scene)
    ∧ quiescent_Guarded (hGuarded := hGuarded)
    ∧ quiescent_GuardedIdeal (hGuardedIdeal := hGuardedIdeal)
    ∧ quiescent_GuardedIdeal_pre_scene (hGuardedIdeal := hGuardedIdeal) (hPre_scene := hPre_scene)
    ∧ quiescent_ReferenceIdeal (hReferenceIdeal := hReferenceIdeal)
    ∧ quiescent_ReferenceIdeal_pre_scene (hReferenceIdeal := hReferenceIdeal) (hPre_scene := hPre_scene)
    ∧ preserves_Kernel_KernelIdeal
    ∧ preserves_Guarded_GuardedIdeal
    ∧ algebraic_KernelIdeal_ReferenceIdeal_on_meets_1_to_7_pre_scene (hKernelIdeal := hKernelIdeal) (hReferenceIdeal := hReferenceIdeal) (hPre_scene := hPre_scene) (hOn_meets_1_to_7 := hOn_meets_1_to_7)
    ∧ algebraic_GuardedIdeal_ReferenceIdeal_pre_scene (hGuardedIdeal := hGuardedIdeal) (hReferenceIdeal := hReferenceIdeal) (hPre_scene := hPre_scene)
-- ==== On_meets_1_to_7.lean ====
abbrev S8x3 : Shape := ⟨2, ![8, 3]⟩
abbrev S8 : Shape := ⟨1, ![8]⟩
abbrev S3 : Shape := ⟨1, ![3]⟩
abbrev S1024 : Shape := ⟨1, ![1024]⟩
abbrev S_ : Shape := ⟨0, ![]⟩
abbrev S1x1024 : Shape := ⟨2, ![1, 1024]⟩
abbrev S1024x1 : Shape := ⟨2, ![1024, 1]⟩
abbrev S1024x1024 : Shape := ⟨2, ![1024, 1024]⟩
abbrev S1x1 : Shape := ⟨2, ![1, 1]⟩
abbrev S1 : Shape := ⟨1, ![1]⟩
abbrev S1024x1024x1 : Shape := ⟨3, ![1024, 1024, 1]⟩
abbrev S1024x1024x3 : Shape := ⟨3, ![1024, 1024, 3]⟩

class Facts : Prop where
  bcast_S_S1024 : S_.BroadcastsInDim S1024 (![] : Fin 0 → Fin S1024.rank)
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  slices_S8x3_S1x1_1_0 : S8x3.Slices ![1, 0] S1x1
  shapeCasts_S1x1_S_ : S1x1.ShapeCasts S_
  slices_S8x3_S1x1_1_1 : S8x3.Slices ![1, 1] S1x1
  slices_S8x3_S1x1_1_2 : S8x3.Slices ![1, 2] S1x1
  slices_S8_S1_1 : S8.Slices ![1] S1
  shapeCasts_S1_S_ : S1.ShapeCasts S_
  bcast_S_S1x1024 : S_.BroadcastsInDim S1x1024 (![] : Fin 0 → Fin S1x1024.rank)
  bcast_S_S1024x1 : S_.BroadcastsInDim S1024x1 (![] : Fin 0 → Fin S1024x1.rank)
  slices_S8x3_S1x1_2_0 : S8x3.Slices ![2, 0] S1x1
  slices_S8x3_S1x1_2_1 : S8x3.Slices ![2, 1] S1x1
  slices_S8x3_S1x1_2_2 : S8x3.Slices ![2, 2] S1x1
  slices_S8_S1_2 : S8.Slices ![2] S1
  slices_S8x3_S1x1_3_0 : S8x3.Slices ![3, 0] S1x1
  slices_S8x3_S1x1_3_1 : S8x3.Slices ![3, 1] S1x1
  slices_S8x3_S1x1_3_2 : S8x3.Slices ![3, 2] S1x1
  slices_S8_S1_3 : S8.Slices ![3] S1
  slices_S8x3_S1x1_4_0 : S8x3.Slices ![4, 0] S1x1
  slices_S8x3_S1x1_4_1 : S8x3.Slices ![4, 1] S1x1
  slices_S8x3_S1x1_4_2 : S8x3.Slices ![4, 2] S1x1
  slices_S8_S1_4 : S8.Slices ![4] S1
  slices_S8x3_S1x1_5_0 : S8x3.Slices ![5, 0] S1x1
  slices_S8x3_S1x1_5_1 : S8x3.Slices ![5, 1] S1x1
  slices_S8x3_S1x1_5_2 : S8x3.Slices ![5, 2] S1x1
  slices_S8_S1_5 : S8.Slices ![5] S1
  slices_S8x3_S1x1_6_0 : S8x3.Slices ![6, 0] S1x1
  slices_S8x3_S1x1_6_1 : S8x3.Slices ![6, 1] S1x1
  slices_S8x3_S1x1_6_2 : S8x3.Slices ![6, 2] S1x1
  slices_S8_S1_6 : S8.Slices ![6] S1
  slices_S8x3_S1x1_7_0 : S8x3.Slices ![7, 0] S1x1
  slices_S8x3_S1x1_7_1 : S8x3.Slices ![7, 1] S1x1
  slices_S8x3_S1x1_7_2 : S8x3.Slices ![7, 2] S1x1
  slices_S8_S1_7 : S8.Slices ![7] S1
  bcast_S1024x1024_S1024x1024x1_0_1 : S1024x1024.BroadcastsInDim S1024x1024x1 (![0, 1] : Fin 2 → Fin S1024x1024x1.rank)
  bcast_S1024x1024x1_S1024x1024x3_0_1_2 : S1024x1024x1.BroadcastsInDim S1024x1024x3 (![0, 1, 2] : Fin 3 → Fin S1024x1024x3.rank)

variable [Facts]

def fn_part11 {F : FTy → Type} [FloatOps F] (main_v22 : FVec F S1024x1024 .f32) (main_v215 : IVec S1024x1024 1) (main_v234 : FVec F S1024x1024 .f32) (main_v242 : FVec F S1024x1024 .f32) : IVec S1024x1024x3 1 :=
  let main_v243 : FVec F S1024x1024 .f32 := mulf main_v22 main_v242
  let main_v244 : FVec F S1024x1024 .f32 := subf main_v234 main_v243
  let main_cst_19 : FVec F S_ .f32 := constant S_ .f32 0x00000000#32
  let main_v245 : FVec F S1024x1024 .f32 := broadcastInDim S1024x1024 ![] bcast_S_S1024x1024 main_cst_19
  let main_v246 : IVec S1024x1024 1 := cmpf .oge main_v244 main_v245
  let main_v247 : IVec S1024x1024 1 := andi main_v215 main_v246
  let main_v248 : IVec S1024x1024x1 1 := broadcastInDim S1024x1024x1 ![0, 1] bcast_S1024x1024_S1024x1024x1_0_1 main_v247
  let main_v249 : IVec S1024x1024x3 1 := broadcastInDim S1024x1024x3 ![0, 1, 2] bcast_S1024x1024x1_S1024x1024x3_0_1_2 main_v248
  main_v249

def fn_part10 {F : FTy → Type} [FloatOps F] (main_arg0 : FVec F S8x3 .f32) (main_arg1 : FVec F S8 .f32) (main_v7 : FVec F S1x1024 .f32) (main_v15 : FVec F S1024x1 .f32) (main_v22 : FVec F S1024x1024 .f32) (main_v215 : IVec S1024x1024 1) (main_v217 : FVec F S_ .f32) (main_v219 : FVec F S_ .f32) : IVec S1024x1024x3 1 :=
  let main_v220 : FVec F S1x1 .f32 := (extractStridedSlice S1x1 ![7, 2] · slices_S8x3_S1x1_7_2) main_arg0
  let main_v221 : FVec F S_ .f32 := shapeCast S_ main_v220 shapeCasts_S1x1_S_
  let main_v222 : FVec F S1 .f32 := (extractStridedSlice S1 ![7] · slices_S8_S1_7) main_arg1
  let main_v223 : FVec F S_ .f32 := shapeCast S_ main_v222 shapeCasts_S1_S_
  let main_v224 : FVec F S1x1024 .f32 := broadcastInDim S1x1024 ![] bcast_S_S1x1024 main_v217
  let main_v225 : FVec F S1x1024 .f32 := mulf main_v7 main_v224
  let main_cst_18 : FVec F S_ .f32 := constant S_ .f32 0x40A00000#32
  let main_v226 : FVec F S_ .f32 := mulf main_cst_18 main_v219
  let main_v227 : FVec F S1x1024 .f32 := broadcastInDim S1x1024 ![] bcast_S_S1x1024 main_v226
  let main_v228 : FVec F S1x1024 .f32 := addf main_v225 main_v227
  let main_v229 : FVec F S1024x1 .f32 := broadcastInDim S1024x1 ![] bcast_S_S1024x1 main_v221
  let main_v230 : FVec F S1024x1 .f32 := mulf main_v15 main_v229
  let main_v231 : FVec F S1024x1024 .f32 := broadcastInDim S1024x1024 ![0, 1] bcast_S1x1024_S1024x1024_0_1 main_v228
  let main_v232 : FVec F S1024x1024 .f32 := broadcastInDim S1024x1024 ![0, 1] bcast_S1024x1_S1024x1024_0_1 main_v230
  let main_v233 : FVec F S1024x1024 .f32 := addf main_v231 main_v232
  let main_v234 : FVec F S1024x1024 .f32 := mulf main_v233 main_v233
  let main_v235 : FVec F S_ .f32 := mulf main_v217 main_v217
  let main_v236 : FVec F S_ .f32 := mulf main_v219 main_v219
  let main_v237 : FVec F S_ .f32 := addf main_v235 main_v236
  let main_v238 : FVec F S_ .f32 := mulf main_v221 main_v221
  let main_v239 : FVec F S_ .f32 := addf main_v237 main_v238
  let main_v240 : FVec F S_ .f32 := mulf main_v223 main_v223
  let main_v241 : FVec F S_ .f32 := subf main_v239 main_v240
  let main_v242 : FVec F S1024x1024 .f32 := broadcastInDim S1024x1024 ![] bcast_S_S1024x1024 main_v241
  fn_part11 (F := F) main_v22 main_v215 main_v234 main_v242

def fn_part9 {F : FTy → Type} [FloatOps F] (main_arg0 : FVec F S8x3 .f32) (main_arg1 : FVec F S8 .f32) (main_v7 : FVec F S1x1024 .f32) (main_v15 : FVec F S1024x1 .f32) (main_v22 : FVec F S1024x1024 .f32) (main_v183 : IVec S1024x1024 1) (main_v185 : FVec F S_ .f32) (main_v187 : FVec F S_ .f32) (main_v189 : FVec F S_ .f32) (main_v191 : FVec F S_ .f32) (main_v196 : FVec F S1x1024 .f32) : IVec S1024x1024x3 1 :=
  let main_v197 : FVec F S1024x1 .f32 := broadcastInDim S1024x1 ![] bcast_S_S1024x1 main_v189
  let main_v198 : FVec F S1024x1 .f32 := mulf main_v15 main_v197
  let main_v199 : FVec F S1024x1024 .f32 := broadcastInDim S1024x1024 ![0, 1] bcast_S1x1024_S1024x1024_0_1 main_v196
  let main_v200 : FVec F S1024x1024 .f32 := broadcastInDim S1024x1024 ![0, 1] bcast_S1024x1_S1024x1024_0_1 main_v198
  let main_v201 : FVec F S1024x1024 .f32 := addf main_v199 main_v200
  let main_v202 : FVec F S1024x1024 .f32 := mulf main_v201 main_v201
  let main_v203 : FVec F S_ .f32 := mulf main_v185 main_v185
  let main_v204 : FVec F S_ .f32 := mulf main_v187 main_v187
  let main_v205 : FVec F S_ .f32 := addf main_v203 main_v204
  let main_v206 : FVec F S_ .f32 := mulf main_v189 main_v189
  let main_v207 : FVec F S_ .f32 := addf main_v205 main_v206
  let main_v208 : FVec F S_ .f32 := mulf main_v191 main_v191
  let main_v209 : FVec F S_ .f32 := subf main_v207 main_v208
  let main_v210 : FVec F S1024x1024 .f32 := broadcastInDim S1024x1024 ![] bcast_S_S1024x1024 main_v209
  let main_v211 : FVec F S1024x1024 .f32 := mulf main_v22 main_v210
  let main_v212 : FVec F S1024x1024 .f32 := subf main_v202 main_v211
  let main_cst_17 : FVec F S_ .f32 := constant S_ .f32 0x00000000#32
  let main_v213 : FVec F S1024x1024 .f32 := broadcastInDim S1024x1024 ![] bcast_S_S1024x1024 main_cst_17
  let main_v214 : IVec S1024x1024 1 := cmpf .oge main_v212 main_v213
  let main_v215 : IVec S1024x1024 1 := andi main_v183 main_v214
  let main_v216 : FVec F S1x1 .f32 := (extractStridedSlice S1x1 ![7, 0] · slices_S8x3_S1x1_7_0) main_arg0
  let main_v217 : FVec F S_ .f32 := shapeCast S_ main_v216 shapeCasts_S1x1_S_
  let main_v218 : FVec F S1x1 .f32 := (extractStridedSlice S1x1 ![7, 1] · slices_S8x3_S1x1_7_1) main_arg0
  let main_v219 : FVec F S_ .f32 := shapeCast S_ main_v218 shapeCasts_S1x1_S_
  fn_part10 (F := F) main_arg0 main_arg1 main_v7 main_v15 main_v22 main_v215 main_v217 main_v219

def fn_part8 {F : FTy → Type} [FloatOps F] (main_arg0 : FVec F S8x3 .f32) (main_arg1 : FVec F S8 .f32) (main_v7 : FVec F S1x1024 .f32) (main_v15 : FVec F S1024x1 .f32) (main_v22 : FVec F S1024x1024 .f32) (main_v151 : IVec S1024x1024 1) (main_v159 : FVec F S_ .f32) (main_v170 : FVec F S1024x1024 .f32) (main_v173 : FVec F S_ .f32) (main_v174 : FVec F S_ .f32) : IVec S1024x1024x3 1 :=
  let main_v175 : FVec F S_ .f32 := addf main_v173 main_v174
  let main_v176 : FVec F S_ .f32 := mulf main_v159 main_v159
  let main_v177 : FVec F S_ .f32 := subf main_v175 main_v176
  let main_v178 : FVec F S1024x1024 .f32 := broadcastInDim S1024x1024 ![] bcast_S_S1024x1024 main_v177
  let main_v179 : FVec F S1024x1024 .f32 := mulf main_v22 main_v178
  let main_v180 : FVec F S1024x1024 .f32 := subf main_v170 main_v179
  let main_cst_15 : FVec F S_ .f32 := constant S_ .f32 0x00000000#32
  let main_v181 : FVec F S1024x1024 .f32 := broadcastInDim S1024x1024 ![] bcast_S_S1024x1024 main_cst_15
  let main_v182 : IVec S1024x1024 1 := cmpf .oge main_v180 main_v181
  let main_v183 : IVec S1024x1024 1 := andi main_v151 main_v182
  let main_v184 : FVec F S1x1 .f32 := (extractStridedSlice S1x1 ![6, 0] · slices_S8x3_S1x1_6_0) main_arg0
  let main_v185 : FVec F S_ .f32 := shapeCast S_ main_v184 shapeCasts_S1x1_S_
  let main_v186 : FVec F S1x1 .f32 := (extractStridedSlice S1x1 ![6, 1] · slices_S8x3_S1x1_6_1) main_arg0
  let main_v187 : FVec F S_ .f32 := shapeCast S_ main_v186 shapeCasts_S1x1_S_
  let main_v188 : FVec F S1x1 .f32 := (extractStridedSlice S1x1 ![6, 2] · slices_S8x3_S1x1_6_2) main_arg0
  let main_v189 : FVec F S_ .f32 := shapeCast S_ main_v188 shapeCasts_S1x1_S_
  let main_v190 : FVec F S1 .f32 := (extractStridedSlice S1 ![6] · slices_S8_S1_6) main_arg1
  let main_v191 : FVec F S_ .f32 := shapeCast S_ main_v190 shapeCasts_S1_S_
  let main_v192 : FVec F S1x1024 .f32 := broadcastInDim S1x1024 ![] bcast_S_S1x1024 main_v185
  let main_v193 : FVec F S1x1024 .f32 := mulf main_v7 main_v192
  let main_cst_16 : FVec F S_ .f32 := constant S_ .f32 0x40A00000#32
  let main_v194 : FVec F S_ .f32 := mulf main_cst_16 main_v187
  let main_v195 : FVec F S1x1024 .f32 := broadcastInDim S1x1024 ![] bcast_S_S1x1024 main_v194
  let main_v196 : FVec F S1x1024 .f32 := addf main_v193 main_v195
  fn_part9 (F := F) main_arg0 main_arg1 main_v7 main_v15 main_v22 main_v183 main_v185 main_v187 main_v189 main_v191 main_v196

def fn_part7 {F : FTy → Type} [FloatOps F] (main_arg0 : FVec F S8x3 .f32) (main_arg1 : FVec F S8 .f32) (main_v7 : FVec F S1x1024 .f32) (main_v15 : FVec F S1024x1 .f32) (main_v22 : FVec F S1024x1024 .f32) (main_v151 : IVec S1024x1024 1) : IVec S1024x1024x3 1 :=
  let main_v152 : FVec F S1x1 .f32 := (extractStridedSlice S1x1 ![5, 0] · slices_S8x3_S1x1_5_0) main_arg0
  let main_v153 : FVec F S_ .f32 := shapeCast S_ main_v152 shapeCasts_S1x1_S_
  let main_v154 : FVec F S1x1 .f32 := (extractStridedSlice S1x1 ![5, 1] · slices_S8x3_S1x1_5_1) main_arg0
  let main_v155 : FVec F S_ .f32 := shapeCast S_ main_v154 shapeCasts_S1x1_S_
  let main_v156 : FVec F S1x1 .f32 := (extractStridedSlice S1x1 ![5, 2] · slices_S8x3_S1x1_5_2) main_arg0
  let main_v157 : FVec F S_ .f32 := shapeCast S_ main_v156 shapeCasts_S1x1_S_
  let main_v158 : FVec F S1 .f32 := (extractStridedSlice S1 ![5] · slices_S8_S1_5) main_arg1
  let main_v159 : FVec F S_ .f32 := shapeCast S_ main_v158 shapeCasts_S1_S_
  let main_v160 : FVec F S1x1024 .f32 := broadcastInDim S1x1024 ![] bcast_S_S1x1024 main_v153
  let main_v161 : FVec F S1x1024 .f32 := mulf main_v7 main_v160
  let main_cst_14 : FVec F S_ .f32 := constant S_ .f32 0x40A00000#32
  let main_v162 : FVec F S_ .f32 := mulf main_cst_14 main_v155
  let main_v163 : FVec F S1x1024 .f32 := broadcastInDim S1x1024 ![] bcast_S_S1x1024 main_v162
  let main_v164 : FVec F S1x1024 .f32 := addf main_v161 main_v163
  let main_v165 : FVec F S1024x1 .f32 := broadcastInDim S1024x1 ![] bcast_S_S1024x1 main_v157
  let main_v166 : FVec F S1024x1 .f32 := mulf main_v15 main_v165
  let main_v167 : FVec F S1024x1024 .f32 := broadcastInDim S1024x1024 ![0, 1] bcast_S1x1024_S1024x1024_0_1 main_v164
  let main_v168 : FVec F S1024x1024 .f32 := broadcastInDim S1024x1024 ![0, 1] bcast_S1024x1_S1024x1024_0_1 main_v166
  let main_v169 : FVec F S1024x1024 .f32 := addf main_v167 main_v168
  let main_v170 : FVec F S1024x1024 .f32 := mulf main_v169 main_v169
  let main_v171 : FVec F S_ .f32 := mulf main_v153 main_v153
  let main_v172 : FVec F S_ .f32 := mulf main_v155 main_v155
  let main_v173 : FVec F S_ .f32 := addf main_v171 main_v172
  let main_v174 : FVec F S_ .f32 := mulf main_v157 main_v157
  fn_part8 (F := F) main_arg0 main_arg1 main_v7 main_v15 main_v22 main_v151 main_v159 main_v170 main_v173 main_v174

def fn_part6 {F : FTy → Type} [FloatOps F] (main_arg0 : FVec F S8x3 .f32) (main_arg1 : FVec F S8 .f32) (main_v7 : FVec F S1x1024 .f32) (main_v15 : FVec F S1024x1 .f32) (main_v22 : FVec F S1024x1024 .f32) (main_v119 : IVec S1024x1024 1) (main_v121 : FVec F S_ .f32) (main_v123 : FVec F S_ .f32) (main_v125 : FVec F S_ .f32) (main_v127 : FVec F S_ .f32) (main_v129 : FVec F S1x1024 .f32) : IVec S1024x1024x3 1 :=
  let main_cst_12 : FVec F S_ .f32 := constant S_ .f32 0x40A00000#32
  let main_v130 : FVec F S_ .f32 := mulf main_cst_12 main_v123
  let main_v131 : FVec F S1x1024 .f32 := broadcastInDim S1x1024 ![] bcast_S_S1x1024 main_v130
  let main_v132 : FVec F S1x1024 .f32 := addf main_v129 main_v131
  let main_v133 : FVec F S1024x1 .f32 := broadcastInDim S1024x1 ![] bcast_S_S1024x1 main_v125
  let main_v134 : FVec F S1024x1 .f32 := mulf main_v15 main_v133
  let main_v135 : FVec F S1024x1024 .f32 := broadcastInDim S1024x1024 ![0, 1] bcast_S1x1024_S1024x1024_0_1 main_v132
  let main_v136 : FVec F S1024x1024 .f32 := broadcastInDim S1024x1024 ![0, 1] bcast_S1024x1_S1024x1024_0_1 main_v134
  let main_v137 : FVec F S1024x1024 .f32 := addf main_v135 main_v136
  let main_v138 : FVec F S1024x1024 .f32 := mulf main_v137 main_v137
  let main_v139 : FVec F S_ .f32 := mulf main_v121 main_v121
  let main_v140 : FVec F S_ .f32 := mulf main_v123 main_v123
  let main_v141 : FVec F S_ .f32 := addf main_v139 main_v140
  let main_v142 : FVec F S_ .f32 := mulf main_v125 main_v125
  let main_v143 : FVec F S_ .f32 := addf main_v141 main_v142
  let main_v144 : FVec F S_ .f32 := mulf main_v127 main_v127
  let main_v145 : FVec F S_ .f32 := subf main_v143 main_v144
  let main_v146 : FVec F S1024x1024 .f32 := broadcastInDim S1024x1024 ![] bcast_S_S1024x1024 main_v145
  let main_v147 : FVec F S1024x1024 .f32 := mulf main_v22 main_v146
  let main_v148 : FVec F S1024x1024 .f32 := subf main_v138 main_v147
  let main_cst_13 : FVec F S_ .f32 := constant S_ .f32 0x00000000#32
  let main_v149 : FVec F S1024x1024 .f32 := broadcastInDim S1024x1024 ![] bcast_S_S1024x1024 main_cst_13
  let main_v150 : IVec S1024x1024 1 := cmpf .oge main_v148 main_v149
  let main_v151 : IVec S1024x1024 1 := andi main_v119 main_v150
  fn_part7 (F := F) main_arg0 main_arg1 main_v7 main_v15 main_v22 main_v151

def fn_part5 {F : FTy → Type} [FloatOps F] (main_arg0 : FVec F S8x3 .f32) (main_arg1 : FVec F S8 .f32) (main_v7 : FVec F S1x1024 .f32) (main_v15 : FVec F S1024x1 .f32) (main_v22 : FVec F S1024x1024 .f32) (main_v87 : IVec S1024x1024 1) (main_v89 : FVec F S_ .f32) (main_v91 : FVec F S_ .f32) (main_v93 : FVec F S_ .f32) (main_v95 : FVec F S_ .f32) (main_v106 : FVec F S1024x1024 .f32) : IVec S1024x1024x3 1 :=
  let main_v107 : FVec F S_ .f32 := mulf main_v89 main_v89
  let main_v108 : FVec F S_ .f32 := mulf main_v91 main_v91
  let main_v109 : FVec F S_ .f32 := addf main_v107 main_v108
  let main_v110 : FVec F S_ .f32 := mulf main_v93 main_v93
  let main_v111 : FVec F S_ .f32 := addf main_v109 main_v110
  let main_v112 : FVec F S_ .f32 := mulf main_v95 main_v95
  let main_v113 : FVec F S_ .f32 := subf main_v111 main_v112
  let main_v114 : FVec F S1024x1024 .f32 := broadcastInDim S1024x1024 ![] bcast_S_S1024x1024 main_v113
  let main_v115 : FVec F S1024x1024 .f32 := mulf main_v22 main_v114
  let main_v116 : FVec F S1024x1024 .f32 := subf main_v106 main_v115
  let main_cst_11 : FVec F S_ .f32 := constant S_ .f32 0x00000000#32
  let main_v117 : FVec F S1024x1024 .f32 := broadcastInDim S1024x1024 ![] bcast_S_S1024x1024 main_cst_11
  let main_v118 : IVec S1024x1024 1 := cmpf .oge main_v116 main_v117
  let main_v119 : IVec S1024x1024 1 := andi main_v87 main_v118
  let main_v120 : FVec F S1x1 .f32 := (extractStridedSlice S1x1 ![4, 0] · slices_S8x3_S1x1_4_0) main_arg0
  let main_v121 : FVec F S_ .f32 := shapeCast S_ main_v120 shapeCasts_S1x1_S_
  let main_v122 : FVec F S1x1 .f32 := (extractStridedSlice S1x1 ![4, 1] · slices_S8x3_S1x1_4_1) main_arg0
  let main_v123 : FVec F S_ .f32 := shapeCast S_ main_v122 shapeCasts_S1x1_S_
  let main_v124 : FVec F S1x1 .f32 := (extractStridedSlice S1x1 ![4, 2] · slices_S8x3_S1x1_4_2) main_arg0
  let main_v125 : FVec F S_ .f32 := shapeCast S_ main_v124 shapeCasts_S1x1_S_
  let main_v126 : FVec F S1 .f32 := (extractStridedSlice S1 ![4] · slices_S8_S1_4) main_arg1
  let main_v127 : FVec F S_ .f32 := shapeCast S_ main_v126 shapeCasts_S1_S_
  let main_v128 : FVec F S1x1024 .f32 := broadcastInDim S1x1024 ![] bcast_S_S1x1024 main_v121
  let main_v129 : FVec F S1x1024 .f32 := mulf main_v7 main_v128
  fn_part6 (F := F) main_arg0 main_arg1 main_v7 main_v15 main_v22 main_v119 main_v121 main_v123 main_v125 main_v127 main_v129

def fn_part4 {F : FTy → Type} [FloatOps F] (main_arg0 : FVec F S8x3 .f32) (main_arg1 : FVec F S8 .f32) (main_v7 : FVec F S1x1024 .f32) (main_v15 : FVec F S1024x1 .f32) (main_v22 : FVec F S1024x1024 .f32) (main_v55 : IVec S1024x1024 1) (main_v84 : FVec F S1024x1024 .f32) : IVec S1024x1024x3 1 :=
  let main_cst_9 : FVec F S_ .f32 := constant S_ .f32 0x00000000#32
  let main_v85 : FVec F S1024x1024 .f32 := broadcastInDim S1024x1024 ![] bcast_S_S1024x1024 main_cst_9
  let main_v86 : IVec S1024x1024 1 := cmpf .oge main_v84 main_v85
  let main_v87 : IVec S1024x1024 1 := andi main_v55 main_v86
  let main_v88 : FVec F S1x1 .f32 := (extractStridedSlice S1x1 ![3, 0] · slices_S8x3_S1x1_3_0) main_arg0
  let main_v89 : FVec F S_ .f32 := shapeCast S_ main_v88 shapeCasts_S1x1_S_
  let main_v90 : FVec F S1x1 .f32 := (extractStridedSlice S1x1 ![3, 1] · slices_S8x3_S1x1_3_1) main_arg0
  let main_v91 : FVec F S_ .f32 := shapeCast S_ main_v90 shapeCasts_S1x1_S_
  let main_v92 : FVec F S1x1 .f32 := (extractStridedSlice S1x1 ![3, 2] · slices_S8x3_S1x1_3_2) main_arg0
  let main_v93 : FVec F S_ .f32 := shapeCast S_ main_v92 shapeCasts_S1x1_S_
  let main_v94 : FVec F S1 .f32 := (extractStridedSlice S1 ![3] · slices_S8_S1_3) main_arg1
  let main_v95 : FVec F S_ .f32 := shapeCast S_ main_v94 shapeCasts_S1_S_
  let main_v96 : FVec F S1x1024 .f32 := broadcastInDim S1x1024 ![] bcast_S_S1x1024 main_v89
  let main_v97 : FVec F S1x1024 .f32 := mulf main_v7 main_v96
  let main_cst_10 : FVec F S_ .f32 := constant S_ .f32 0x40A00000#32
  let main_v98 : FVec F S_ .f32 := mulf main_cst_10 main_v91
  let main_v99 : FVec F S1x1024 .f32 := broadcastInDim S1x1024 ![] bcast_S_S1x1024 main_v98
  let main_v100 : FVec F S1x1024 .f32 := addf main_v97 main_v99
  let main_v101 : FVec F S1024x1 .f32 := broadcastInDim S1024x1 ![] bcast_S_S1024x1 main_v93
  let main_v102 : FVec F S1024x1 .f32 := mulf main_v15 main_v101
  let main_v103 : FVec F S1024x1024 .f32 := broadcastInDim S1024x1024 ![0, 1] bcast_S1x1024_S1024x1024_0_1 main_v100
  let main_v104 : FVec F S1024x1024 .f32 := broadcastInDim S1024x1024 ![0, 1] bcast_S1024x1_S1024x1024_0_1 main_v102
  let main_v105 : FVec F S1024x1024 .f32 := addf main_v103 main_v104
  let main_v106 : FVec F S1024x1024 .f32 := mulf main_v105 main_v105
  fn_part5 (F := F) main_arg0 main_arg1 main_v7 main_v15 main_v22 main_v87 main_v89 main_v91 main_v93 main_v95 main_v106

def fn_part3 {F : FTy → Type} [FloatOps F] (main_arg0 : FVec F S8x3 .f32) (main_arg1 : FVec F S8 .f32) (main_v7 : FVec F S1x1024 .f32) (main_v15 : FVec F S1024x1 .f32) (main_v22 : FVec F S1024x1024 .f32) (main_v55 : IVec S1024x1024 1) (main_v57 : FVec F S_ .f32) (main_v59 : FVec F S_ .f32) (main_v61 : FVec F S_ .f32) : IVec S1024x1024x3 1 :=
  let main_v62 : FVec F S1 .f32 := (extractStridedSlice S1 ![2] · slices_S8_S1_2) main_arg1
  let main_v63 : FVec F S_ .f32 := shapeCast S_ main_v62 shapeCasts_S1_S_
  let main_v64 : FVec F S1x1024 .f32 := broadcastInDim S1x1024 ![] bcast_S_S1x1024 main_v57
  let main_v65 : FVec F S1x1024 .f32 := mulf main_v7 main_v64
  let main_cst_8 : FVec F S_ .f32 := constant S_ .f32 0x40A00000#32
  let main_v66 : FVec F S_ .f32 := mulf main_cst_8 main_v59
  let main_v67 : FVec F S1x1024 .f32 := broadcastInDim S1x1024 ![] bcast_S_S1x1024 main_v66
  let main_v68 : FVec F S1x1024 .f32 := addf main_v65 main_v67
  let main_v69 : FVec F S1024x1 .f32 := broadcastInDim S1024x1 ![] bcast_S_S1024x1 main_v61
  let main_v70 : FVec F S1024x1 .f32 := mulf main_v15 main_v69
  let main_v71 : FVec F S1024x1024 .f32 := broadcastInDim S1024x1024 ![0, 1] bcast_S1x1024_S1024x1024_0_1 main_v68
  let main_v72 : FVec F S1024x1024 .f32 := broadcastInDim S1024x1024 ![0, 1] bcast_S1024x1_S1024x1024_0_1 main_v70
  let main_v73 : FVec F S1024x1024 .f32 := addf main_v71 main_v72
  let main_v74 : FVec F S1024x1024 .f32 := mulf main_v73 main_v73
  let main_v75 : FVec F S_ .f32 := mulf main_v57 main_v57
  let main_v76 : FVec F S_ .f32 := mulf main_v59 main_v59
  let main_v77 : FVec F S_ .f32 := addf main_v75 main_v76
  let main_v78 : FVec F S_ .f32 := mulf main_v61 main_v61
  let main_v79 : FVec F S_ .f32 := addf main_v77 main_v78
  let main_v80 : FVec F S_ .f32 := mulf main_v63 main_v63
  let main_v81 : FVec F S_ .f32 := subf main_v79 main_v80
  let main_v82 : FVec F S1024x1024 .f32 := broadcastInDim S1024x1024 ![] bcast_S_S1024x1024 main_v81
  let main_v83 : FVec F S1024x1024 .f32 := mulf main_v22 main_v82
  let main_v84 : FVec F S1024x1024 .f32 := subf main_v74 main_v83
  fn_part4 (F := F) main_arg0 main_arg1 main_v7 main_v15 main_v22 main_v55 main_v84

def fn_part2 {F : FTy → Type} [FloatOps F] (main_arg0 : FVec F S8x3 .f32) (main_arg1 : FVec F S8 .f32) (main_v7 : FVec F S1x1024 .f32) (main_v15 : FVec F S1024x1 .f32) (main_v22 : FVec F S1024x1024 .f32) (main_v23 : IVec S1024x1024 1) (main_v25 : FVec F S_ .f32) (main_v27 : FVec F S_ .f32) (main_v29 : FVec F S_ .f32) (main_v31 : FVec F S_ .f32) (main_v36 : FVec F S1x1024 .f32) (main_v38 : FVec F S1024x1 .f32) : IVec S1024x1024x3 1 :=
  let main_v39 : FVec F S1024x1024 .f32 := broadcastInDim S1024x1024 ![0, 1] bcast_S1x1024_S1024x1024_0_1 main_v36
  let main_v40 : FVec F S1024x1024 .f32 := broadcastInDim S1024x1024 ![0, 1] bcast_S1024x1_S1024x1024_0_1 main_v38
  let main_v41 : FVec F S1024x1024 .f32 := addf main_v39 main_v40
  let main_v42 : FVec F S1024x1024 .f32 := mulf main_v41 main_v41
  let main_v43 : FVec F S_ .f32 := mulf main_v25 main_v25
  let main_v44 : FVec F S_ .f32 := mulf main_v27 main_v27
  let main_v45 : FVec F S_ .f32 := addf main_v43 main_v44
  let main_v46 : FVec F S_ .f32 := mulf main_v29 main_v29
  let main_v47 : FVec F S_ .f32 := addf main_v45 main_v46
  let main_v48 : FVec F S_ .f32 := mulf main_v31 main_v31
  let main_v49 : FVec F S_ .f32 := subf main_v47 main_v48
  let main_v50 : FVec F S1024x1024 .f32 := broadcastInDim S1024x1024 ![] bcast_S_S1024x1024 main_v49
  let main_v51 : FVec F S1024x1024 .f32 := mulf main_v22 main_v50
  let main_v52 : FVec F S1024x1024 .f32 := subf main_v42 main_v51
  let main_cst_7 : FVec F S_ .f32 := constant S_ .f32 0x00000000#32
  let main_v53 : FVec F S1024x1024 .f32 := broadcastInDim S1024x1024 ![] bcast_S_S1024x1024 main_cst_7
  let main_v54 : IVec S1024x1024 1 := cmpf .oge main_v52 main_v53
  let main_v55 : IVec S1024x1024 1 := andi main_v23 main_v54
  let main_v56 : FVec F S1x1 .f32 := (extractStridedSlice S1x1 ![2, 0] · slices_S8x3_S1x1_2_0) main_arg0
  let main_v57 : FVec F S_ .f32 := shapeCast S_ main_v56 shapeCasts_S1x1_S_
  let main_v58 : FVec F S1x1 .f32 := (extractStridedSlice S1x1 ![2, 1] · slices_S8x3_S1x1_2_1) main_arg0
  let main_v59 : FVec F S_ .f32 := shapeCast S_ main_v58 shapeCasts_S1x1_S_
  let main_v60 : FVec F S1x1 .f32 := (extractStridedSlice S1x1 ![2, 2] · slices_S8x3_S1x1_2_2) main_arg0
  let main_v61 : FVec F S_ .f32 := shapeCast S_ main_v60 shapeCasts_S1x1_S_
  fn_part3 (F := F) main_arg0 main_arg1 main_v7 main_v15 main_v22 main_v55 main_v57 main_v59 main_v61

def fn_part1 {F : FTy → Type} [FloatOps F] (main_arg0 : FVec F S8x3 .f32) (main_arg1 : FVec F S8 .f32) (main_v7 : FVec F S1x1024 .f32) (main_v15 : FVec F S1024x1 .f32) (main_v16 : FVec F S1x1024 .f32) (main_v17 : FVec F S1024x1 .f32) : IVec S1024x1024x3 1 :=
  let main_v18 : FVec F S1024x1024 .f32 := broadcastInDim S1024x1024 ![0, 1] bcast_S1x1024_S1024x1024_0_1 main_v16
  let main_v19 : FVec F S1024x1024 .f32 := broadcastInDim S1024x1024 ![0, 1] bcast_S1024x1_S1024x1024_0_1 main_v17
  let main_v20 : FVec F S1024x1024 .f32 := addf main_v18 main_v19
  let main_cst_5 : FVec F S_ .f32 := constant S_ .f32 0x41C80000#32
  let main_v21 : FVec F S1024x1024 .f32 := broadcastInDim S1024x1024 ![] bcast_S_S1024x1024 main_cst_5
  let main_v22 : FVec F S1024x1024 .f32 := addf main_v20 main_v21
  let main_c : IVec S_ 1 := constantI S_ 1 1#1
  let main_v23 : IVec S1024x1024 1 := broadcastInDim S1024x1024 ![] bcast_S_S1024x1024 main_c
  let main_v24 : FVec F S1x1 .f32 := (extractStridedSlice S1x1 ![1, 0] · slices_S8x3_S1x1_1_0) main_arg0
  let main_v25 : FVec F S_ .f32 := shapeCast S_ main_v24 shapeCasts_S1x1_S_
  let main_v26 : FVec F S1x1 .f32 := (extractStridedSlice S1x1 ![1, 1] · slices_S8x3_S1x1_1_1) main_arg0
  let main_v27 : FVec F S_ .f32 := shapeCast S_ main_v26 shapeCasts_S1x1_S_
  let main_v28 : FVec F S1x1 .f32 := (extractStridedSlice S1x1 ![1, 2] · slices_S8x3_S1x1_1_2) main_arg0
  let main_v29 : FVec F S_ .f32 := shapeCast S_ main_v28 shapeCasts_S1x1_S_
  let main_v30 : FVec F S1 .f32 := (extractStridedSlice S1 ![1] · slices_S8_S1_1) main_arg1
  let main_v31 : FVec F S_ .f32 := shapeCast S_ main_v30 shapeCasts_S1_S_
  let main_v32 : FVec F S1x1024 .f32 := broadcastInDim S1x1024 ![] bcast_S_S1x1024 main_v25
  let main_v33 : FVec F S1x1024 .f32 := mulf main_v7 main_v32
  let main_cst_6 : FVec F S_ .f32 := constant S_ .f32 0x40A00000#32
  let main_v34 : FVec F S_ .f32 := mulf main_cst_6 main_v27
  let main_v35 : FVec F S1x1024 .f32 := broadcastInDim S1x1024 ![] bcast_S_S1x1024 main_v34
  let main_v36 : FVec F S1x1024 .f32 := addf main_v33 main_v35
  let main_v37 : FVec F S1024x1 .f32 := broadcastInDim S1024x1 ![] bcast_S_S1024x1 main_v29
  let main_v38 : FVec F S1024x1 .f32 := mulf main_v15 main_v37
  fn_part2 (F := F) main_arg0 main_arg1 main_v7 main_v15 main_v22 main_v23 main_v25 main_v27 main_v29 main_v31 main_v36 main_v38

def fn {F : FTy → Type} [FloatOps F] (main_arg0 : FVec F S8x3 .f32) (main_arg1 : FVec F S8 .f32) (main_arg2 : FVec F S8x3 .f32) (main_arg3 : FVec F S3 .f32) (main_arg4 : FVec F S3 .f32) : IVec S1024x1024x3 1 :=
  let main_v0 : FVec F S1024 .f32 := sitofp .f32 (iotaInDim S1024 32 0)
  let main_cst : FVec F S_ .f32 := constant S_ .f32 0x40000000#32
  let main_v1 : FVec F S1024 .f32 := broadcastInDim S1024 ![] bcast_S_S1024 main_cst
  let main_v2 : FVec F S1024 .f32 := mulf main_v0 main_v1
  let main_cst_0 : FVec F S_ .f32 := constant S_ .f32 0x447FC000#32
  let main_v3 : FVec F S1024 .f32 := broadcastInDim S1024 ![] bcast_S_S1024 main_cst_0
  let main_v4 : FVec F S1024 .f32 := Host.divf main_v2 main_v3
  let main_cst_1 : FVec F S_ .f32 := constant S_ .f32 0x3F800000#32
  let main_v5 : FVec F S1024 .f32 := broadcastInDim S1024 ![] bcast_S_S1024 main_cst_1
  let main_v6 : FVec F S1024 .f32 := subf main_v4 main_v5
  let main_v7 : FVec F S1x1024 .f32 := broadcastInDim S1x1024 ![1] bcast_S1024_S1x1024_1 main_v6
  let main_v8 : FVec F S1024 .f32 := sitofp .f32 (iotaInDim S1024 32 0)
  let main_cst_2 : FVec F S_ .f32 := constant S_ .f32 0x40000000#32
  let main_v9 : FVec F S1024 .f32 := broadcastInDim S1024 ![] bcast_S_S1024 main_cst_2
  let main_v10 : FVec F S1024 .f32 := mulf main_v8 main_v9
  let main_cst_3 : FVec F S_ .f32 := constant S_ .f32 0x447FC000#32
  let main_v11 : FVec F S1024 .f32 := broadcastInDim S1024 ![] bcast_S_S1024 main_cst_3
  let main_v12 : FVec F S1024 .f32 := Host.divf main_v10 main_v11
  let main_cst_4 : FVec F S_ .f32 := constant S_ .f32 0x3F800000#32
  let main_v13 : FVec F S1024 .f32 := broadcastInDim S1024 ![] bcast_S_S1024 main_cst_4
  let main_v14 : FVec F S1024 .f32 := subf main_v13 main_v12
  let main_v15 : FVec F S1024x1 .f32 := broadcastInDim S1024x1 ![0] bcast_S1024_S1024x1_0 main_v14
  let main_v16 : FVec F S1x1024 .f32 := mulf main_v7 main_v7
  let main_v17 : FVec F S1024x1 .f32 := mulf main_v15 main_v15
  fn_part1 (F := F) main_arg0 main_arg1 main_v7 main_v15 main_v16 main_v17
-- ==== Pre_scene.lean ====
abbrev S8x3 : Shape := ⟨2, ![8, 3]⟩
abbrev S8 : Shape := ⟨1, ![8]⟩
abbrev S3 : Shape := ⟨1, ![3]⟩
abbrev S_ : Shape := ⟨0, ![]⟩
abbrev S1x3 : Shape := ⟨2, ![1, 3]⟩

class Facts : Prop where
  reducesTo_S8x3_S8_d1 : S8x3.ReducesTo [1] S8
  h_S_ : 0 < S_.numel
  bcast_S3_S1x3_1 : S3.BroadcastsInDim S1x3 (![1] : Fin 1 → Fin S1x3.rank)
  bcast_S1x3_S8x3_0_1 : S1x3.BroadcastsInDim S8x3 (![0, 1] : Fin 2 → Fin S8x3.rank)
  bcast_S_S8 : S_.BroadcastsInDim S8 (![] : Fin 0 → Fin S8.rank)

variable [Facts]

def fn_part1 {F : FTy → Type} [FloatOps F] (main_v0 : FVec F S8 .f32) (main_v9 : FVec F S8 .f32) (main_v17 : IVec S8 1) (main_v18 : FVec F S8 .f32) : IVec S8 1 :=
  let main_v19 : FVec F S8 .f32 := Host.absf main_v18
  let main_cst_4 : FVec F S_ .f32 := constant S_ .f32 0x2B8CBCCC#32
  let main_v20 : FVec F S8 .f32 := broadcastInDim S8 ![] bcast_S_S8 main_cst_4
  let main_v21 : IVec S8 1 := cmpf .oge main_v19 main_v20
  let main_v22 : IVec S8 1 := andi main_v17 main_v21
  let main_v23 : FVec F S8 .f32 := subf main_v9 main_v0
  let main_v24 : FVec F S8 .f32 := Host.absf main_v23
  let main_cst_5 : FVec F S_ .f32 := constant S_ .f32 0x2B8CBCCC#32
  let main_v25 : FVec F S8 .f32 := broadcastInDim S8 ![] bcast_S_S8 main_cst_5
  let main_v26 : IVec S8 1 := cmpf .oge main_v24 main_v25
  let main_v27 : IVec S8 1 := andi main_v22 main_v26
  main_v27

def fn {F : FTy → Type} [FloatOps F] (main_arg0 : FVec F S8x3 .f32) (main_arg1 : FVec F S8 .f32) (main_arg2 : FVec F S8x3 .f32) (main_arg3 : FVec F S3 .f32) (main_arg4 : FVec F S3 .f32) : IVec S8 1 :=
  let main_v0 : FVec F S8 .f32 := Host.absf main_arg1
  let main_v1 : FVec F S8x3 .f32 := mulf main_arg0 main_arg0
  let main_cst : FVec F S_ .f32 := constant S_ .f32 0x00000000#32
  let main_v2 : FVec F S8 .f32 := (fun x v => Host.reduceAdd x v reducesTo_S8x3_S8_d1 h_S_) main_v1 main_cst
  let main_v3 : FVec F S8 .f32 := Host.sqrt main_v2
  let main_v4 : FVec F S1x3 .f32 := broadcastInDim S1x3 ![1] bcast_S3_S1x3_1 main_arg3
  let main_v5 : FVec F S8x3 .f32 := broadcastInDim S8x3 ![0, 1] bcast_S1x3_S8x3_0_1 main_v4
  let main_v6 : FVec F S8x3 .f32 := subf main_v5 main_arg0
  let main_v7 : FVec F S8x3 .f32 := mulf main_v6 main_v6
  let main_cst_0 : FVec F S_ .f32 := constant S_ .f32 0x00000000#32
  let main_v8 : FVec F S8 .f32 := (fun x v => Host.reduceAdd x v reducesTo_S8x3_S8_d1 h_S_) main_v7 main_cst_0
  let main_v9 : FVec F S8 .f32 := Host.sqrt main_v8
  let main_cst_1 : FVec F S_ .f32 := constant S_ .f32 0x7F800000#32
  let main_v10 : FVec F S8 .f32 := broadcastInDim S8 ![] bcast_S_S8 main_cst_1
  let main_v11 : IVec S8 1 := cmpf .olt main_v0 main_v10
  let main_cst_2 : FVec F S_ .f32 := constant S_ .f32 0x00000000#32
  let main_v12 : FVec F S8 .f32 := broadcastInDim S8 ![] bcast_S_S8 main_cst_2
  let main_v13 : IVec S8 1 := cmpf .oeq main_v0 main_v12
  let main_cst_3 : FVec F S_ .f32 := constant S_ .f32 0x2B8CBCCC#32
  let main_v14 : FVec F S8 .f32 := broadcastInDim S8 ![] bcast_S_S8 main_cst_3
  let main_v15 : IVec S8 1 := cmpf .oge main_v0 main_v14
  let main_v16 : IVec S8 1 := ori main_v13 main_v15
  let main_v17 : IVec S8 1 := andi main_v11 main_v16
  let main_v18 : FVec F S8 .f32 := subf main_v3 main_v0
  fn_part1 (F := F) main_v0 main_v9 main_v17 main_v18
-- ==== Kernel.lean ====
abbrev S8x3 : Shape := ⟨2, ![8, 3]⟩
abbrev S8 : Shape := ⟨1, ![8]⟩
abbrev S3 : Shape := ⟨1, ![3]⟩
abbrev S_ : Shape := ⟨0, ![]⟩
abbrev S1x3 : Shape := ⟨2, ![1, 3]⟩
abbrev S8x1 : Shape := ⟨2, ![8, 1]⟩
abbrev S8x8 : Shape := ⟨2, ![8, 8]⟩
abbrev S64 : Shape := ⟨1, ![64]⟩
abbrev S67 : Shape := ⟨1, ![67]⟩
abbrev S3x1024x1024 : Shape := ⟨3, ![3, 1024, 1024]⟩
abbrev S3x128x1024 : Shape := ⟨3, ![3, 128, 1024]⟩
abbrev S128x1024 : Shape := ⟨2, ![128, 1024]⟩
abbrev S1 : Shape := ⟨1, ![1]⟩
abbrev S1x128x1024 : Shape := ⟨3, ![1, 128, 1024]⟩
abbrev S1024x1024x3 : Shape := ⟨3, ![1024, 1024, 3]⟩

abbrev nBuf : Space → Nat
  | .hbm => 24
  | .vmem => 2
  | .smem => 1
  | _ => 0

abbrev bufTy : (tb : Table) → Fin (tcTables nBuf tb) → BufTy
  | .hbm, ⟨0, _⟩ => ⟨S8x3, .f32⟩
  | .hbm, ⟨1, _⟩ => ⟨S8, .f32⟩
  | .hbm, ⟨2, _⟩ => ⟨S8x3, .f32⟩
  | .hbm, ⟨3, _⟩ => ⟨S3, .f32⟩
  | .hbm, ⟨4, _⟩ => ⟨S3, .f32⟩
  | .hbm, ⟨5, _⟩ => ⟨S3, .f32⟩
  | .hbm, ⟨6, _⟩ => ⟨S8x3, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S1x3, .f32⟩
  | .hbm, ⟨12, _⟩ => ⟨S8x3, .f32⟩
  | .hbm, ⟨13, _⟩ => ⟨S8x3, .f32⟩
  | .hbm, ⟨14, _⟩ => ⟨S1x3, .f32⟩
  | .hbm, ⟨15, _⟩ => ⟨S8x3, .f32⟩
  | .hbm, ⟨16, _⟩ => ⟨S8x3, .f32⟩
  | .hbm, ⟨17, _⟩ => ⟨S8x1, .f32⟩
  | .hbm, ⟨18, _⟩ => ⟨S8x1, .f32⟩
  | .hbm, ⟨19, _⟩ => ⟨S8x8, .f32⟩
  | .hbm, ⟨20, _⟩ => ⟨S64, .f32⟩
  | .hbm, ⟨21, _⟩ => ⟨S67, .f32⟩
  | .hbm, ⟨22, _⟩ => ⟨S3x1024x1024, .f32⟩
  | .hbm, ⟨23, _⟩ => ⟨S1024x1024x3, .f32⟩
  | .local _ .vmem, ⟨0, _⟩ => ⟨S3x128x1024, .f32⟩
  | .local _ .vmem, ⟨1, _⟩ => ⟨S3x128x1024, .f32⟩
  | .local _ .smem, ⟨0, _⟩ => ⟨S67, .f32⟩
  | _, _ => ⟨S8x3, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [BitOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S67 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "pitch" => some ((2 / 1023 : ℝ) : EReal)
  | _ => none
-- ==== Guarded.lean ====
abbrev S8x3 : Shape := ⟨2, ![8, 3]⟩
abbrev S8 : Shape := ⟨1, ![8]⟩
abbrev S3 : Shape := ⟨1, ![3]⟩
abbrev S_ : Shape := ⟨0, ![]⟩
abbrev S1x3 : Shape := ⟨2, ![1, 3]⟩
abbrev S8x1 : Shape := ⟨2, ![8, 1]⟩
abbrev S8x8 : Shape := ⟨2, ![8, 8]⟩
abbrev S64 : Shape := ⟨1, ![64]⟩
abbrev S67 : Shape := ⟨1, ![67]⟩
abbrev S3x1024x1024 : Shape := ⟨3, ![3, 1024, 1024]⟩
abbrev S3x128x1024 : Shape := ⟨3, ![3, 128, 1024]⟩
abbrev S128x1024 : Shape := ⟨2, ![128, 1024]⟩
abbrev S1 : Shape := ⟨1, ![1]⟩
abbrev S1x128x1024 : Shape := ⟨3, ![1, 128, 1024]⟩
abbrev S1024x1024x3 : Shape := ⟨3, ![1024, 1024, 3]⟩

abbrev nBuf : Space → Nat
  | .hbm => 24
  | .vmem => 2
  | .smem => 1
  | _ => 0

abbrev bufTy : (tb : Table) → Fin (tcTables nBuf tb) → BufTy
  | .hbm, ⟨0, _⟩ => ⟨S8x3, .f32⟩
  | .hbm, ⟨1, _⟩ => ⟨S8, .f32⟩
  | .hbm, ⟨2, _⟩ => ⟨S8x3, .f32⟩
  | .hbm, ⟨3, _⟩ => ⟨S3, .f32⟩
  | .hbm, ⟨4, _⟩ => ⟨S3, .f32⟩
  | .hbm, ⟨5, _⟩ => ⟨S3, .f32⟩
  | .hbm, ⟨6, _⟩ => ⟨S8x3, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S1x3, .f32⟩
  | .hbm, ⟨12, _⟩ => ⟨S8x3, .f32⟩
  | .hbm, ⟨13, _⟩ => ⟨S8x3, .f32⟩
  | .hbm, ⟨14, _⟩ => ⟨S1x3, .f32⟩
  | .hbm, ⟨15, _⟩ => ⟨S8x3, .f32⟩
  | .hbm, ⟨16, _⟩ => ⟨S8x3, .f32⟩
  | .hbm, ⟨17, _⟩ => ⟨S8x1, .f32⟩
  | .hbm, ⟨18, _⟩ => ⟨S8x1, .f32⟩
  | .hbm, ⟨19, _⟩ => ⟨S8x8, .f32⟩
  | .hbm, ⟨20, _⟩ => ⟨S64, .f32⟩
  | .hbm, ⟨21, _⟩ => ⟨S67, .f32⟩
  | .hbm, ⟨22, _⟩ => ⟨S3x1024x1024, .f32⟩
  | .hbm, ⟨23, _⟩ => ⟨S1024x1024x3, .f32⟩
  | .local _ .vmem, ⟨0, _⟩ => ⟨S3x128x1024, .f32⟩
  | .local _ .vmem, ⟨1, _⟩ => ⟨S3x128x1024, .f32⟩
  | .local _ .smem, ⟨0, _⟩ => ⟨S67, .f32⟩
  | _, _ => ⟨S8x3, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [BitOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S67 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GuardedIdeal.lean ====
variable {F : FTy → Type} [FloatOps F] [Named F]
def κ : String → Option EReal := fun
  | "pitch" => some ((2 / 1023 : ℝ) : EReal)
  | _ => none
-- ==== ReferenceIdeal.lean ====
abbrev S8x3 : Shape := ⟨2, ![8, 3]⟩
abbrev S8 : Shape := ⟨1, ![8]⟩
abbrev S3 : Shape := ⟨1, ![3]⟩
abbrev S_ : Shape := ⟨0, ![]⟩
abbrev S1023 : Shape := ⟨1, ![1023]⟩
abbrev S1 : Shape := ⟨1, ![1]⟩
abbrev S1024 : Shape := ⟨1, ![1024]⟩
abbrev S1024x1024 : Shape := ⟨2, ![1024, 1024]⟩
abbrev S1024x1024x1 : Shape := ⟨3, ![1024, 1024, 1]⟩
abbrev S1024x1024x3 : Shape := ⟨3, ![1024, 1024, 3]⟩
abbrev S1x1x3 : Shape := ⟨3, ![1, 1, 3]⟩
abbrev S1024x1 : Shape := ⟨2, ![1024, 1]⟩
abbrev S1x3 : Shape := ⟨2, ![1, 3]⟩
abbrev S1024x3 : Shape := ⟨2, ![1024, 3]⟩
abbrev S1024x1x3 : Shape := ⟨3, ![1024, 1, 3]⟩
abbrev S1024x1024x1x3 : Shape := ⟨4, ![1024, 1024, 1, 3]⟩
abbrev S1x1x8x3 : Shape := ⟨4, ![1, 1, 8, 3]⟩
abbrev S1024x1024x8x3 : Shape := ⟨4, ![1024, 1024, 8, 3]⟩
abbrev S1024x1024x8 : Shape := ⟨3, ![1024, 1024, 8]⟩
abbrev S1x1x8 : Shape := ⟨3, ![1, 1, 8]⟩
abbrev S1x1x1 : Shape := ⟨3, ![1, 1, 1]⟩

abbrev nBuf : Space → Nat
  | .hbm => 331
  | .vmem => 0
  | .smem => 0
  | _ => 0

abbrev hbmTy0_0 (i : Nat) : BufTy := match i % 128 with
  | 0 => ⟨S8x3, .f32⟩
  | 1 => ⟨S8, .f32⟩
  | 2 => ⟨S8x3, .f32⟩
  | 3 => ⟨S3, .f32⟩
  | 4 => ⟨S3, .f32⟩
  | 5 => ⟨S3, .f32⟩
  | 6 => ⟨S3, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S1023, .f32⟩
  | 15 => ⟨S_, .f32⟩
  | 16 => ⟨S1023, .f32⟩
  | 17 => ⟨S1023, .f32⟩
  | 18 => ⟨S1, .f32⟩
  | 19 => ⟨S_, .f32⟩
  | 20 => ⟨S1023, .f32⟩
  | 21 => ⟨S1023, .f32⟩
  | 22 => ⟨S1023, .f32⟩
  | 23 => ⟨S1023, .f32⟩
  | 24 => ⟨S1, .f32⟩
  | 25 => ⟨S1023, .f32⟩
  | 26 => ⟨S1023, .f32⟩
  | 27 => ⟨S1023, .f32⟩
  | 28 => ⟨S1, .f32⟩
  | 29 => ⟨S1024, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1023, .f32⟩
  | 38 => ⟨S_, .f32⟩
  | 39 => ⟨S1023, .f32⟩
  | 40 => ⟨S1023, .f32⟩
  | 41 => ⟨S1, .f32⟩
  | 42 => ⟨S_, .f32⟩
  | 43 => ⟨S1023, .f32⟩
  | 44 => ⟨S1023, .f32⟩
  | 45 => ⟨S1023, .f32⟩
  | 46 => ⟨S1023, .f32⟩
  | 47 => ⟨S1, .f32⟩
  | 48 => ⟨S1023, .f32⟩
  | 49 => ⟨S1023, .f32⟩
  | 50 => ⟨S1023, .f32⟩
  | 51 => ⟨S1, .f32⟩
  | 52 => ⟨S1024, .f32⟩
  | 53 => ⟨S1024x1024, .f32⟩
  | 54 => ⟨S1024x1024, .f32⟩
  | 55 => ⟨S_, .f32⟩
  | 56 => ⟨S1024x1024, .f32⟩
  | 57 => ⟨S1024x1024x1, .f32⟩
  | 58 => ⟨S1024x1024x1, .f32⟩
  | 59 => ⟨S1024x1024x1, .f32⟩
  | 60 => ⟨S1024x1024x3, .f32⟩
  | 61 => ⟨S_, .f32⟩
  | 62 => ⟨S3, .f32⟩
  | 63 => ⟨S1x1x3, .f32⟩
  | 64 => ⟨S1024x1024x3, .f32⟩
  | 65 => ⟨S1024x1024x3, .f32⟩
  | 66 => ⟨S1024x1024x3, .f32⟩
  | 67 => ⟨S_, .f32⟩
  | 68 => ⟨S1024x1024, .f32⟩
  | 69 => ⟨S1024x1024x1, .f32⟩
  | 70 => ⟨S1024x1024x1, .f32⟩
  | 71 => ⟨S_, .f32⟩
  | 72 => ⟨S1024x1024x1, .f32⟩
  | 73 => ⟨S1024x1024x1, .f32⟩
  | 74 => ⟨S1024x1024x3, .f32⟩
  | 75 => ⟨S1024x1024x3, .f32⟩
  | 76 => ⟨S1024x1024x3, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S1023, .f32⟩
  | 85 => ⟨S_, .f32⟩
  | 86 => ⟨S1023, .f32⟩
  | 87 => ⟨S1023, .f32⟩
  | 88 => ⟨S1, .f32⟩
  | 89 => ⟨S_, .f32⟩
  | 90 => ⟨S1023, .f32⟩
  | 91 => ⟨S1023, .f32⟩
  | 92 => ⟨S1023, .f32⟩
  | 93 => ⟨S1023, .f32⟩
  | 94 => ⟨S1, .f32⟩
  | 95 => ⟨S1023, .f32⟩
  | 96 => ⟨S1023, .f32⟩
  | 97 => ⟨S1023, .f32⟩
  | 98 => ⟨S1, .f32⟩
  | 99 => ⟨S1024, .f32⟩
  | 100 => ⟨S1024x1, .f32⟩
  | 101 => ⟨S_, .f32⟩
  | 102 => ⟨S1024x1, .f32⟩
  | 103 => ⟨S1024x1, .f32⟩
  | 104 => ⟨S1x3, .f32⟩
  | 105 => ⟨S1024x3, .f32⟩
  | 106 => ⟨S1024x3, .f32⟩
  | 107 => ⟨S1024x3, .f32⟩
  | 108 => ⟨S1x3, .f32⟩
  | 109 => ⟨S1024x3, .f32⟩
  | 110 => ⟨S1024x3, .f32⟩
  | 111 => ⟨S1024x3, .f32⟩
  | 112 => ⟨S1024x3, .f32⟩
  | 113 => ⟨S_, .f32⟩
  | 114 => ⟨S_, .f32⟩
  | 115 => ⟨S_, .f32⟩
  | 116 => ⟨S1024x3, .f32⟩
  | 117 => ⟨S1024x3, .f32⟩
  | 118 => ⟨S_, .f32⟩
  | 119 => ⟨S1024x3, .f32⟩
  | 120 => ⟨S1024x3, .f32⟩
  | 121 => ⟨S1024x1x3, .f32⟩
  | 122 => ⟨S1024x1024x3, .f32⟩
  | 123 => ⟨S1024x1024x1x3, .f32⟩
  | 124 => ⟨S1x1x8x3, .f32⟩
  | 125 => ⟨S1024x1024x8x3, .f32⟩
  | 126 => ⟨S1024x1024x8x3, .f32⟩
  | 127 => ⟨S1024x1024x8x3, .f32⟩
  | _ => ⟨S8x3, .f32⟩

abbrev hbmTy0_1 (i : Nat) : BufTy := match i % 128 with
  | 0 => ⟨S1024x1024x3, .f32⟩
  | 1 => ⟨S_, .f32⟩
  | 2 => ⟨S1024x1024, .f32⟩
  | 3 => ⟨S1024x1024x1, .f32⟩
  | 4 => ⟨S1024x1024x1x3, .f32⟩
  | 5 => ⟨S1024x1024x8x3, .f32⟩
  | 6 => ⟨S1024x1024x8x3, .f32⟩
  | 7 => ⟨S_, .f32⟩
  | 8 => ⟨S1024x1024x8, .f32⟩
  | 9 => ⟨S_, .f32⟩
  | 10 => ⟨S1024x1024x8, .f32⟩
  | 11 => ⟨S1024x1024x8, .f32⟩
  | 12 => ⟨S1024x1024x8x3, .f32⟩
  | 13 => ⟨S_, .f32⟩
  | 14 => ⟨S1024x1024x8, .f32⟩
  | 15 => ⟨S8, .f32⟩
  | 16 => ⟨S1x1x8, .f32⟩
  | 17 => ⟨S1024x1024x8, .f32⟩
  | 18 => ⟨S1024x1024x8, .f32⟩
  | 19 => ⟨S1024x1024x8, .f32⟩
  | 20 => ⟨S_, .f32⟩
  | 21 => ⟨S1024x1024x1, .f32⟩
  | 22 => ⟨S1024x1024x1, .f32⟩
  | 23 => ⟨S1024x1024x8, .f32⟩
  | 24 => ⟨S1024x1024x8, .f32⟩
  | 25 => ⟨S1024x1024x8, .f32⟩
  | 26 => ⟨S_, .f32⟩
  | 27 => ⟨S1024x1024x8, .f32⟩
  | 28 => ⟨S1024x1024x8, .i1⟩
  | 29 => ⟨S_, .f32⟩
  | 30 => ⟨S_, .f32⟩
  | 31 => ⟨S1024x1024x8, .f32⟩
  | 32 => ⟨S1024x1024x8, .f32⟩
  | 33 => ⟨S1024x1024x8, .f32⟩
  | 34 => ⟨S_, .f32⟩
  | 35 => ⟨S1024x1024x8, .f32⟩
  | 36 => ⟨S1024x1024x8, .i1⟩
  | 37 => ⟨S1024x1024x8, .f32⟩
  | 38 => ⟨S1024x1024x8, .f32⟩
  | 39 => ⟨S_, .f32⟩
  | 40 => ⟨S1024x1024x1, .f32⟩
  | 41 => ⟨S1024x1024x1, .f32⟩
  | 42 => ⟨S1024x1024x8, .f32⟩
  | 43 => ⟨S1024x1024x8, .f32⟩
  | 44 => ⟨S_, .f32⟩
  | 45 => ⟨S_, .f32⟩
  | 46 => ⟨S1024x1024x8, .f32⟩
  | 47 => ⟨S1024x1024x8, .f32⟩
  | 48 => ⟨S_, .f32⟩
  | 49 => ⟨S1024x1024, .f32⟩
  | 50 => ⟨S1024x1024x1, .f32⟩
  | 51 => ⟨S1024x1024x8, .f32⟩
  | 52 => ⟨S1024x1024x8, .i1⟩
  | 53 => ⟨S8, .i32⟩
  | 54 => ⟨S_, .i32⟩
  | 55 => ⟨S_, .i32⟩
  | 56 => ⟨S1024x1024x8, .i32⟩
  | 57 => ⟨S1024x1024x8, .i32⟩
  | 58 => ⟨S1024x1024x8, .i32⟩
  | 59 => ⟨S_, .i32⟩
  | 60 => ⟨S1024x1024, .i32⟩
  | 61 => ⟨S_, .f32⟩
  | 62 => ⟨S1024x1024, .f32⟩
  | 63 => ⟨S1024x1024, .i1⟩
  | 64 => ⟨S_, .f32⟩
  | 65 => ⟨S_, .f32⟩
  | 66 => ⟨S1024x1024, .f32⟩
  | 67 => ⟨S1024x1024, .f32⟩
  | 68 => ⟨S1024x1024x1, .f32⟩
  | 69 => ⟨S1024x1024x3, .f32⟩
  | 70 => ⟨S1024x1024x3, .f32⟩
  | 71 => ⟨S1024x1024x3, .f32⟩
  | 72 => ⟨S_, .i32⟩
  | 73 => ⟨S1024x1024, .i32⟩
  | 74 => ⟨S1024x1024, .i1⟩
  | 75 => ⟨S_, .i32⟩
  | 76 => ⟨S1024x1024, .i32⟩
  | 77 => ⟨S1024x1024, .i32⟩
  | 78 => ⟨S1024x1024, .i32⟩
  | 79 => ⟨S1024x1024x1, .i32⟩
  | 80 => ⟨S1, .i32⟩
  | 81 => ⟨S_, .i32⟩
  | 82 => ⟨S1024x1024x1, .i32⟩
  | 83 => ⟨S1024x1024x1, .i1⟩
  | 84 => ⟨S1x1x1, .i32⟩
  | 85 => ⟨S1024x1024x1, .i32⟩
  | 86 => ⟨S1024x1024x1, .i1⟩
  | 87 => ⟨S1024x1024x1, .i1⟩
  | 88 => ⟨S_, .i1⟩
  | 89 => ⟨S1024x1024, .i1⟩
  | 90 => ⟨S1024x1024x3, .f32⟩
  | 91 => ⟨S1024x1024x3, .i1⟩
  | 92 => ⟨S_, .f32⟩
  | 93 => ⟨S1024x1024x3, .f32⟩
  | 94 => ⟨S1024x1024x3, .f32⟩
  | 95 => ⟨S1024x1024x3, .f32⟩
  | 96 => ⟨S1024x1024x3, .f32⟩
  | 97 => ⟨S_, .f32⟩
  | 98 => ⟨S1024x1024, .f32⟩
  | 99 => ⟨S1024x1024x1, .f32⟩
  | 100 => ⟨S1024x1024x1, .f32⟩
  | 101 => ⟨S_, .f32⟩
  | 102 => ⟨S1024x1024x1, .f32⟩
  | 103 => ⟨S1024x1024x1, .f32⟩
  | 104 => ⟨S1024x1024x3, .f32⟩
  | 105 => ⟨S1024x1024x3, .f32⟩
  | 106 => ⟨S1x1x3, .f32⟩
  | 107 => ⟨S1024x1024x3, .f32⟩
  | 108 => ⟨S1024x1024x3, .f32⟩
  | 109 => ⟨S1024x1024x3, .f32⟩
  | 110 => ⟨S_, .f32⟩
  | 111 => ⟨S1024x1024, .f32⟩
  | 112 => ⟨S1024x1024x1, .f32⟩
  | 113 => ⟨S1024x1024x1, .f32⟩
  | 114 => ⟨S_, .f32⟩
  | 115 => ⟨S1024x1024x1, .f32⟩
  | 116 => ⟨S1024x1024x1, .f32⟩
  | 117 => ⟨S1024x1024x3, .f32⟩
  | 118 => ⟨S1024x1024x3, .f32⟩
  | 119 => ⟨S1024x1024x3, .f32⟩
  | 120 => ⟨S1024x1024x3, .f32⟩
  | 121 => ⟨S_, .f32⟩
  | 122 => ⟨S1024x1024, .f32⟩
  | 123 => ⟨S1024x1024x1, .f32⟩
  | 124 => ⟨S1024x1024x1, .f32⟩
  | 125 => ⟨S_, .f32⟩
  | 126 => ⟨S1024x1024x1, .f32⟩
  | 127 => ⟨S1024x1024x1, .f32⟩
  | _ => ⟨S8x3, .f32⟩

abbrev hbmTy0_2 (i : Nat) : BufTy := match i % 128 with
  | 0 => ⟨S1024x1024x3, .f32⟩
  | 1 => ⟨S1024x1024x3, .f32⟩
  | 2 => ⟨S1024x1024x3, .f32⟩
  | 3 => ⟨S_, .f32⟩
  | 4 => ⟨S1024x1024, .f32⟩
  | 5 => ⟨S1024x1024x1, .f32⟩
  | 6 => ⟨S_, .f32⟩
  | 7 => ⟨S1024x1024x1, .f32⟩
  | 8 => ⟨S1024x1024x1, .f32⟩
  | 9 => ⟨S_, .f32⟩
  | 10 => ⟨S1024x1024x1, .f32⟩
  | 11 => ⟨S1024x1024x1, .f32⟩
  | 12 => ⟨S_, .f32⟩
  | 13 => ⟨S1024x1024x3, .f32⟩
  | 14 => ⟨S1024x1024x3, .f32⟩
  | 15 => ⟨S1024x1024x3, .f32⟩
  | 16 => ⟨S1024x1024x3, .f32⟩
  | 17 => ⟨S1024x1024x3, .f32⟩
  | 18 => ⟨S1024x1024x3, .f32⟩
  | 19 => ⟨S_, .f32⟩
  | 20 => ⟨S1024x1024, .f32⟩
  | 21 => ⟨S1024x1024x1, .f32⟩
  | 22 => ⟨S_, .f32⟩
  | 23 => ⟨S1024x1024x1, .f32⟩
  | 24 => ⟨S1024x1024x1, .f32⟩
  | 25 => ⟨S1024x1024x1, .f32⟩
  | 26 => ⟨S1024x1024x1, .f32⟩
  | 27 => ⟨S1024x1024x1, .f32⟩
  | 28 => ⟨S1024x1024x1, .f32⟩
  | 29 => ⟨S_, .f32⟩
  | 30 => ⟨S1024x1024x1, .f32⟩
  | 31 => ⟨S1024x1024x1, .f32⟩
  | 32 => ⟨S_, .f32⟩
  | 33 => ⟨S1024x1024x1, .f32⟩
  | 34 => ⟨S1024x1024x1, .f32⟩
  | 35 => ⟨S1024x1024x1, .f32⟩
  | 36 => ⟨S_, .i32⟩
  | 37 => ⟨S1024x1024, .i32⟩
  | 38 => ⟨S1024x1024, .i1⟩
  | 39 => ⟨S_, .i32⟩
  | 40 => ⟨S1024x1024, .i32⟩
  | 41 => ⟨S1024x1024, .i32⟩
  | 42 => ⟨S1024x1024, .i32⟩
  | 43 => ⟨S1024x1024x1, .i32⟩
  | 44 => ⟨S1, .i32⟩
  | 45 => ⟨S_, .i32⟩
  | 46 => ⟨S1024x1024x1, .i32⟩
  | 47 => ⟨S1024x1024x1, .i1⟩
  | 48 => ⟨S1x1x1, .i32⟩
  | 49 => ⟨S1024x1024x1, .i32⟩
  | 50 => ⟨S1024x1024x1, .i1⟩
  | 51 => ⟨S1024x1024x1, .i1⟩
  | 52 => ⟨S_, .i1⟩
  | 53 => ⟨S1024x1024, .i1⟩
  | 54 => ⟨S1024x1024x3, .f32⟩
  | 55 => ⟨S1024x1024x3, .i1⟩
  | 56 => ⟨S_, .f32⟩
  | 57 => ⟨S1024x1024x3, .f32⟩
  | 58 => ⟨S1024x1024x3, .f32⟩
  | 59 => ⟨S1024x1024x3, .f32⟩
  | 60 => ⟨S1024x1024x3, .f32⟩
  | 61 => ⟨S1x1x3, .f32⟩
  | 62 => ⟨S1024x1024x3, .f32⟩
  | 63 => ⟨S1024x1024x3, .f32⟩
  | 64 => ⟨S_, .f32⟩
  | 65 => ⟨S_, .f32⟩
  | 66 => ⟨S_, .f32⟩
  | 67 => ⟨S1024x1024x3, .f32⟩
  | 68 => ⟨S1024x1024x3, .f32⟩
  | 69 => ⟨S_, .f32⟩
  | 70 => ⟨S1024x1024x3, .f32⟩
  | 71 => ⟨S1024x1024x3, .f32⟩
  | 72 => ⟨S1024x1024x1, .i1⟩
  | 73 => ⟨S1024x1024x3, .i1⟩
  | 74 => ⟨S1024x1024x3, .f32⟩
  | _ => ⟨S8x3, .f32⟩

abbrev hbmTy (i : Nat) : BufTy := match i / 128 with
  | 0 => hbmTy0_0 i
  | 1 => hbmTy0_1 i
  | 2 => hbmTy0_2 i
  | _ => ⟨S8x3, .f32⟩

abbrev bufTy : (tb : Table) → Fin (tcTables nBuf tb) → BufTy
  | .hbm, ⟨i, _⟩ => hbmTy i
  | _, _ => ⟨S8x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v0 : Ref sig .tc := ⟨.hbm, 29, rfl⟩
abbrev main_cst_3 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_cst : Ref sig .tc := ⟨.hbm, 35, rfl⟩
abbrev main_call1_v3 : Ref sig .tc := ⟨.hbm, 36, rfl⟩
abbrev main_call1_v4 : Ref sig .tc := ⟨.hbm, 37, rfl⟩
abbrev main_call1_cst_0 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_cst_1 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_v15 : Ref sig .tc := ⟨.hbm, 50, rfl⟩
abbrev main_call1_v16 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_cst_5 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_cst_6 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_cst_7 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_cst_8 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_cst_9 : Ref sig .tc := ⟨.hbm, 77, rfl⟩
abbrev main_cst_10 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_cst : Ref sig .tc := ⟨.hbm, 82, rfl⟩
abbrev main_call2_v3 : Ref sig .tc := ⟨.hbm, 83, rfl⟩
abbrev main_call2_v4 : Ref sig .tc := ⟨.hbm, 84, rfl⟩
abbrev main_call2_cst_0 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_cst_1 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_v15 : Ref sig .tc := ⟨.hbm, 97, rfl⟩
abbrev main_call2_v16 : Ref sig .tc := ⟨.hbm, 98, rfl⟩
abbrev main_v22 : Ref sig .tc := ⟨.hbm, 99, rfl⟩
abbrev main_v23 : Ref sig .tc := ⟨.hbm, 100, rfl⟩
abbrev main_cst_11 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_cst_12 : Ref sig .tc := ⟨.hbm, 113, rfl⟩
abbrev main_cst_13 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_cst_14 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_cst_15 : Ref sig .tc := ⟨.hbm, 135, rfl⟩
abbrev main_v49 : Ref sig .tc := ⟨.hbm, 136, rfl⟩
abbrev main_cst_16 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_cst_17 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_cst_18 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_cst_19 : Ref sig .tc := ⟨.hbm, 154, rfl⟩
abbrev main_v64 : Ref sig .tc := ⟨.hbm, 155, rfl⟩
abbrev main_v65 : Ref sig .tc := ⟨.hbm, 156, rfl⟩
abbrev main_cst_20 : Ref sig .tc := ⟨.hbm, 157, rfl⟩
abbrev main_call4_v0 : Ref sig .tc := ⟨.hbm, 158, rfl⟩
abbrev main_call4_v1 : Ref sig .tc := ⟨.hbm, 159, rfl⟩
abbrev main_v66 : Ref sig .tc := ⟨.hbm, 160, rfl⟩
abbrev main_v67 : Ref sig .tc := ⟨.hbm, 161, rfl⟩
abbrev main_cst_21 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_cst_22 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_cst_23 : Ref sig .tc := ⟨.hbm, 172, rfl⟩
abbrev main_call5_v0 : Ref sig .tc := ⟨.hbm, 173, rfl⟩
abbrev main_call5_v1 : Ref sig .tc := ⟨.hbm, 174, rfl⟩
abbrev main_v76 : Ref sig .tc := ⟨.hbm, 175, rfl⟩
abbrev main_cst_24 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_c : Ref sig .tc := ⟨.hbm, 182, rfl⟩
abbrev main_call6_v0 : Ref sig .tc := ⟨.hbm, 183, rfl⟩
abbrev main_call6_v1 : Ref sig .tc := ⟨.hbm, 184, rfl⟩
abbrev main_call6_v2 : Ref sig .tc := ⟨.hbm, 185, rfl⟩
abbrev main_v82 : Ref sig .tc := ⟨.hbm, 186, rfl⟩
abbrev main_c_25 : Ref sig .tc := ⟨.hbm, 187, rfl⟩
abbrev main_v83 : Ref sig .tc := ⟨.hbm, 188, rfl⟩
abbrev main_cst_26 : Ref sig .tc := ⟨.hbm, 189, rfl⟩
abbrev main_v84 : Ref sig .tc := ⟨.hbm, 190, rfl⟩
abbrev main_v85 : Ref sig .tc := ⟨.hbm, 191, rfl⟩
abbrev main_cst_27 : Ref sig .tc := ⟨.hbm, 192, rfl⟩
abbrev main_call7_v0 : Ref sig .tc := ⟨.hbm, 193, rfl⟩
abbrev main_call7_v1 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev main_v89 : Ref sig .tc := ⟨.hbm, 198, rfl⟩
abbrev main_v90 : Ref sig .tc := ⟨.hbm, 199, rfl⟩
abbrev main_call8_c : Ref sig .tc := ⟨.hbm, 200, rfl⟩
abbrev main_call8_v0 : Ref sig .tc := ⟨.hbm, 201, rfl⟩
abbrev main_call8_v1 : Ref sig .tc := ⟨.hbm, 202, rfl⟩
abbrev main_call8_c_0 : Ref sig .tc := ⟨.hbm, 203, rfl⟩
abbrev main_call8_v2 : Ref sig .tc := ⟨.hbm, 204, rfl⟩
abbrev main_call8_v3 : Ref sig .tc := ⟨.hbm, 205, rfl⟩
abbrev main_call8_v4 : Ref sig .tc := ⟨.hbm, 206, rfl⟩
abbrev main_call8_v5 : Ref sig .tc := ⟨.hbm, 207, rfl⟩
abbrev main_call8_c_1 : Ref sig .tc := ⟨.hbm, 208, rfl⟩
abbrev main_call8_c_2 : Ref sig .tc := ⟨.hbm, 209, rfl⟩
abbrev main_call8_v6 : Ref sig .tc := ⟨.hbm, 210, rfl⟩
abbrev main_call8_v7 : Ref sig .tc := ⟨.hbm, 211, rfl⟩
abbrev main_call8_v8 : Ref sig .tc := ⟨.hbm, 212, rfl⟩
abbrev main_call8_v9 : Ref sig .tc := ⟨.hbm, 213, rfl⟩
abbrev main_call8_v10 : Ref sig .tc := ⟨.hbm, 214, rfl⟩
abbrev main_call8_v11 : Ref sig .tc := ⟨.hbm, 215, rfl⟩
abbrev main_call8_c_3 : Ref sig .tc := ⟨.hbm, 216, rfl⟩
abbrev main_call8_v12 : Ref sig .tc := ⟨.hbm, 217, rfl⟩
abbrev main_call8_v13 : Ref sig .tc := ⟨.hbm, 218, rfl⟩
abbrev main_call8_v14 : Ref sig .tc := ⟨.hbm, 219, rfl⟩
abbrev main_call8_cst : Ref sig .tc := ⟨.hbm, 220, rfl⟩
abbrev main_call8_v15 : Ref sig .tc := ⟨.hbm, 221, rfl⟩
abbrev main_v91 : Ref sig .tc := ⟨.hbm, 222, rfl⟩
abbrev main_v92 : Ref sig .tc := ⟨.hbm, 223, rfl⟩
abbrev main_v93 : Ref sig .tc := ⟨.hbm, 224, rfl⟩
abbrev main_cst_28 : Ref sig .tc := ⟨.hbm, 225, rfl⟩
abbrev main_v94 : Ref sig .tc := ⟨.hbm, 226, rfl⟩
abbrev main_v95 : Ref sig .tc := ⟨.hbm, 227, rfl⟩
abbrev main_v96 : Ref sig .tc := ⟨.hbm, 228, rfl⟩
abbrev main_cst_29 : Ref sig .tc := ⟨.hbm, 229, rfl⟩
abbrev main_v97 : Ref sig .tc := ⟨.hbm, 230, rfl⟩
abbrev main_v98 : Ref sig .tc := ⟨.hbm, 231, rfl⟩
abbrev main_v99 : Ref sig .tc := ⟨.hbm, 232, rfl⟩
abbrev main_v100 : Ref sig .tc := ⟨.hbm, 233, rfl⟩
abbrev main_v101 : Ref sig .tc := ⟨.hbm, 234, rfl⟩
abbrev main_v102 : Ref sig .tc := ⟨.hbm, 235, rfl⟩
abbrev main_v103 : Ref sig .tc := ⟨.hbm, 236, rfl⟩
abbrev main_v104 : Ref sig .tc := ⟨.hbm, 237, rfl⟩
abbrev main_cst_30 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩
abbrev main_cst_31 : Ref sig .tc := ⟨.hbm, 242, rfl⟩
abbrev main_v108 : Ref sig .tc := ⟨.hbm, 243, rfl⟩
abbrev main_v109 : Ref sig .tc := ⟨.hbm, 244, rfl⟩
abbrev main_v110 : Ref sig .tc := ⟨.hbm, 245, rfl⟩
abbrev main_v111 : Ref sig .tc := ⟨.hbm, 246, rfl⟩
abbrev main_v112 : Ref sig .tc := ⟨.hbm, 247, rfl⟩
abbrev main_v113 : Ref sig .tc := ⟨.hbm, 248, rfl⟩
abbrev main_cst_32 : Ref sig .tc := ⟨.hbm, 249, rfl⟩
abbrev main_v114 : Ref sig .tc := ⟨.hbm, 250, rfl⟩
abbrev main_v115 : Ref sig .tc := ⟨.hbm, 251, rfl⟩
abbrev main_v116 : Ref sig .tc := ⟨.hbm, 252, rfl⟩
abbrev main_cst_33 : Ref sig .tc := ⟨.hbm, 253, rfl⟩
abbrev main_v117 : Ref sig .tc := ⟨.hbm, 254, rfl⟩
abbrev main_v118 : Ref sig .tc := ⟨.hbm, 255, rfl⟩
abbrev main_v119 : Ref sig .tc := ⟨.hbm, 256, rfl⟩
abbrev main_v120 : Ref sig .tc := ⟨.hbm, 257, rfl⟩
abbrev main_v121 : Ref sig .tc := ⟨.hbm, 258, rfl⟩
abbrev main_cst_34 : Ref sig .tc := ⟨.hbm, 259, rfl⟩
abbrev main_v122 : Ref sig .tc := ⟨.hbm, 260, rfl⟩
abbrev main_v123 : Ref sig .tc := ⟨.hbm, 261, rfl⟩
abbrev main_cst_35 : Ref sig .tc := ⟨.hbm, 262, rfl⟩
abbrev main_v124 : Ref sig .tc := ⟨.hbm, 263, rfl⟩
abbrev main_v125 : Ref sig .tc := ⟨.hbm, 264, rfl⟩
abbrev main_cst_36 : Ref sig .tc := ⟨.hbm, 265, rfl⟩
abbrev main_v126 : Ref sig .tc := ⟨.hbm, 266, rfl⟩
abbrev main_v127 : Ref sig .tc := ⟨.hbm, 267, rfl⟩
abbrev main_cst_37 : Ref sig .tc := ⟨.hbm, 268, rfl⟩
abbrev main_v128 : Ref sig .tc := ⟨.hbm, 269, rfl⟩
abbrev main_v129 : Ref sig .tc := ⟨.hbm, 270, rfl⟩
abbrev main_v130 : Ref sig .tc := ⟨.hbm, 271, rfl⟩
abbrev main_v131 : Ref sig .tc := ⟨.hbm, 272, rfl⟩
abbrev main_v132 : Ref sig .tc := ⟨.hbm, 273, rfl⟩
abbrev main_v133 : Ref sig .tc := ⟨.hbm, 274, rfl⟩
abbrev main_cst_38 : Ref sig .tc := ⟨.hbm, 275, rfl⟩
abbrev main_v134 : Ref sig .tc := ⟨.hbm, 276, rfl⟩
abbrev main_v135 : Ref sig .tc := ⟨.hbm, 277, rfl⟩
abbrev main_cst_39 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_v141 : Ref sig .tc := ⟨.hbm, 284, rfl⟩
abbrev main_cst_40 : Ref sig .tc := ⟨.hbm, 285, rfl⟩
abbrev main_v142 : Ref sig .tc := ⟨.hbm, 286, rfl⟩
abbrev main_v143 : Ref sig .tc := ⟨.hbm, 287, rfl⟩
abbrev main_cst_41 : Ref sig .tc := ⟨.hbm, 288, rfl⟩
abbrev main_v144 : Ref sig .tc := ⟨.hbm, 289, rfl⟩
abbrev main_v145 : Ref sig .tc := ⟨.hbm, 290, rfl⟩
abbrev main_v146 : Ref sig .tc := ⟨.hbm, 291, rfl⟩
abbrev main_call9_c : Ref sig .tc := ⟨.hbm, 292, rfl⟩
abbrev main_call9_v0 : Ref sig .tc := ⟨.hbm, 293, rfl⟩
abbrev main_call9_v1 : Ref sig .tc := ⟨.hbm, 294, rfl⟩
abbrev main_call9_c_0 : Ref sig .tc := ⟨.hbm, 295, rfl⟩
abbrev main_call9_v2 : Ref sig .tc := ⟨.hbm, 296, rfl⟩
abbrev main_call9_v3 : Ref sig .tc := ⟨.hbm, 297, rfl⟩
abbrev main_call9_v4 : Ref sig .tc := ⟨.hbm, 298, rfl⟩
abbrev main_call9_v5 : Ref sig .tc := ⟨.hbm, 299, rfl⟩
abbrev main_call9_c_1 : Ref sig .tc := ⟨.hbm, 300, rfl⟩
abbrev main_call9_c_2 : Ref sig .tc := ⟨.hbm, 301, rfl⟩
abbrev main_call9_v6 : Ref sig .tc := ⟨.hbm, 302, rfl⟩
abbrev main_call9_v7 : Ref sig .tc := ⟨.hbm, 303, rfl⟩
abbrev main_call9_v8 : Ref sig .tc := ⟨.hbm, 304, rfl⟩
abbrev main_call9_v9 : Ref sig .tc := ⟨.hbm, 305, rfl⟩
abbrev main_call9_v10 : Ref sig .tc := ⟨.hbm, 306, rfl⟩
abbrev main_call9_v11 : Ref sig .tc := ⟨.hbm, 307, rfl⟩
abbrev main_call9_c_3 : Ref sig .tc := ⟨.hbm, 308, rfl⟩
abbrev main_call9_v12 : Ref sig .tc := ⟨.hbm, 309, rfl⟩
abbrev main_call9_v13 : Ref sig .tc := ⟨.hbm, 310, rfl⟩
abbrev main_call9_v14 : Ref sig .tc := ⟨.hbm, 311, rfl⟩
abbrev main_call9_cst : Ref sig .tc := ⟨.hbm, 312, rfl⟩
abbrev main_call9_v15 : Ref sig .tc := ⟨.hbm, 313, rfl⟩
abbrev main_v147 : Ref sig .tc := ⟨.hbm, 314, rfl⟩
abbrev main_v148 : Ref sig .tc := ⟨.hbm, 315, rfl⟩
abbrev main_v149 : Ref sig .tc := ⟨.hbm, 316, rfl⟩
abbrev main_v150 : Ref sig .tc := ⟨.hbm, 317, rfl⟩
abbrev main_v151 : Ref sig .tc := ⟨.hbm, 318, rfl⟩
abbrev main_v152 : Ref sig .tc := ⟨.hbm, 319, rfl⟩
abbrev main_cst_42 : Ref sig .tc := ⟨.hbm, 320, rfl⟩
abbrev main_cst_43 : Ref sig .tc := ⟨.hbm, 321, rfl⟩
abbrev main_call10_v0 : Ref sig .tc := ⟨.hbm, 322, rfl⟩
abbrev main_call10_v1 : Ref sig .tc := ⟨.hbm, 323, rfl⟩
abbrev main_call10_v2 : Ref sig .tc := ⟨.hbm, 324, rfl⟩
abbrev main_call10_v3 : Ref sig .tc := ⟨.hbm, 325, rfl⟩
abbrev main_call10_v4 : Ref sig .tc := ⟨.hbm, 326, rfl⟩
abbrev main_v153 : Ref sig .tc := ⟨.hbm, 327, rfl⟩
abbrev main_v154 : Ref sig .tc := ⟨.hbm, 328, rfl⟩
abbrev main_call11_v0 : Ref sig .tc := ⟨.hbm, 329, rfl⟩
abbrev main_v155 : Ref sig .tc := ⟨.hbm, 330, rfl⟩

abbrev nD : Nat := 1
abbrev τ : Topo := Topo.v7x

variable {F : FTy → Type} [FloatOps F]
-- ==== Proof.Consts.lean ====
/- The constants of the two programs as real numbers: what each single-precision word denotes. -/
module

public import Idealize.ShloMosaic.Lib.IdealHost

@[expose] public section

noncomputable section

namespace RayTrace

open Idealize.ShloMosaic

/-- The threshold under which the reference does not divide by a length: the word of `1e-12`. -/
def eps : ℝ := 9223372 / 2 ^ 63
/-- The ambient share of the light: the word of `0.4`. -/
def amb : ℝ := 13421773 / 2 ^ 25
/-- The specular share of the light: the word of `0.8`. -/
def spc : ℝ := 13421773 / 2 ^ 24
/-- The green of the upper sky: the word of `0.7`. -/
def sky : ℝ := 11744051 / 2 ^ 24

/-- The threshold is positive. -/
theorem eps_pos : 0 < eps := by unfold eps; norm_num
/-- The threshold is at most 5, the distance of the picture from the camera. -/
theorem eps_le_five : eps ≤ 5 := by unfold eps; norm_num
/-- The green of the upper sky is not negative. -/
theorem sky_nonneg : 0 ≤ sky := by unfold sky; norm_num
/-- The green of the upper sky is at most one. -/
theorem sky_le_one : sky ≤ 1 := by unfold sky; norm_num

/-- The word of `1e-12`. -/
theorem w_eps : Ideal.ofBits .f32 0x2B8CBCCC#32 = (eps : EReal) := by
  simp [Ideal.ofBits, Ideal.ieee, -EReal.coe_mul, eps]; norm_num
/-- The word of `0.4`. -/
theorem w_amb : Ideal.ofBits .f32 0x3ECCCCCD#32 = (amb : EReal) := by
  simp [Ideal.ofBits, Ideal.ieee, -EReal.coe_mul, amb]; norm_num
/-- The word of `0.8`. -/
theorem w_spc : Ideal.ofBits .f32 0x3F4CCCCD#32 = (spc : EReal) := by
  simp [Ideal.ofBits, Ideal.ieee, -EReal.coe_mul, spc]; norm_num
/-- The word of `0.7`. -/
theorem w_sky : Ideal.ofBits .f32 0x3F333333#32 = (sky : EReal) := by
  simp [Ideal.ofBits, Ideal.ieee, -EReal.coe_mul, sky]; norm_num
/-- The word of `0.5`. -/
theorem w_half : Ideal.ofBits .f32 0x3F000000#32 = ((1 / 2 : ℝ) : EReal) := by
  simp [Ideal.ofBits, Ideal.ieee, -EReal.coe_mul]; norm_num
/-- The word of `2`. -/
theorem w_two : Ideal.ofBits .f32 0x40000000#32 = ((2 : ℝ) : EReal) := by
  simp [Ideal.ofBits, Ideal.ieee, -EReal.coe_mul]; norm_num
/-- The word of `4`. -/
theorem w_four : Ideal.ofBits .f32 0x40800000#32 = ((4 : ℝ) : EReal) := by
  simp [Ideal.ofBits, Ideal.ieee, -EReal.coe_mul]; norm_num
/-- The word of `5`. -/
theorem w_five : Ideal.ofBits .f32 0x40A00000#32 = ((5 : ℝ) : EReal) := by
  simp [Ideal.ofBits, Ideal.ieee, -EReal.coe_mul]; norm_num
/-- The word of `25`. -/
theorem w_25 : Ideal.ofBits .f32 0x41C80000#32 = ((25 : ℝ) : EReal) := by
  simp [Ideal.ofBits, Ideal.ieee, -EReal.coe_mul]; norm_num
/-- The word of `1023`. -/
theorem w_1023 : Ideal.ofBits .f32 0x447FC000#32 = ((1023 : ℝ) : EReal) := by
  simp [Ideal.ofBits, Ideal.ieee, -EReal.coe_mul]; norm_num
/-- The word of `1`, as a real number. -/
theorem w_one : Ideal.ofBits .f32 0x3F800000#32 = ((1 : ℝ) : EReal) := by
  simp [Ideal.ofBits, Ideal.ieee, -EReal.coe_mul]; norm_num
/-- The word of `-1`. -/
theorem w_neg_one : Ideal.ofBits .f32 0xBF800000#32 = ((-1 : ℝ) : EReal) := by
  simp [Ideal.ofBits, Ideal.ieee, -EReal.coe_mul]; norm_num
/-- The word of zero, as a real number. -/
theorem w_zero : Ideal.ofBits .f32 0x00000000#32 = ((0 : ℝ) : EReal) := by
  simp [Ideal.ofBits, Ideal.ieee]
/-- The word of infinity. -/
theorem w_inf : Ideal.ofBits .f32 0x7F800000#32 = (⊤ : EReal) := by
  simp [Ideal.ofBits, Ideal.ieee]

end RayTrace

end
-- ==== Proof.Shade.lean ====
/- The geometry of one pixel over the real numbers, and what the kernel's arithmetic makes of it over the extended reals. -/
module

public import proofs.«01_k».proof.Proof.Consts

@[expose] public section

noncomputable section

namespace RayTrace

open Idealize.ShloMosaic

/-! ## The line of sight -/

/-- One over the length of the line of sight `(u, 5, v)`. -/
def inv (u v : ℝ) : ℝ := (Real.sqrt (u * u + v * v + 25))⁻¹
/-- The unit vector along the line of sight. -/
def dir (u v : ℝ) : Fin 3 → ℝ := ![u * inv u v, 5 * inv u v, v * inv u v]
/-- The dot product. -/
def dot3 (a b : Fin 3 → ℝ) : ℝ := a 0 * b 0 + a 1 * b 1 + a 2 * b 2
/-- The discriminant of the ray along `d` against the sphere at `c` of radius `r` (a quarter of the textbook's). -/
def disc (d c : Fin 3 → ℝ) (r : ℝ) : ℝ := dot3 d c * dot3 d c - (dot3 c c - r * r)
/-- The nearer root. -/
def root (d c : Fin 3 → ℝ) (r : ℝ) : ℝ := dot3 d c - Real.sqrt (disc d c r)
/-- A point is at a real position, not at infinity. -/
def Near (c : Fin 3 → EReal) : Prop := ∀ k, c k = (((c k).toReal : ℝ) : EReal)
/-- The real position of a point. -/
def pos (c : Fin 3 → EReal) : Fin 3 → ℝ := fun k => (c k).toReal
/-- The ray along `d` meets the sphere at `c` of radius `r`: its center is at a real position and its discriminant is not
    negative. -/
def Met (d : Fin 3 → ℝ) (c : Fin 3 → EReal) (r : ℝ) : Prop := Near c ∧ 0 ≤ disc d (pos c) r
open Classical in
/-- The parameter at which the ray meets the sphere, infinity where it misses. -/
def meet (d : Fin 3 → ℝ) (c : Fin 3 → EReal) (r : ℝ) : EReal := if Met d c r then ((root d (pos c) r : ℝ) : EReal) else ⊤

/-- The squared length of the line of sight is positive. -/
theorem nn_pos (u v : ℝ) : 0 < u * u + v * v + 25 := by nlinarith [mul_self_nonneg u, mul_self_nonneg v]

/-- The reciprocal of the length of the line of sight is positive. -/
theorem inv_pos (u v : ℝ) : 0 < inv u v := _root_.inv_pos.mpr (Real.sqrt_pos.mpr (nn_pos u v))

/-- The squared length times the square of the reciprocal length is one. -/
theorem inv_sq (u v : ℝ) : (u * u + v * v + 25) * (inv u v * inv u v) = 1 := by
  have h := nn_pos u v
  unfold inv
  rw [← mul_inv, Real.mul_self_sqrt h.le, mul_inv_cancel₀ h.ne']

/-- The direction is of length one. -/
theorem dir_unit (u v : ℝ) : dot3 (dir u v) (dir u v) = 1 := by
  have h := inv_sq u v
  simp only [dot3, dir, Matrix.cons_val_zero, Matrix.cons_val_one, Matrix.cons_val]
  linear_combination h

/-! ## Lengths at the hit point -/

/-- The point at parameter `t`. -/
def at3 (d : Fin 3 → ℝ) (t : ℝ) : Fin 3 → ℝ := fun k => t * d k

/-- The hit point lies on the sphere. -/
theorem hit_on (d c : Fin 3 → ℝ) (r : ℝ) (hd : dot3 d d = 1) (h : 0 ≤ disc d c r) :
    dot3 (at3 d (root d c r) - c) (at3 d (root d c r) - c) = r * r := by
  have hs := Real.mul_self_sqrt h
  have e : root d c r = dot3 d c - Real.sqrt (disc d c r) := rfl
  generalize Real.sqrt (disc d c r) = q at hs e
  generalize root d c r = t at e
  simp only [disc] at hs
  simp only [dot3, at3, Pi.sub_apply] at *
  have ht : t - (d 0 * c 0 + d 1 * c 1 + d 2 * c 2) = -q := by rw [e]; ring
  have h2 : (t - (d 0 * c 0 + d 1 * c 1 + d 2 * c 2)) * (t - (d 0 * c 0 + d 1 * c 1 + d 2 * c 2)) = q * q := by
    rw [ht]; ring
  linear_combination (t * t) * hd + h2 + hs

/-- Lengths as the norm of the plane's Euclidean space. -/
theorem sqrt_dot3 (a : Fin 3 → ℝ) : Real.sqrt (dot3 a a) = ‖WithLp.toLp 2 a‖ := by
  rw [EuclideanSpace.norm_eq]
  simp [Fin.sum_univ_three, dot3, pow_two]

/-- The reverse triangle inequality. -/
theorem tri (a b : Fin 3 → ℝ) :
    |Real.sqrt (dot3 a a) - Real.sqrt (dot3 b b)| ≤ Real.sqrt (dot3 (a - b) (a - b)) := by
  rw [sqrt_dot3, sqrt_dot3, sqrt_dot3, WithLp.toLp_sub]
  exact abs_norm_sub_norm_le _ _

/-- What the precondition says of one sphere, its center at a real position. -/
structure Ok (c : Fin 3 → ℝ) (r : ℝ) (L : Fin 3 → EReal) : Prop where
  size : r = 0 ∨ eps ≤ |r|
  cam : eps ≤ |Real.sqrt (dot3 c c) - (|r|)|
  light : Near L → eps ≤ |Real.sqrt (dot3 (pos L - c) (pos L - c)) - (|r|)|

section
variable {d c : Fin 3 → ℝ} {L : Fin 3 → EReal} {r : ℝ} (hd : dot3 d d = 1) (h : 0 ≤ disc d c r) (ok : Ok c r L)
include hd h ok

/-- The point hit lies at the radius's distance from the center. -/
theorem hit_len : Real.sqrt (dot3 (at3 d (root d c r) - c) (at3 d (root d c r) - c)) = |r| := by
  rw [hit_on d c r hd h, Real.sqrt_mul_self_eq_abs]

omit h ok in
/-- The point at the parameter `t` of a ray of unit direction lies at the distance `|t|`. -/
theorem at_len (t : ℝ) : Real.sqrt (dot3 (at3 d t) (at3 d t)) = |t| := by
  have : dot3 (at3 d t) (at3 d t) = t * t := by
    simp only [dot3, at3] at *
    linear_combination (t * t) * hd
  rw [this, Real.sqrt_mul_self_eq_abs]

/-- The camera is off the hit point by the threshold at least. -/
theorem t_far : eps ≤ |root d c r| := by
  have h1 := tri c (c - at3 d (root d c r))
  have h2 : Real.sqrt (dot3 (c - at3 d (root d c r)) (c - at3 d (root d c r))) = |r| := by
    rw [← hit_len hd h ok]; congr 1; simp only [dot3, Pi.sub_apply]; ring
  rw [h2, sub_sub_cancel, at_len hd] at h1
  exact ok.cam.trans h1

/-- So is the light, if it is at a real position. -/
theorem l_far (near : Near L) : eps ≤ Real.sqrt (dot3 (pos L - at3 d (root d c r)) (pos L - at3 d (root d c r))) := by
  have h1 := tri (pos L - c) (at3 d (root d c r) - c)
  rw [hit_len hd h ok, sub_sub_sub_cancel_right] at h1
  exact (ok.light near).trans h1

end

/-! ## The share of light -/

/-- A vector over a length. -/
def over (a : Fin 3 → ℝ) (n : ℝ) : Fin 3 → ℝ := fun k => a k / n

/-- Ambient, diffuse and specular light, from the normal `N`, the direction `E` to the light and the direction `V` to the
    camera. -/
def light (N E V : Fin 3 → ℝ) : ℝ :=
  amb + 1 / 2 * max (dot3 N E) 0 + spc * max (dot3 (fun k => 2 * N k * dot3 N E - E k) V) 0 ^ 16

open Classical in
/-- The direction from the point `H` to the light: of length one, or zero where the light is at infinity. -/
def toward (L : Fin 3 → EReal) (H : Fin 3 → ℝ) : Fin 3 → ℝ :=
  if Near L then over (pos L - H) (Real.sqrt (dot3 (pos L - H) (pos L - H))) else 0

/-- Where the light is at infinity, the squared distance to it is infinity. -/
theorem far_sq (L : Fin 3 → EReal) (H : Fin 3 → ℝ) (far : ¬Near L) :
    (L 0 - (H 0 : ℝ)) * (L 0 - (H 0 : ℝ)) + (L 1 - (H 1 : ℝ)) * (L 1 - (H 1 : ℝ)) + (L 2 - (H 2 : ℝ)) * (L 2 - (H 2 : ℝ)) = ⊤ := by
  have one : ∀ a : EReal, ∀ x : ℝ, (a = ((a.toReal : ℝ) : EReal) ∧ ∃ z : ℝ, (a - (x : ℝ)) * (a - (x : ℝ)) = ((z : ℝ) : EReal))
      ∨ (a ≠ ((a.toReal : ℝ) : EReal) ∧ (a - (x : ℝ)) * (a - (x : ℝ)) = ⊤) := by
    intro a x
    induction a with
    | bot => right; exact ⟨by simp, by simp⟩
    | top => right; exact ⟨by simp, by simp⟩
    | coe a => left; exact ⟨by simp, (a - x) * (a - x), by rw [← EReal.coe_sub, ← EReal.coe_mul]⟩
  rcases one (L 0) (H 0) with ⟨a0, z0, e0⟩ | ⟨_, e0⟩ <;> rcases one (L 1) (H 1) with ⟨a1, z1, e1⟩ | ⟨_, e1⟩ <;>
    rcases one (L 2) (H 2) with ⟨a2, z2, e2⟩ | ⟨_, e2⟩ <;> rw [e0, e1, e2]
  · exact absurd (fun k => by fin_cases k; exacts [a0, a1, a2]) far
  all_goals simp [← EReal.coe_add]

/-- The squared length of a vector not real is infinity. -/
theorem far_len (c : Fin 3 → EReal) (far : ¬Near c) : c 0 * c 0 + c 1 * c 1 + c 2 * c 2 = ⊤ := by
  have := far_sq c 0 far
  simpa using this

/-- The share of light at the point where the ray along `d` meets the sphere. -/
def share (d c : Fin 3 → ℝ) (r : ℝ) (L : Fin 3 → EReal) : ℝ :=
  let t := root d c r
  light (over (at3 d t - c) |r|)
    (toward L (at3 d t))
    (over (-at3 d t) |t|)

/-! ## The kernel's arithmetic -/

/-- A selection by a comparison is a choice. -/
theorem select_olt {α : Type} (a b : EReal) (x y : α) : Scalar.select (Ideal.cmp .olt a b) x y = if a < b then x else y := by
  unfold Scalar.select Ideal.cmp
  by_cases h : a < b <;> simp [h]

/-- The same for `≥`. -/
theorem select_oge {α : Type} (a b : EReal) (x y : α) : Scalar.select (Ideal.cmp .oge a b) x y = if b ≤ a then x else y := by
  unfold Scalar.select Ideal.cmp
  by_cases h : b ≤ a <;> simp [h]

/-- A sixteenth power by four squarings. -/
def pow16 (a : EReal) : EReal :=
  let s2 := a * a
  let s4 := s2 * s2
  let s8 := s4 * s4
  s8 * s8

/-- The kernel's root: the discriminant times its reciprocal square root, taken off the projection. -/
def kRoot (p cc : EReal) : EReal := p - (p * p - cc) * Ideal.rsqrt (p * p - cc)

/-- The kernel's last stage: from normal, light direction, and the pixel's `u`, `v`, with `g` the signed length. -/
def kLight (n0 n1 n2 e0 e1 e2 g u v : EReal) : EReal :=
  let dt := n0 * e0 + n1 * e1 + n2 * e2
  let dt2 := dt + dt
  let sd := max ((n0 * dt2 - e0) * (g * u) + (n1 * dt2 - e1) * (g * (5 : ℝ)) + (n2 * dt2 - e2) * (g * v)) (0 : ℝ)
  (amb : EReal) + ((1 / 2 : ℝ) : EReal) * max dt (0 : ℝ) + (spc : EReal) * pow16 sd

/-- The kernel's share of light, from the nearest root and the center it belongs to. -/
def kShare (u v i t c0 c1 c2 l0 l1 l2 : EReal) : EReal :=
  let sh := t * i
  let h0 := sh * u
  let h1 := sh * (5 : ℝ)
  let h2 := sh * v
  let n0 := h0 - c0
  let n1 := h1 - c1
  let n2 := h2 - c2
  let a := Ideal.rsqrt (n0 * n0 + n1 * n1 + n2 * n2)
  let e0 := l0 - h0
  let e1 := l1 - h1
  let e2 := l2 - h2
  let b := Ideal.rsqrt (e0 * e0 + e1 * e1 + e2 * e2)
  let m := max i (-i)
  let g := (0 : ℝ) - Scalar.select (Ideal.cmp .olt t (0 : ℝ)) ((0 : ℝ) - m) m
  kLight (n0 * a) (n1 * a) (n2 * a) (e0 * b) (e1 * b) (e2 * b) g u v

/-- The larger of two real numbers is the same among the extended ones. -/
theorem coe_max (a b : ℝ) : max (a : EReal) (b : EReal) = ((max a b : ℝ) : EReal) :=
  (EReal.coe_strictMono.monotone.map_max).symm

/-- At real arguments the kernel's last stage is the share of light. -/
theorem kLight_coe (N E : Fin 3 → ℝ) (g u v : ℝ) :
    kLight (N 0) (N 1) (N 2) (E 0) (E 1) (E 2) g u v = ((light N E ![g * u, g * 5, g * v] : ℝ) : EReal) := by
  unfold kLight light pow16
  simp only [← EReal.coe_mul, ← EReal.coe_add, ← EReal.coe_sub, coe_max, dot3, Matrix.cons_val_zero, Matrix.cons_val_one,
    Matrix.cons_val]
  congr 1
  ring_nf

/-- The kernel's root, where the ray meets the sphere. -/
theorem kRoot_hit {p cc : ℝ} (h : 0 ≤ p * p - cc) :
    kRoot p cc = ((p - Real.sqrt (p * p - cc) : ℝ) : EReal) := by
  unfold kRoot
  rw [← EReal.coe_mul, ← EReal.coe_sub, Ideal.rsqrt_coe, if_neg (not_lt.mpr h)]
  split_ifs with h0
  · rw [h0]; simp
  · have hp : 0 < p * p - cc := lt_of_le_of_ne h (Ne.symm h0)
    rw [← EReal.coe_mul, ← EReal.coe_sub]
    congr 2
    have hs := Real.mul_self_sqrt h
    have hq : Real.sqrt (p * p - cc) ≠ 0 := (Real.sqrt_pos.mpr hp).ne'
    rw [← div_eq_mul_inv, div_eq_iff hq, hs]

/-- A vector times the reciprocal square root of its squared length, zero where it is zero. -/
theorem rsqrt_over (a : Fin 3 → ℝ) (k : Fin 3) :
    ((a k : ℝ) : EReal) * Ideal.rsqrt (((dot3 a a : ℝ)) : EReal) = ((a k / Real.sqrt (dot3 a a) : ℝ) : EReal) := by
  have h0 : 0 ≤ dot3 a a := by
    unfold dot3; nlinarith [mul_self_nonneg (a 0), mul_self_nonneg (a 1), mul_self_nonneg (a 2)]
  rw [Ideal.rsqrt_coe, if_neg (not_lt.mpr h0)]
  split_ifs with h
  · have : a k = 0 := by
      have h1 := mul_self_nonneg (a 0)
      have h2 := mul_self_nonneg (a 1)
      have h3 := mul_self_nonneg (a 2)
      unfold dot3 at h
      fin_cases k
      · exact mul_self_eq_zero.mp (by show a 0 * a 0 = 0; linarith)
      · exact mul_self_eq_zero.mp (by show a 1 * a 1 = 0; linarith)
      · exact mul_self_eq_zero.mp (by show a 2 * a 2 = 0; linarith)
    rw [this]; simp
  · rw [← EReal.coe_mul, div_eq_mul_inv]

/-- The vector to the light times the reciprocal square root of its squared length is the direction to the light. -/
theorem rsqrt_toward (L : Fin 3 → EReal) (H : Fin 3 → ℝ) (k : Fin 3) :
    (L k - (H k : ℝ)) * Ideal.rsqrt ((L 0 - (H 0 : ℝ)) * (L 0 - (H 0 : ℝ)) + (L 1 - (H 1 : ℝ)) * (L 1 - (H 1 : ℝ))
      + (L 2 - (H 2 : ℝ)) * (L 2 - (H 2 : ℝ))) = ((toward L H k : ℝ) : EReal) := by
  unfold toward
  split_ifs with near
  · have e : ∀ k, L k - ((H k : ℝ) : EReal) = (((pos L - H) k : ℝ) : EReal) := fun k => by
      rw [near k, ← EReal.coe_sub]; rfl
    simp only [e, ← EReal.coe_mul, ← EReal.coe_add]
    exact rsqrt_over (pos L - H) k
  · rw [far_sq L H near, Ideal.rsqrt_top, mul_zero]; rfl

/-- The kernel's signed length times the direction is the unit vector from the hit point to the camera. -/
theorem signed (i t d : ℝ) (ht : t ≠ 0) :
    (0 - if t < 0 then 0 - i else i) * d = -(t * (d * i)) / |t| := by
  rcases lt_or_gt_of_ne ht with h | h
  · rw [if_pos h, abs_of_neg h]; field_simp; ring
  · rw [if_neg (not_lt.mpr h.le), abs_of_pos h]; field_simp; ring

/-- Where the ray meets the sphere, the kernel's share of light is the share of light. -/
theorem kShare_hit (u v : ℝ) (c : Fin 3 → ℝ) (L : Fin 3 → EReal) (r : ℝ) (h : 0 ≤ disc (dir u v) c r) (ok : Ok c r L) :
    kShare u v (inv u v) (root (dir u v) c r) (c 0) (c 1) (c 2) (L 0) (L 1) (L 2)
      = ((share (dir u v) c r L : ℝ) : EReal) := by
  have hd := dir_unit u v
  have hn := hit_len hd h ok
  have htf := t_far hd h ok
  have ht : root (dir u v) c r ≠ 0 := fun e => by
    rw [e, abs_zero] at htf; exact absurd htf (not_le.mpr eps_pos)
  unfold share
  generalize root (dir u v) c r = t at *
  have hi := inv_pos u v
  have a0 : t * inv u v * u = at3 (dir u v) t 0 := by
    simp only [at3, dir, Matrix.cons_val_zero]; ring
  have a1 : t * inv u v * 5 = at3 (dir u v) t 1 := by
    simp only [at3, dir, Matrix.cons_val_one]; simp; ring
  have a2 : t * inv u v * v = at3 (dir u v) t 2 := by
    simp only [at3, dir, Matrix.cons_val]; ring
  have m1 : max ((inv u v : ℝ) : EReal) (-((inv u v : ℝ) : EReal)) = ((inv u v : ℝ) : EReal) := by
    rw [← EReal.coe_neg, coe_max, max_eq_left (by linarith)]
  have g1 : ((0 : ℝ) : EReal) - Scalar.select (Ideal.cmp .olt ((t : ℝ) : EReal) ((0 : ℝ) : EReal)) ((0 - inv u v : ℝ) : EReal) ((inv u v : ℝ) : EReal)
      = ((0 - (if t < 0 then 0 - inv u v else inv u v) : ℝ) : EReal) := by
    rw [select_olt]
    simp only [EReal.coe_lt_coe_iff]
    split_ifs <;> rw [← EReal.coe_sub]
  unfold kShare
  simp only [m1, g1, ← EReal.coe_mul, ← EReal.coe_add, ← EReal.coe_sub, a0, a1, a2]
  generalize at3 (dir u v) t = H at *
  have n0 : ∀ k, H k - c k = (H - c) k := fun _ => rfl
  have nd : (H - c) 0 * (H - c) 0 + (H - c) 1 * (H - c) 1 + (H - c) 2 * (H - c) 2 = dot3 (H - c) (H - c) := rfl
  simp only [n0, nd, rsqrt_over, hn, rsqrt_toward]
  rw [show ∀ n0 n1 n2 e0 e1 e2 g u v : ℝ, kLight n0 n1 n2 e0 e1 e2 g u v
    = ((light ![n0, n1, n2] ![e0, e1, e2] ![g * u, g * 5, g * v] : ℝ) : EReal) from
      fun n0 n1 n2 e0 e1 e2 g u v => kLight_coe ![n0, n1, n2] ![e0, e1, e2] g u v]
  congr 2
  · funext k; fin_cases k <;> rfl
  · funext k; fin_cases k <;> rfl
  · funext k
    fin_cases k
    · refine (signed (inv u v) t u ht).trans ?_
      show _ = -H 0 / |t|
      rw [← a0]; ring
    · refine (signed (inv u v) t 5 ht).trans ?_
      show _ = -H 1 / |t|
      rw [← a1]; ring
    · refine (signed (inv u v) t v ht).trans ?_
      show _ = -H 2 / |t|
      rw [← a2]; ring

/-! ## The nearest sphere -/

/-- One step of the search: sphere `s` takes the lead if it is strictly nearer. -/
def lead (T : Fin 8 → EReal) (w s : Fin 8) : Fin 8 := if T s < T w then s else w

/-- The first of the nearest spheres. -/
def win (T : Fin 8 → EReal) : Fin 8 :=
  lead T (lead T (lead T (lead T (lead T (lead T (lead T 0 1) 2) 3) 4) 5) 6) 7

/-- A step of the search keeps the leader nearest: if `w` leads the spheres before `s`, then after the step the leader leads those up to `s`. -/
theorem lead_spec (T : Fin 8 → EReal) (w s : Fin 8)
    (h : (w < s) ∧ ∀ j < s, T w ≤ T j ∧ (j < w → T w < T j)) :
    (lead T w s ≤ s) ∧ ∀ j ≤ s, T (lead T w s) ≤ T j ∧ (j < lead T w s → T (lead T w s) < T j) := by
  obtain ⟨h1, h2⟩ := h
  unfold lead
  split_ifs with hc
  · refine ⟨le_rfl, fun j hj => ?_⟩
    rcases lt_or_eq_of_le hj with hj | rfl
    · have := hc.trans_le (h2 j hj).1
      exact ⟨this.le, fun _ => this⟩
    · exact ⟨le_rfl, fun h => absurd h (lt_irrefl _)⟩
  · refine ⟨h1.le, fun j hj => ?_⟩
    rcases lt_or_eq_of_le hj with hj | rfl
    · exact h2 j hj
    · exact ⟨not_lt.mp hc, fun h => absurd h (not_lt.mpr h1.le)⟩

/-- No sphere is nearer than the leader, and those before it are strictly farther. -/
theorem win_spec (T : Fin 8 → EReal) : ∀ j, T (win T) ≤ T j ∧ (j < win T → T (win T) < T j) := by
  have nxt : ∀ (w s s' : Fin 8), (∀ j, j < s' ↔ j ≤ s) →
      ((w ≤ s) ∧ ∀ j ≤ s, T w ≤ T j ∧ (j < w → T w < T j)) →
      ((w < s') ∧ ∀ j < s', T w ≤ T j ∧ (j < w → T w < T j)) :=
    fun w s s' e h => ⟨(e w).mpr h.1, fun j hj => h.2 j ((e j).mp hj)⟩
  have h1 := lead_spec T 0 1 ⟨by decide, fun j hj => by
    have : j = 0 := by revert hj; revert j; decide
    subst this
    exact ⟨le_rfl, fun h => absurd h (lt_irrefl _)⟩⟩
  have h2 := lead_spec T _ 2 (nxt _ 1 2 (by decide) h1)
  have h3 := lead_spec T _ 3 (nxt _ 2 3 (by decide) h2)
  have h4 := lead_spec T _ 4 (nxt _ 3 4 (by decide) h3)
  have h5 := lead_spec T _ 5 (nxt _ 4 5 (by decide) h4)
  have h6 := lead_spec T _ 6 (nxt _ 5 6 (by decide) h5)
  have h7 := lead_spec T _ 7 (nxt _ 6 7 (by decide) h6)
  exact fun j => h7.2 j (Fin.le_last j)

/-! ## The pixel -/

/-- The upper color of the background. -/
def top : Fin 3 → ℝ := ![1 / 2, sky, 1]

/-- The result at one pixel: `g` runs from -1 at the top row to 1 at the bottom one. -/
def pixel (u v g : ℝ) (c : Fin 8 → Fin 3 → EReal) (r : Fin 8 → ℝ) (L : Fin 3 → EReal) (col : Fin 8 → Fin 3 → EReal)
    (lc : Fin 3 → EReal) (k : Fin 3) : EReal :=
  let T : Fin 8 → EReal := fun s => meet (dir u v) (c s) (r s)
  if T (win T) < ⊤ then
    min 1 (max 0 (((share (dir u v) (pos (c (win T))) (r (win T)) L : ℝ) : EReal) * (col (win T) k * lc k)))
  else (((1 - g) * top k + g : ℝ) : EReal)

end RayTrace

end
-- ==== Proof.Walk.lean ====
/- The kernel's search for the nearest sphere at one element, over the extended reals: the root of each sphere, and the
   selections by which a nearer sphere takes the lead. -/
module

public import proofs.«01_k».proof.Proof.Shade
public import Idealize.ShloMosaic.Lib.Pointwise
public import Idealize.ShloMosaic.Lib.Claim

@[expose] public section

noncomputable section

namespace RayTrace

open Idealize.ShloMosaic

/-- The projection of sphere `s`'s center: the parameters are `A s 0 = c0`, `A s 1 = 5 c1`, `A s 2 = c2`. -/
def kQ (U V I : EReal) (A : Fin 8 → Fin 8 → EReal) (s : Fin 8) : EReal := (((U * (A s 0)) + (V * (A s 2))) + (A s 1)) * I
/-- The discriminant of sphere `s`. -/
def kD (U V I : EReal) (A : Fin 8 → Fin 8 → EReal) (s : Fin 8) : EReal := kQ U V I A s * kQ U V I A s - A s 3
/-- The root of sphere `s`. -/
def kR (U V I : EReal) (A : Fin 8 → Fin 8 → EReal) (s : Fin 8) : EReal :=
  kQ U V I A s - kD U V I A s * Ideal.rsqrt (kD U V I A s)

/-- A parameter of the leader after sphere `s`. -/
theorem sel {T : Fin 8 → EReal} {w s w' : Fin 8} (g : lead T w s = w') (f : Fin 8 → EReal) :
    Scalar.select (Ideal.cmp .olt (T s) (T w)) (f s) (f w) = f w' := by
  rw [select_olt, ← g]; unfold lead; split_ifs <;> rfl

/-- The root of the leader after sphere `s`. -/
theorem best {T R : Fin 8 → EReal} {w s w' : Fin 8} (g : lead T w s = w') (hR : ∀ s w, T s < T w → R s = T s) :
    Scalar.select (Ideal.cmp .olt (T s) (T w)) (R s) (T w) = T w' := by
  rw [select_olt, ← g]; unfold lead
  by_cases h : T s < T w
  · simp only [h, if_true]; exact hR s w h
  · simp only [h, if_false]

/-! ## At the parameters of a scene -/

/-- The parameters the host hands to the kernel: for each sphere its center (the second component fivefold), the excess of
    the center's squared length over the squared radius, the color times the light's, and the center's second component. -/
def par (c : Fin 8 → Fin 3 → EReal) (r : Fin 8 → ℝ) (col : Fin 8 → Fin 3 → EReal) (lc : Fin 3 → EReal) : Fin 8 → Fin 8 → EReal :=
  fun s => ![c s 0, c s 1 * ((5 : ℝ) : EReal), c s 2,
    c s 0 * c s 0 + c s 1 * c s 1 + c s 2 * c s 2 - ((r s : ℝ) : EReal) * ((r s : ℝ) : EReal),
    col s 0 * lc 0, col s 1 * lc 1, col s 2 * lc 2, c s 1]

section
variable (u v : ℝ) (c : Fin 8 → Fin 3 → EReal) (r : Fin 8 → ℝ) (col : Fin 8 → Fin 3 → EReal) (lc : Fin 3 → EReal)

/-- Where the ray of the pixel meets each sphere. -/
def meets : Fin 8 → EReal := fun s => meet (dir u v) (c s) (r s)

/-- The kernel's projection of a center on the line of sight is the dot product. -/
theorem kQ_par (s : Fin 8) (near : Near (c s)) :
    kQ u v (inv u v) (par c r col lc) s = ((dot3 (dir u v) (pos (c s)) : ℝ) : EReal) := by
  obtain ⟨p, hp⟩ : ∃ p, pos (c s) = p := ⟨_, rfl⟩
  have e : ∀ k, c s k = ((p k : ℝ) : EReal) := fun k => (near k).trans (by rw [← hp]; rfl)
  rw [hp]
  unfold kQ par
  simp only [Matrix.cons_val_zero, Matrix.cons_val_one, Matrix.cons_val, e]
  simp only [← EReal.coe_mul, ← EReal.coe_add]
  congr 1
  simp only [dot3, dir, Matrix.cons_val_zero, Matrix.cons_val_one, Matrix.cons_val]
  ring

/-- The kernel's discriminant is the discriminant. -/
theorem kD_par (s : Fin 8) (near : Near (c s)) :
    kD u v (inv u v) (par c r col lc) s = ((disc (dir u v) (pos (c s)) (r s) : ℝ) : EReal) := by
  unfold kD
  rw [kQ_par u v c r col lc s near]
  obtain ⟨p, hp⟩ : ∃ p, pos (c s) = p := ⟨_, rfl⟩
  have e : ∀ k, c s k = ((p k : ℝ) : EReal) := fun k => (near k).trans (by rw [← hp]; rfl)
  rw [hp, show par c r col lc s 3 = c s 0 * c s 0 + c s 1 * c s 1 + c s 2 * c s 2 - ((r s : ℝ) : EReal) * ((r s : ℝ) : EReal) from rfl]
  simp only [e, ← EReal.coe_mul, ← EReal.coe_add, ← EReal.coe_sub]
  rfl

/-- Of a sphere at infinity the kernel's discriminant is minus infinity. -/
theorem kD_far (s : Fin 8) (far : ¬Near (c s)) : kD u v (inv u v) (par c r col lc) s = ⊥ := by
  unfold kD
  rw [show par c r col lc s 3 = c s 0 * c s 0 + c s 1 * c s 1 + c s 2 * c s 2 - ((r s : ℝ) : EReal) * ((r s : ℝ) : EReal) from rfl,
    far_len (c s) far, ← EReal.coe_mul, EReal.top_sub_coe, EReal.sub_top]

/-- The kernel's discriminant is not negative where the ray meets the sphere. -/
theorem kD_met (s : Fin 8) : ((0 : ℝ) : EReal) ≤ kD u v (inv u v) (par c r col lc) s ↔ Met (dir u v) (c s) (r s) := by
  by_cases near : Near (c s)
  · rw [kD_par u v c r col lc s near, EReal.coe_le_coe_iff]
    exact ⟨fun h => ⟨near, h⟩, fun h => h.2⟩
  · rw [kD_far u v c r col lc s near]
    exact ⟨fun h => absurd h (not_le.mpr (EReal.bot_lt_coe 0)), fun h => absurd h.1 near⟩

/-- Where the ray meets the sphere, the kernel's root is the parameter at which it does. -/
theorem kR_par (s : Fin 8) (h : Met (dir u v) (c s) (r s)) :
    kR u v (inv u v) (par c r col lc) s = meets u v c r s := by
  have e := kRoot_hit (p := dot3 (dir u v) (pos (c s))) (cc := dot3 (pos (c s)) (pos (c s)) - r s * r s) h.2
  unfold kRoot at e
  unfold kR meets meet
  rw [if_pos h, kD_par u v c r col lc s h.1, kQ_par u v c r col lc s h.1]
  rw [← EReal.coe_mul, ← EReal.coe_sub] at e
  exact e

/-- A sphere met before some parameter is met, and at its nearer root. -/
theorem meets_lt {s : Fin 8} {a : EReal} (h : meets u v c r s < a) :
    Met (dir u v) (c s) (r s) ∧ meets u v c r s = ((root (dir u v) (pos (c s)) (r s) : ℝ) : EReal) := by
  unfold meets meet at *
  split_ifs at h ⊢ with hd
  · exact ⟨hd, rfl⟩
  · exact absurd h not_top_lt

/-- The search starts from where the ray meets the first sphere, infinity where it misses. -/
theorem first_par : Scalar.select (Ideal.cmp .oge (kD u v (inv u v) (par c r col lc) 0) ((0 : ℝ) : EReal))
    (kR u v (inv u v) (par c r col lc) 0) ⊤ = meets u v c r 0 := by
  rw [select_oge]
  by_cases h : Met (dir u v) (c 0) (r 0)
  · rw [if_pos ((kD_met u v c r col lc 0).mpr h)]
    exact kR_par u v c r col lc 0 h
  · rw [if_neg (mt (kD_met u v c r col lc 0).mp h)]
    unfold meets meet; rw [if_neg h]

/-- The kernel's root of a sphere nearer than another is the parameter at which the ray meets it. -/
theorem near_par (s w : Fin 8) (h : meets u v c r s < meets u v c r w) :
    kR u v (inv u v) (par c r col lc) s = meets u v c r s :=
  kR_par u v c r col lc s (meets_lt u v c r h).1

/-- The comparison alone decides, where the ray meets the spheres after the first. -/
theorem mask_met (hm : ∀ s : Fin 8, s ≠ 0 → Met (dir u v) (c s) (r s)) (s : Fin 8) (hs : s ≠ 0) (w : Fin 8) :
    Ideal.cmp .olt (kR u v (inv u v) (par c r col lc) s) (meets u v c r w)
      = Ideal.cmp .olt (meets u v c r s) (meets u v c r w) := by
  rw [kR_par u v c r col lc s (hm s hs)]

/-- The comparison under its guard decides everywhere. -/
theorem mask_guarded (s w : Fin 8) :
    IntOp.andi (Ideal.cmp .oge (kD u v (inv u v) (par c r col lc) s) ((0 : ℝ) : EReal))
      (Ideal.cmp .olt (kR u v (inv u v) (par c r col lc) s) (meets u v c r w))
      = Ideal.cmp .olt (meets u v c r s) (meets u v c r w) := by
  have hk := kD_met u v c r col lc s
  by_cases h : Met (dir u v) (c s) (r s)
  · rw [kR_par u v c r col lc s h]
    have : Ideal.cmp .oge (kD u v (inv u v) (par c r col lc) s) ((0 : ℝ) : EReal) = 1#1 := by
      unfold Ideal.cmp; simp only [hk.mpr h]; rfl
    rw [this]
    unfold IntOp.andi
    generalize Ideal.cmp .olt (meets u v c r s) (meets u v c r w) = b
    revert b; decide
  · have h1 : Ideal.cmp .oge (kD u v (inv u v) (par c r col lc) s) ((0 : ℝ) : EReal) = 0#1 := by
      unfold Ideal.cmp; simp only [mt hk.mp h]; rfl
    have h2 : Ideal.cmp .olt (meets u v c r s) (meets u v c r w) = 0#1 := by
      have : meets u v c r s = ⊤ := by unfold meets meet; rw [if_neg h]
      rw [this]; unfold Ideal.cmp; simp
    rw [h1, h2]
    unfold IntOp.andi
    generalize Ideal.cmp .olt (kR u v (inv u v) (par c r col lc) s) (meets u v c r w) = b
    revert b; decide

variable (L : Fin 3 → EReal) (g : ℝ)

/-- The kernel's last selection is the pixel, whatever stands for the background if only it is of that value. -/
theorem final_par (ok : ∀ s, Near (c s) → Ok (pos (c s)) (r s) L) (k : Fin 3) (q : Fin 8) (bg : EReal)
    (hq : ∀ w, par c r col lc w q = col w k * lc k) (hb : bg = (((1 - g) * top k + g : ℝ) : EReal)) :
    Scalar.select (Ideal.cmp .olt (meets u v c r (win (meets u v c r))) ⊤)
      (min ((1 : ℝ) : EReal) (max ((0 : ℝ) : EReal)
        (kShare u v (inv u v) (meets u v c r (win (meets u v c r))) (par c r col lc (win (meets u v c r)) 0)
          (par c r col lc (win (meets u v c r)) 7) (par c r col lc (win (meets u v c r)) 2) (L 0) (L 1) (L 2)
          * par c r col lc (win (meets u v c r)) q))) bg
      = pixel u v g c r L col lc k := by
  rw [select_olt]
  show _ = if meets u v c r (win (meets u v c r)) < ⊤ then _ else _
  split_ifs with h
  · obtain ⟨hd, e⟩ := meets_lt u v c r h
    rw [hq, e]
    have := kShare_hit u v (pos (c (win (meets u v c r)))) L (r (win (meets u v c r))) hd.2 (ok _ hd.1)
    rw [show par c r col lc (win (meets u v c r)) 0 = ((pos (c (win (meets u v c r))) 0 : ℝ) : EReal) from hd.1 0,
      show par c r col lc (win (meets u v c r)) 7 = ((pos (c (win (meets u v c r))) 1 : ℝ) : EReal) from hd.1 1,
      show par c r col lc (win (meets u v c r)) 2 = ((pos (c (win (meets u v c r))) 2 : ℝ) : EReal) from hd.1 2, this]
    rfl
  · exact hb

end

/-! ## The background -/

/-- The kernel's red of the background is the blend of the sky's two reds. -/
theorem background0 (g : ℝ) : ((((1 : ℝ) : EReal) - ((g : ℝ) : EReal)) * ((1 / 2 : ℝ) : EReal)) + ((g : ℝ) : EReal)
    = (((1 - g) * top 0 + g : ℝ) : EReal) := by
  simp only [← EReal.coe_mul, ← EReal.coe_add, ← EReal.coe_sub]; rfl

/-- The kernel's green of the background is the blend of the sky's two greens. -/
theorem background1 (g : ℝ) : ((((1 : ℝ) : EReal) - ((g : ℝ) : EReal)) * ((sky : ℝ) : EReal)) + ((g : ℝ) : EReal)
    = (((1 - g) * top 1 + g : ℝ) : EReal) := by
  simp only [← EReal.coe_mul, ← EReal.coe_add, ← EReal.coe_sub]; rfl

/-- The kernel's blue of the background is the blend of the sky's two blues. -/
theorem background2 (g : ℝ) : (((1 : ℝ) : EReal) - ((g : ℝ) : EReal)) + ((g : ℝ) : EReal)
    = (((1 - g) * top 2 + g : ℝ) : EReal) := by
  simp only [← EReal.coe_add, ← EReal.coe_sub]
  congr 1
  show _ = (1 - g) * 1 + g
  ring

end RayTrace

end
-- ==== Proof.BodyK.lean ====
/- The kernel's body read at one element of a block: the payloads of its skeleton one after another, each from the values
   of those before it. -/
module

public import proofs.«01_k».proof.Proof.Walk
public import proofs.«01_k».proof.Proof.Gen.KernelIdeal.Skeleton

@[expose] public section

noncomputable section

namespace Cert.KernelIdeal.Gen

open Idealize.ShloMosaic RayTrace

/-- The pixel pitch, as the idealized program names it. -/
theorem w_pitch : Named.named (F := Ideal) (φ := .f32) κ "pitch" 0x3B002008#32 = ((2 / 1023 : ℝ) : EReal) :=
  IdealRules.named_const.ideal_named_scalar _ _ _ _ rfl

set_option maxHeartbeats 2000000 in
/-- The three stores at one element. `U V I Y` are the values there of the line of sight, its reciprocal length and the
    row; `A s k` is parameter `k` of sphere `s`, `L` the light; `T s` is where the ray meets sphere `s`, and `w1` to `w7`
    are the leaders after each sphere. -/
theorem body (i : grid0.Coords) (x : S128x1024.Idx) (y : S1x128x1024.Idx)
    (hy : ∀ a : FVec Ideal S128x1024 .f32, shapeCast S1x128x1024 a shapeCasts_S128x1024_S1x128x1024 y = a x)
    {U V I Y : EReal} {A : Fin 8 → Fin 8 → EReal} {L : Fin 3 → EReal} {T : Fin 8 → EReal}
    (hU : k0_pay2 (F := Ideal) x = U) (hV : k0_pay3 (F := Ideal) i x = V) (hI : k0_pay4 (F := Ideal) i x = I) (hY : k0_pay1 (F := Ideal) i x = Y)
    (first : Scalar.select (Ideal.cmp .oge (kD U V I A 0) ((0 : ℝ) : EReal)) (kR U V I A 0) ⊤ = T 0)
    (hR : ∀ s w, T s < T w → kR U V I A s = T s)
    (msk : ∀ s, s ≠ 0 → ∀ w, Ideal.cmp .olt (kR U V I A s) (T w) = Ideal.cmp .olt (T s) (T w))
    {w1 w2 w3 w4 w5 w6 w7 : Fin 8}
    (g1 : lead T 0 1 = w1)
    (g2 : lead T w1 2 = w2)
    (g3 : lead T w2 3 = w3)
    (g4 : lead T w3 4 = w4)
    (g5 : lead T w4 5 = w5)
    (g6 : lead T w5 6 = w6)
    (g7 : lead T w6 7 = w7)
    {v40 : FVec Ideal S128x1024 .f32} (ev40 : v40 = k0_pay6 (F := Ideal) i (A 0 0) (A 0 1) (A 0 2) (A 0 3))
    {v43 : FVec Ideal S128x1024 .f32} (ev43 : v43 = k0_pay7 (F := Ideal) i (A 0 0) (A 0 1) (A 0 2) (A 0 3))
    {v77 : FVec Ideal S128x1024 .f32} (ev77 : v77 = k0_pay11 (F := Ideal) (k0_pay2 (F := Ideal)) (k0_pay3 (F := Ideal) i) (k0_pay4 (F := Ideal) i) v40 v43 (Ideal.ofBits .f32 0x00000000#32) (A 1 0) (A 1 1) (A 1 2) (A 1 3))
    {v79 : FVec Ideal S128x1024 .f32} (ev79 : v79 = k0_pay12 (F := Ideal) (k0_pay2 (F := Ideal)) (k0_pay3 (F := Ideal) i) (k0_pay4 (F := Ideal) i) (A 0 0) v40 v43 (Ideal.ofBits .f32 0x00000000#32) (A 1 0) (A 1 1) (A 1 2) (A 1 3))
    {v81 : FVec Ideal S128x1024 .f32} (ev81 : v81 = k0_pay13 (F := Ideal) (k0_pay2 (F := Ideal)) (k0_pay3 (F := Ideal) i) (k0_pay4 (F := Ideal) i) (A 0 7) v40 v43 (Ideal.ofBits .f32 0x00000000#32) (A 1 0) (A 1 1) (A 1 2) (A 1 3) (A 1 7))
    {v83 : FVec Ideal S128x1024 .f32} (ev83 : v83 = k0_pay14 (F := Ideal) (k0_pay2 (F := Ideal)) (k0_pay3 (F := Ideal) i) (k0_pay4 (F := Ideal) i) (A 0 2) v40 v43 (Ideal.ofBits .f32 0x00000000#32) (A 1 0) (A 1 1) (A 1 2) (A 1 3))
    {v85 : FVec Ideal S128x1024 .f32} (ev85 : v85 = k0_pay15 (F := Ideal) (k0_pay2 (F := Ideal)) (k0_pay3 (F := Ideal) i) (k0_pay4 (F := Ideal) i) (A 0 4) v40 v43 (Ideal.ofBits .f32 0x00000000#32) (A 1 0) (A 1 1) (A 1 2) (A 1 3) (A 1 4))
    {v87 : FVec Ideal S128x1024 .f32} (ev87 : v87 = k0_pay16 (F := Ideal) (k0_pay2 (F := Ideal)) (k0_pay3 (F := Ideal) i) (k0_pay4 (F := Ideal) i) (A 0 5) v40 v43 (Ideal.ofBits .f32 0x00000000#32) (A 1 0) (A 1 1) (A 1 2) (A 1 3) (A 1 5))
    {v89 : FVec Ideal S128x1024 .f32} (ev89 : v89 = k0_pay17 (F := Ideal) (k0_pay2 (F := Ideal)) (k0_pay3 (F := Ideal) i) (k0_pay4 (F := Ideal) i) (A 0 6) v40 v43 (Ideal.ofBits .f32 0x00000000#32) (A 1 0) (A 1 1) (A 1 2) (A 1 3) (A 1 6))
    {v113 : FVec Ideal S128x1024 .f32} (ev113 : v113 = k0_pay20 (F := Ideal) (k0_pay2 (F := Ideal)) (k0_pay3 (F := Ideal) i) (k0_pay4 (F := Ideal) i) v77 (A 2 0) (A 2 1) (A 2 2) (A 2 3))
    {v115 : FVec Ideal S128x1024 .f32} (ev115 : v115 = k0_pay21 (F := Ideal) (k0_pay2 (F := Ideal)) (k0_pay3 (F := Ideal) i) (k0_pay4 (F := Ideal) i) v77 v79 (A 2 0) (A 2 1) (A 2 2) (A 2 3))
    {v117 : FVec Ideal S128x1024 .f32} (ev117 : v117 = k0_pay22 (F := Ideal) (k0_pay2 (F := Ideal)) (k0_pay3 (F := Ideal) i) (k0_pay4 (F := Ideal) i) v77 v81 (A 2 0) (A 2 1) (A 2 2) (A 2 3) (A 2 7))
    {v119 : FVec Ideal S128x1024 .f32} (ev119 : v119 = k0_pay23 (F := Ideal) (k0_pay2 (F := Ideal)) (k0_pay3 (F := Ideal) i) (k0_pay4 (F := Ideal) i) v77 v83 (A 2 0) (A 2 1) (A 2 2) (A 2 3))
    {v121 : FVec Ideal S128x1024 .f32} (ev121 : v121 = k0_pay24 (F := Ideal) (k0_pay2 (F := Ideal)) (k0_pay3 (F := Ideal) i) (k0_pay4 (F := Ideal) i) v77 v85 (A 2 0) (A 2 1) (A 2 2) (A 2 3) (A 2 4))
    {v123 : FVec Ideal S128x1024 .f32} (ev123 : v123 = k0_pay25 (F := Ideal) (k0_pay2 (F := Ideal)) (k0_pay3 (F := Ideal) i) (k0_pay4 (F := Ideal) i) v77 v87 (A 2 0) (A 2 1) (A 2 2) (A 2 3) (A 2 5))
    {v125 : FVec Ideal S128x1024 .f32} (ev125 : v125 = k0_pay26 (F := Ideal) (k0_pay2 (F := Ideal)) (k0_pay3 (F := Ideal) i) (k0_pay4 (F := Ideal) i) v77 v89 (A 2 0) (A 2 1) (A 2 2) (A 2 3) (A 2 6))
    {v138 : FVec Ideal S128x1024 .f32} (ev138 : v138 = k0_pay27 (F := Ideal) (k0_pay2 (F := Ideal)) (k0_pay3 (F := Ideal) i) (A 3 0) (A 3 2))
    {v155 : FVec Ideal S128x1024 .f32} (ev155 : v155 = k0_pay31 (F := Ideal) (k0_pay4 (F := Ideal) i) v113 v119 (A 3 1) (A 3 2) (A 3 3) v138)
    {v157 : FVec Ideal S128x1024 .f32} (ev157 : v157 = k0_pay32 (F := Ideal) (k0_pay4 (F := Ideal) i) v113 v121 (A 3 1) (A 3 3) (A 3 4) v138)
    {v159 : FVec Ideal S128x1024 .f32} (ev159 : v159 = k0_pay33 (F := Ideal) (k0_pay4 (F := Ideal) i) v113 v123 (A 3 1) (A 3 3) (A 3 5) v138)
    {v161 : FVec Ideal S128x1024 .f32} (ev161 : v161 = k0_pay34 (F := Ideal) (k0_pay4 (F := Ideal) i) v113 v125 (A 3 1) (A 3 3) (A 3 6) v138)
    {v184 : IVec S128x1024 1} (ev184 : v184 = k0_pay36 (F := Ideal) (k0_pay2 (F := Ideal)) (k0_pay3 (F := Ideal) i) (k0_pay4 (F := Ideal) i) v113 (A 3 1) (A 3 3) v138 (A 4 0) (A 4 1) (A 4 2) (A 4 3))
    {v185 : FVec Ideal S128x1024 .f32} (ev185 : v185 = k0_pay37 (F := Ideal) (k0_pay2 (F := Ideal)) (k0_pay3 (F := Ideal) i) (k0_pay4 (F := Ideal) i) v113 (A 3 1) (A 3 3) v138 (A 4 0) (A 4 1) (A 4 2) (A 4 3))
    {v187 : FVec Ideal S128x1024 .f32} (ev187 : v187 = k0_pay38 (F := Ideal) (k0_pay2 (F := Ideal)) (k0_pay3 (F := Ideal) i) (k0_pay4 (F := Ideal) i) v113 v115 (A 3 0) (A 3 1) (A 3 3) v138 (A 4 0) (A 4 1) (A 4 2) (A 4 3))
    {v189 : FVec Ideal S128x1024 .f32} (ev189 : v189 = k0_pay39 (F := Ideal) (k0_pay2 (F := Ideal)) (k0_pay3 (F := Ideal) i) (k0_pay4 (F := Ideal) i) v113 v117 (A 3 1) (A 3 3) (A 3 7) v138 (A 4 0) (A 4 1) (A 4 2) (A 4 3) (A 4 7))
    {v190 : FVec Ideal S128x1024 .f32} (ev190 : v190 = k0_pay40 (F := Ideal) (A 4 2))
    {v221 : FVec Ideal S128x1024 .f32} (ev221 : v221 = k0_pay43 (F := Ideal) (k0_pay2 (F := Ideal)) (k0_pay3 (F := Ideal) i) (k0_pay4 (F := Ideal) i) v185 (A 5 0) (A 5 1) (A 5 2) (A 5 3))
    {v223 : FVec Ideal S128x1024 .f32} (ev223 : v223 = k0_pay44 (F := Ideal) (k0_pay2 (F := Ideal)) (k0_pay3 (F := Ideal) i) (k0_pay4 (F := Ideal) i) v185 v187 (A 5 0) (A 5 1) (A 5 2) (A 5 3))
    {v225 : FVec Ideal S128x1024 .f32} (ev225 : v225 = k0_pay45 (F := Ideal) (k0_pay2 (F := Ideal)) (k0_pay3 (F := Ideal) i) (k0_pay4 (F := Ideal) i) v185 v189 (A 5 0) (A 5 1) (A 5 2) (A 5 3) (A 5 7))
    {v227 : FVec Ideal S128x1024 .f32} (ev227 : v227 = k0_pay46 (F := Ideal) (k0_pay2 (F := Ideal)) (k0_pay3 (F := Ideal) i) (k0_pay4 (F := Ideal) i) v155 v184 v185 v190 (A 5 0) (A 5 1) (A 5 2) (A 5 3))
    {v229 : FVec Ideal S128x1024 .f32} (ev229 : v229 = k0_pay47 (F := Ideal) (k0_pay2 (F := Ideal)) (k0_pay3 (F := Ideal) i) (k0_pay4 (F := Ideal) i) v157 (A 4 4) v184 v185 (A 5 0) (A 5 1) (A 5 2) (A 5 3) (A 5 4))
    {v231 : FVec Ideal S128x1024 .f32} (ev231 : v231 = k0_pay48 (F := Ideal) (k0_pay2 (F := Ideal)) (k0_pay3 (F := Ideal) i) (k0_pay4 (F := Ideal) i) v159 (A 4 5) v184 v185 (A 5 0) (A 5 1) (A 5 2) (A 5 3) (A 5 5))
    {v233 : FVec Ideal S128x1024 .f32} (ev233 : v233 = k0_pay49 (F := Ideal) (k0_pay2 (F := Ideal)) (k0_pay3 (F := Ideal) i) (k0_pay4 (F := Ideal) i) v161 (A 4 6) v184 v185 (A 5 0) (A 5 1) (A 5 2) (A 5 3) (A 5 6))
    {v257 : FVec Ideal S128x1024 .f32} (ev257 : v257 = k0_pay52 (F := Ideal) (k0_pay2 (F := Ideal)) (k0_pay3 (F := Ideal) i) (k0_pay4 (F := Ideal) i) v221 (A 6 0) (A 6 1) (A 6 2) (A 6 3))
    {v259 : FVec Ideal S128x1024 .f32} (ev259 : v259 = k0_pay53 (F := Ideal) (k0_pay2 (F := Ideal)) (k0_pay3 (F := Ideal) i) (k0_pay4 (F := Ideal) i) v221 v223 (A 6 0) (A 6 1) (A 6 2) (A 6 3))
    {v261 : FVec Ideal S128x1024 .f32} (ev261 : v261 = k0_pay54 (F := Ideal) (k0_pay2 (F := Ideal)) (k0_pay3 (F := Ideal) i) (k0_pay4 (F := Ideal) i) v221 v225 (A 6 0) (A 6 1) (A 6 2) (A 6 3) (A 6 7))
    {v263 : FVec Ideal S128x1024 .f32} (ev263 : v263 = k0_pay55 (F := Ideal) (k0_pay2 (F := Ideal)) (k0_pay3 (F := Ideal) i) (k0_pay4 (F := Ideal) i) v221 v227 (A 6 0) (A 6 1) (A 6 2) (A 6 3))
    {v265 : FVec Ideal S128x1024 .f32} (ev265 : v265 = k0_pay56 (F := Ideal) (k0_pay2 (F := Ideal)) (k0_pay3 (F := Ideal) i) (k0_pay4 (F := Ideal) i) v221 v229 (A 6 0) (A 6 1) (A 6 2) (A 6 3) (A 6 4))
    {v267 : FVec Ideal S128x1024 .f32} (ev267 : v267 = k0_pay57 (F := Ideal) (k0_pay2 (F := Ideal)) (k0_pay3 (F := Ideal) i) (k0_pay4 (F := Ideal) i) v221 v231 (A 6 0) (A 6 1) (A 6 2) (A 6 3) (A 6 5))
    {v269 : FVec Ideal S128x1024 .f32} (ev269 : v269 = k0_pay58 (F := Ideal) (k0_pay2 (F := Ideal)) (k0_pay3 (F := Ideal) i) (k0_pay4 (F := Ideal) i) v221 v233 (A 6 0) (A 6 1) (A 6 2) (A 6 3) (A 6 6))
    {v285 : FVec Ideal S128x1024 .f32} (ev285 : v285 = k0_pay59 (F := Ideal) (k0_pay2 (F := Ideal)) (k0_pay3 (F := Ideal) i) (k0_pay4 (F := Ideal) i) (A 7 0) (A 7 1) (A 7 2))
    {v286 : FVec Ideal S128x1024 .f32} (ev286 : v286 = k0_pay60 (F := Ideal) (k0_pay2 (F := Ideal)) (k0_pay3 (F := Ideal) i) (k0_pay4 (F := Ideal) i) (A 7 0) (A 7 1) (A 7 2))
    {v293 : FVec Ideal S128x1024 .f32} (ev293 : v293 = k0_pay63 (F := Ideal) v257 (A 7 3) v285 v286)
    {v301 : FVec Ideal S128x1024 .f32} (ev301 : v301 = k0_pay64 (F := Ideal) v257 v265 (A 7 3) (A 7 4) v285 v286)
    {v303 : FVec Ideal S128x1024 .f32} (ev303 : v303 = k0_pay65 (F := Ideal) v257 v267 (A 7 3) (A 7 5) v285 v286)
    {v305 : FVec Ideal S128x1024 .f32} (ev305 : v305 = k0_pay66 (F := Ideal) v257 v269 (A 7 3) (A 7 6) v285 v286)
    {v310 : IVec S128x1024 1} (ev310 : v310 = k0_pay67 (F := Ideal) v257 (A 7 3) v285 v286)
    {v325 : FVec Ideal S128x1024 .f32} (ev325 : v325 = k0_pay76 (F := Ideal) (k0_pay2 (F := Ideal)) (k0_pay3 (F := Ideal) i) (k0_pay4 (F := Ideal) i) v257 v259 v261 v263 (A 7 0) (A 7 2) (A 7 3) (A 7 7) v285 v286)
    {v326 : FVec Ideal S128x1024 .f32} (ev326 : v326 = k0_pay77 (F := Ideal) (k0_pay2 (F := Ideal)) (k0_pay3 (F := Ideal) i) (k0_pay4 (F := Ideal) i) v257 v259 v261 v263 (A 7 0) (A 7 2) (A 7 3) (A 7 7) v285 v286)
    {v327 : FVec Ideal S128x1024 .f32} (ev327 : v327 = k0_pay78 (F := Ideal) (k0_pay2 (F := Ideal)) (k0_pay3 (F := Ideal) i) (k0_pay4 (F := Ideal) i) v257 v259 v261 v263 (A 7 0) (A 7 2) (A 7 3) (A 7 7) v285 v286)
    {v333 : FVec Ideal S128x1024 .f32} (ev333 : v333 = k0_pay81 (F := Ideal) (k0_pay3 (F := Ideal) i) (k0_pay4 (F := Ideal) i) v257 (A 7 3) v285 v286 (L 2))
    {v339 : FVec Ideal S128x1024 .f32} (ev339 : v339 = k0_pay82 (F := Ideal) (k0_pay2 (F := Ideal)) (k0_pay3 (F := Ideal) i) (k0_pay4 (F := Ideal) i) v257 (A 7 3) v285 v286 (L 0) (L 1) (L 2))
    {v340 : FVec Ideal S128x1024 .f32} (ev340 : v340 = k0_pay83 (F := Ideal) (k0_pay2 (F := Ideal)) (k0_pay3 (F := Ideal) i) (k0_pay4 (F := Ideal) i) v257 (A 7 3) v285 v286 (L 0) (L 1) (L 2))
    {v341 : FVec Ideal S128x1024 .f32} (ev341 : v341 = k0_pay84 (F := Ideal) (k0_pay2 (F := Ideal)) (k0_pay3 (F := Ideal) i) (k0_pay4 (F := Ideal) i) v257 (A 7 3) v285 v286 (L 0) (L 1) (L 2))
    {v390 : FVec Ideal S128x1024 .f32} (ev390 : v390 = k0_pay85 (F := Ideal) (k0_pay2 (F := Ideal)) (k0_pay3 (F := Ideal) i) (k0_pay4 (F := Ideal) i) v293 v325 v326 v327 v333 v339 v340 v341)
    {v392 : FVec Ideal S128x1024 .f32} (ev392 : v392 = k0_pay86 (F := Ideal) (k0_pay1 (F := Ideal) i))
    {s311 : EReal} (d311 : s311 = (T w7) * I)
    {s312 : EReal} (d312 : s312 = s311 * U)
    {s314 : EReal} (d314 : s314 = s311 * ((5 : ℝ) : EReal))
    {s315 : EReal} (d315 : s315 = s311 * V)
    {s316 : EReal} (d316 : s316 = s312 - (A w7 0))
    {s317 : EReal} (d317 : s317 = s314 - (A w7 7))
    {s318 : EReal} (d318 : s318 = s315 - (A w7 2))
    {s319 : EReal} (d319 : s319 = s316 * s316)
    {s320 : EReal} (d320 : s320 = s317 * s317)
    {s321 : EReal} (d321 : s321 = s319 + s320)
    {s322 : EReal} (d322 : s322 = s318 * s318)
    {s323 : EReal} (d323 : s323 = s321 + s322)
    {s324 : EReal} (d324 : s324 = Ideal.rsqrt s323)
    {s325 : EReal} (d325 : s325 = s316 * s324)
    {s326 : EReal} (d326 : s326 = s317 * s324)
    {s327 : EReal} (d327 : s327 = s318 * s324)
    {s329 : EReal} (d329 : s329 = (L 0) - s312)
    {s331 : EReal} (d331 : s331 = (L 1) - s314)
    {s333 : EReal} (d333 : s333 = (L 2) - s315)
    {s334 : EReal} (d334 : s334 = s329 * s329)
    {s335 : EReal} (d335 : s335 = s331 * s331)
    {s336 : EReal} (d336 : s336 = s334 + s335)
    {s337 : EReal} (d337 : s337 = s333 * s333)
    {s338 : EReal} (d338 : s338 = s336 + s337)
    {s339 : EReal} (d339 : s339 = Ideal.rsqrt s338)
    {s340 : EReal} (d340 : s340 = s329 * s339)
    {s341 : EReal} (d341 : s341 = s331 * s339)
    {s342 : EReal} (d342 : s342 = s333 * s339)
    {s352 : EReal} (d352 : s352 = Scalar.select (Ideal.cmp .olt (T w7) ((0 : ℝ) : EReal)) (((0 : ℝ) : EReal) - (max I (-I))) (max I (-I)))
    {s354 : EReal} (d354 : s354 = ((0 : ℝ) : EReal) - s352)
    {s355 : EReal} (d355 : s355 = s354 * U)
    {s357 : EReal} (d357 : s357 = s354 * ((5 : ℝ) : EReal))
    {s358 : EReal} (d358 : s358 = s354 * V)
    {s359 : EReal} (d359 : s359 = s325 * s340)
    {s360 : EReal} (d360 : s360 = s326 * s341)
    {s361 : EReal} (d361 : s361 = s359 + s360)
    {s362 : EReal} (d362 : s362 = s327 * s342)
    {s363 : EReal} (d363 : s363 = s361 + s362)
    {s365 : EReal} (d365 : s365 = max s363 ((0 : ℝ) : EReal))
    {s367 : EReal} (d367 : s367 = ((1 / 2 : ℝ) : EReal) * s365)
    {s368 : EReal} (d368 : s368 = s363 + s363)
    {s369 : EReal} (d369 : s369 = s325 * s368)
    {s370 : EReal} (d370 : s370 = s369 - s340)
    {s371 : EReal} (d371 : s371 = s326 * s368)
    {s372 : EReal} (d372 : s372 = s371 - s341)
    {s373 : EReal} (d373 : s373 = s327 * s368)
    {s374 : EReal} (d374 : s374 = s373 - s342)
    {s375 : EReal} (d375 : s375 = s370 * s355)
    {s376 : EReal} (d376 : s376 = s372 * s357)
    {s377 : EReal} (d377 : s377 = s375 + s376)
    {s378 : EReal} (d378 : s378 = s374 * s358)
    {s379 : EReal} (d379 : s379 = s377 + s378)
    {s381 : EReal} (d381 : s381 = max s379 ((0 : ℝ) : EReal))
    {s382 : EReal} (d382 : s382 = s381 * s381)
    {s383 : EReal} (d383 : s383 = s382 * s382)
    {s384 : EReal} (d384 : s384 = s383 * s383)
    {s385 : EReal} (d385 : s385 = s384 * s384)
    {s387 : EReal} (d387 : s387 = ((spc : ℝ) : EReal) * s385)
    {s389 : EReal} (d389 : s389 = ((amb : ℝ) : EReal) + s367)
    {s390 : EReal} (d390 : s390 = s389 + s387)
    {s404 : EReal} (d404 : s404 = s390 * (A w7 4))
    {s409 : EReal} (d409 : s409 = s390 * (A w7 5))
    {s414 : EReal} (d414 : s414 = s390 * (A w7 6))
    :
    k0_pay89 (F := Ideal) v301 v310 v390 v392 y
      = Scalar.select (Ideal.cmp .olt (T (win T)) (⊤)) (min ((1 : ℝ) : EReal) (max ((0 : ℝ) : EReal) ((kShare U V I (T (win T)) (A (win T) 0) (A (win T) 7) (A (win T) 2) (L 0) (L 1) (L 2)) * (A (win T) 4)))) (((((1 : ℝ) : EReal) - ((Y * ((2 / 1023 : ℝ) : EReal)) - ((1 : ℝ) : EReal))) * ((1 / 2 : ℝ) : EReal)) + ((Y * ((2 / 1023 : ℝ) : EReal)) - ((1 : ℝ) : EReal))) ∧
    k0_pay90 (F := Ideal) v303 v310 v390 v392 y
      = Scalar.select (Ideal.cmp .olt (T (win T)) (⊤)) (min ((1 : ℝ) : EReal) (max ((0 : ℝ) : EReal) ((kShare U V I (T (win T)) (A (win T) 0) (A (win T) 7) (A (win T) 2) (L 0) (L 1) (L 2)) * (A (win T) 5)))) (((((1 : ℝ) : EReal) - ((Y * ((2 / 1023 : ℝ) : EReal)) - ((1 : ℝ) : EReal))) * ((sky : ℝ) : EReal)) + ((Y * ((2 / 1023 : ℝ) : EReal)) - ((1 : ℝ) : EReal))) ∧
    k0_pay91 (F := Ideal) v305 v310 v390 v392 y
      = Scalar.select (Ideal.cmp .olt (T (win T)) (⊤)) (min ((1 : ℝ) : EReal) (max ((0 : ℝ) : EReal) ((kShare U V I (T (win T)) (A (win T) 0) (A (win T) 7) (A (win T) 2) (L 0) (L 1) (L 2)) * (A (win T) 6)))) ((((1 : ℝ) : EReal) - ((Y * ((2 / 1023 : ℝ) : EReal)) - ((1 : ℝ) : EReal))) + ((Y * ((2 / 1023 : ℝ) : EReal)) - ((1 : ℝ) : EReal))) := by
  have hw : w7 = win T := by rw [← g7, ← g6, ← g5, ← g4, ← g3, ← g2, ← g1]; rfl
  have hs : s390 = (kShare U V I (T (win T)) (A (win T) 0) (A (win T) 7) (A (win T) 2) (L 0) (L 1) (L 2)) := by
    subst hw
    subst d311 d312 d314 d315 d316 d317 d318 d319 d320 d321 d322 d323 d324 d325 d326 d327 d329 d331 d333 d334 d335 d336 d337 d338 d339 d340 d341 d342 d352 d354 d355 d357 d358 d359 d360 d361 d362 d363 d365 d367 d368 d369 d370 d371 d372 d373 d374 d375 d376 d377 d378 d379 d381 d382 d383 d384 d385 d387 d389 d390 d404 d409 d414
    rfl
  have p5 : k0_pay5 (F := Ideal) i (A 0 0) (A 0 1) (A 0 2) x = kQ U V I A 0 := by
    have e : k0_pay5 (F := Ideal) i (A 0 0) (A 0 1) (A 0 2) x = (((((k0_pay2 (F := Ideal)) x) * (A 0 0)) + (((k0_pay3 (F := Ideal) i) x) * (A 0 2))) + (A 0 1)) * ((k0_pay4 (F := Ideal) i) x) := rfl
    simp only [hI, hU, hV] at e
    exact e.trans (rfl)
  have p6 : k0_pay6 (F := Ideal) i (A 0 0) (A 0 1) (A 0 2) (A 0 3) x = kD U V I A 0 := by
    have e : k0_pay6 (F := Ideal) i (A 0 0) (A 0 1) (A 0 2) (A 0 3) x = (((k0_pay5 (F := Ideal) i (A 0 0) (A 0 1) (A 0 2)) x) * ((k0_pay5 (F := Ideal) i (A 0 0) (A 0 1) (A 0 2)) x)) - (A 0 3) := rfl
    simp only [p5] at e
    exact e.trans (rfl)
  have hv40 : v40 x = kD U V I A 0 := by rw [ev40]; exact p6
  have p7 : k0_pay7 (F := Ideal) i (A 0 0) (A 0 1) (A 0 2) (A 0 3) x = kR U V I A 0 := by
    have e : k0_pay7 (F := Ideal) i (A 0 0) (A 0 1) (A 0 2) (A 0 3) x = ((k0_pay5 (F := Ideal) i (A 0 0) (A 0 1) (A 0 2)) x) - (((k0_pay6 (F := Ideal) i (A 0 0) (A 0 1) (A 0 2) (A 0 3)) x) * (Ideal.rsqrt ((k0_pay6 (F := Ideal) i (A 0 0) (A 0 1) (A 0 2) (A 0 3)) x))) := rfl
    simp only [p5, p6] at e
    exact e.trans (rfl)
  have hv43 : v43 x = kR U V I A 0 := by rw [ev43]; exact p7
  have p8z : k0_pay8 (F := Ideal) v40 v43 ((0 : ℝ) : EReal) x = T 0 := by
    have e : k0_pay8 (F := Ideal) v40 v43 ((0 : ℝ) : EReal) x = Scalar.select (Ideal.cmp .oge (v40 x) ((0 : ℝ) : EReal)) (v43 x) (Ideal.ofBits .f32 0x7F800000#32) := rfl
    simp only [hv40, hv43, w_inf] at e
    exact e.trans (first)
  have p8 : k0_pay8 (F := Ideal) v40 v43 (Ideal.ofBits .f32 0x00000000#32) x = T 0 := by rw [w_zero]; exact p8z
  have p9 : k0_pay9 (F := Ideal) (k0_pay2 (F := Ideal)) (k0_pay3 (F := Ideal) i) (k0_pay4 (F := Ideal) i) (A 1 0) (A 1 1) (A 1 2) (A 1 3) x = kR U V I A 1 := by
    have e : k0_pay9 (F := Ideal) (k0_pay2 (F := Ideal)) (k0_pay3 (F := Ideal) i) (k0_pay4 (F := Ideal) i) (A 1 0) (A 1 1) (A 1 2) (A 1 3) x = ((((((k0_pay2 (F := Ideal)) x) * (A 1 0)) + (((k0_pay3 (F := Ideal) i) x) * (A 1 2))) + (A 1 1)) * ((k0_pay4 (F := Ideal) i) x)) - (((((((((k0_pay2 (F := Ideal)) x) * (A 1 0)) + (((k0_pay3 (F := Ideal) i) x) * (A 1 2))) + (A 1 1)) * ((k0_pay4 (F := Ideal) i) x)) * ((((((k0_pay2 (F := Ideal)) x) * (A 1 0)) + (((k0_pay3 (F := Ideal) i) x) * (A 1 2))) + (A 1 1)) * ((k0_pay4 (F := Ideal) i) x))) - (A 1 3)) * (Ideal.rsqrt ((((((((k0_pay2 (F := Ideal)) x) * (A 1 0)) + (((k0_pay3 (F := Ideal) i) x) * (A 1 2))) + (A 1 1)) * ((k0_pay4 (F := Ideal) i) x)) * ((((((k0_pay2 (F := Ideal)) x) * (A 1 0)) + (((k0_pay3 (F := Ideal) i) x) * (A 1 2))) + (A 1 1)) * ((k0_pay4 (F := Ideal) i) x))) - (A 1 3)))) := rfl
    simp only [hI, hU, hV] at e
    exact e.trans (rfl)
  have p10z : k0_pay10 (F := Ideal) (k0_pay2 (F := Ideal)) (k0_pay3 (F := Ideal) i) (k0_pay4 (F := Ideal) i) v40 v43 ((0 : ℝ) : EReal) (A 1 0) (A 1 1) (A 1 2) (A 1 3) x = Ideal.cmp .olt (T 1) (T 0) := by
    have e : k0_pay10 (F := Ideal) (k0_pay2 (F := Ideal)) (k0_pay3 (F := Ideal) i) (k0_pay4 (F := Ideal) i) v40 v43 ((0 : ℝ) : EReal) (A 1 0) (A 1 1) (A 1 2) (A 1 3) x = Ideal.cmp .olt ((k0_pay9 (F := Ideal) (k0_pay2 (F := Ideal)) (k0_pay3 (F := Ideal) i) (k0_pay4 (F := Ideal) i) (A 1 0) (A 1 1) (A 1 2) (A 1 3)) x) ((k0_pay8 (F := Ideal) v40 v43 ((0 : ℝ) : EReal)) x) := rfl
    simp only [p8z, p9, w_zero] at e
    exact e.trans (msk 1 (by decide) 0)
  have p10 : k0_pay10 (F := Ideal) (k0_pay2 (F := Ideal)) (k0_pay3 (F := Ideal) i) (k0_pay4 (F := Ideal) i) v40 v43 (Ideal.ofBits .f32 0x00000000#32) (A 1 0) (A 1 1) (A 1 2) (A 1 3) x = Ideal.cmp .olt (T 1) (T 0) := by rw [w_zero]; exact p10z
  have p11z : k0_pay11 (F := Ideal) (k0_pay2 (F := Ideal)) (k0_pay3 (F := Ideal) i) (k0_pay4 (F := Ideal) i) v40 v43 ((0 : ℝ) : EReal) (A 1 0) (A 1 1) (A 1 2) (A 1 3) x = T w1 := by
    have e : k0_pay11 (F := Ideal) (k0_pay2 (F := Ideal)) (k0_pay3 (F := Ideal) i) (k0_pay4 (F := Ideal) i) v40 v43 ((0 : ℝ) : EReal) (A 1 0) (A 1 1) (A 1 2) (A 1 3) x = Scalar.select ((k0_pay10 (F := Ideal) (k0_pay2 (F := Ideal)) (k0_pay3 (F := Ideal) i) (k0_pay4 (F := Ideal) i) v40 v43 ((0 : ℝ) : EReal) (A 1 0) (A 1 1) (A 1 2) (A 1 3)) x) ((k0_pay9 (F := Ideal) (k0_pay2 (F := Ideal)) (k0_pay3 (F := Ideal) i) (k0_pay4 (F := Ideal) i) (A 1 0) (A 1 1) (A 1 2) (A 1 3)) x) ((k0_pay8 (F := Ideal) v40 v43 ((0 : ℝ) : EReal)) x) := rfl
    simp only [p10z, p8z, p9, w_zero] at e
    exact e.trans (best g1 hR)
  have p11 : k0_pay11 (F := Ideal) (k0_pay2 (F := Ideal)) (k0_pay3 (F := Ideal) i) (k0_pay4 (F := Ideal) i) v40 v43 (Ideal.ofBits .f32 0x00000000#32) (A 1 0) (A 1 1) (A 1 2) (A 1 3) x = T w1 := by rw [w_zero]; exact p11z
  have hv77 : v77 x = T w1 := by rw [ev77]; exact p11
  have p12z : k0_pay12 (F := Ideal) (k0_pay2 (F := Ideal)) (k0_pay3 (F := Ideal) i) (k0_pay4 (F := Ideal) i) (A 0 0) v40 v43 ((0 : ℝ) : EReal) (A 1 0) (A 1 1) (A 1 2) (A 1 3) x = A w1 0 := by
    have e : k0_pay12 (F := Ideal) (k0_pay2 (F := Ideal)) (k0_pay3 (F := Ideal) i) (k0_pay4 (F := Ideal) i) (A 0 0) v40 v43 ((0 : ℝ) : EReal) (A 1 0) (A 1 1) (A 1 2) (A 1 3) x = Scalar.select ((k0_pay10 (F := Ideal) (k0_pay2 (F := Ideal)) (k0_pay3 (F := Ideal) i) (k0_pay4 (F := Ideal) i) v40 v43 ((0 : ℝ) : EReal) (A 1 0) (A 1 1) (A 1 2) (A 1 3)) x) (A 1 0) (A 0 0) := rfl
    simp only [p10z, w_zero] at e
    exact e.trans (sel g1 (fun s => A s 0))
  have p12 : k0_pay12 (F := Ideal) (k0_pay2 (F := Ideal)) (k0_pay3 (F := Ideal) i) (k0_pay4 (F := Ideal) i) (A 0 0) v40 v43 (Ideal.ofBits .f32 0x00000000#32) (A 1 0) (A 1 1) (A 1 2) (A 1 3) x = A w1 0 := by rw [w_zero]; exact p12z
  have hv79 : v79 x = A w1 0 := by rw [ev79]; exact p12
  have p13z : k0_pay13 (F := Ideal) (k0_pay2 (F := Ideal)) (k0_pay3 (F := Ideal) i) (k0_pay4 (F := Ideal) i) (A 0 7) v40 v43 ((0 : ℝ) : EReal) (A 1 0) (A 1 1) (A 1 2) (A 1 3) (A 1 7) x = A w1 7 := by
    have e : k0_pay13 (F := Ideal) (k0_pay2 (F := Ideal)) (k0_pay3 (F := Ideal) i) (k0_pay4 (F := Ideal) i) (A 0 7) v40 v43 ((0 : ℝ) : EReal) (A 1 0) (A 1 1) (A 1 2) (A 1 3) (A 1 7) x = Scalar.select ((k0_pay10 (F := Ideal) (k0_pay2 (F := Ideal)) (k0_pay3 (F := Ideal) i) (k0_pay4 (F := Ideal) i) v40 v43 ((0 : ℝ) : EReal) (A 1 0) (A 1 1) (A 1 2) (A 1 3)) x) (A 1 7) (A 0 7) := rfl
    simp only [p10z, w_zero] at e
    exact e.trans (sel g1 (fun s => A s 7))
  have p13 : k0_pay13 (F := Ideal) (k0_pay2 (F := Ideal)) (k0_pay3 (F := Ideal) i) (k0_pay4 (F := Ideal) i) (A 0 7) v40 v43 (Ideal.ofBits .f32 0x00000000#32) (A 1 0) (A 1 1) (A 1 2) (A 1 3) (A 1 7) x = A w1 7 := by rw [w_zero]; exact p13z
  have hv81 : v81 x = A w1 7 := by rw [ev81]; exact p13
  have p14z : k0_pay14 (F := Ideal) (k0_pay2 (F := Ideal)) (k0_pay3 (F := Ideal) i) (k0_pay4 (F := Ideal) i) (A 0 2) v40 v43 ((0 : ℝ) : EReal) (A 1 0) (A 1 1) (A 1 2) (A 1 3) x = A w1 2 := by
    have e : k0_pay14 (F := Ideal) (k0_pay2 (F := Ideal)) (k0_pay3 (F := Ideal) i) (k0_pay4 (F := Ideal) i) (A 0 2) v40 v43 ((0 : ℝ) : EReal) (A 1 0) (A 1 1) (A 1 2) (A 1 3) x = Scalar.select ((k0_pay10 (F := Ideal) (k0_pay2 (F := Ideal)) (k0_pay3 (F := Ideal) i) (k0_pay4 (F := Ideal) i) v40 v43 ((0 : ℝ) : EReal) (A 1 0) (A 1 1) (A 1 2) (A 1 3)) x) (A 1 2) (A 0 2) := rfl
    simp only [p10z, w_zero] at e
    exact e.trans (sel g1 (fun s => A s 2))
  have p14 : k0_pay14 (F := Ideal) (k0_pay2 (F := Ideal)) (k0_pay3 (F := Ideal) i) (k0_pay4 (F := Ideal) i) (A 0 2) v40 v43 (Ideal.ofBits .f32 0x00000000#32) (A 1 0) (A 1 1) (A 1 2) (A 1 3) x = A w1 2 := by rw [w_zero]; exact p14z
  have hv83 : v83 x = A w1 2 := by rw [ev83]; exact p14
  have p15z : k0_pay15 (F := Ideal) (k0_pay2 (F := Ideal)) (k0_pay3 (F := Ideal) i) (k0_pay4 (F := Ideal) i) (A 0 4) v40 v43 ((0 : ℝ) : EReal) (A 1 0) (A 1 1) (A 1 2) (A 1 3) (A 1 4) x = A w1 4 := by
    have e : k0_pay15 (F := Ideal) (k0_pay2 (F := Ideal)) (k0_pay3 (F := Ideal) i) (k0_pay4 (F := Ideal) i) (A 0 4) v40 v43 ((0 : ℝ) : EReal) (A 1 0) (A 1 1) (A 1 2) (A 1 3) (A 1 4) x = Scalar.select ((k0_pay10 (F := Ideal) (k0_pay2 (F := Ideal)) (k0_pay3 (F := Ideal) i) (k0_pay4 (F := Ideal) i) v40 v43 ((0 : ℝ) : EReal) (A 1 0) (A 1 1) (A 1 2) (A 1 3)) x) (A 1 4) (A 0 4) := rfl
    simp only [p10z, w_zero] at e
    exact e.trans (sel g1 (fun s => A s 4))
  have p15 : k0_pay15 (F := Ideal) (k0_pay2 (F := Ideal)) (k0_pay3 (F := Ideal) i) (k0_pay4 (F := Ideal) i) (A 0 4) v40 v43 (Ideal.ofBits .f32 0x00000000#32) (A 1 0) (A 1 1) (A 1 2) (A 1 3) (A 1 4) x = A w1 4 := by rw [w_zero]; exact p15z
  have hv85 : v85 x = A w1 4 := by rw [ev85]; exact p15
  have p16z : k0_pay16 (F := Ideal) (k0_pay2 (F := Ideal)) (k0_pay3 (F := Ideal) i) (k0_pay4 (F := Ideal) i) (A 0 5) v40 v43 ((0 : ℝ) : EReal) (A 1 0) (A 1 1) (A 1 2) (A 1 3) (A 1 5) x = A w1 5 := by
    have e : k0_pay16 (F := Ideal) (k0_pay2 (F := Ideal)) (k0_pay3 (F := Ideal) i) (k0_pay4 (F := Ideal) i) (A 0 5) v40 v43 ((0 : ℝ) : EReal) (A 1 0) (A 1 1) (A 1 2) (A 1 3) (A 1 5) x = Scalar.select ((k0_pay10 (F := Ideal) (k0_pay2 (F := Ideal)) (k0_pay3 (F := Ideal) i) (k0_pay4 (F := Ideal) i) v40 v43 ((0 : ℝ) : EReal) (A 1 0) (A 1 1) (A 1 2) (A 1 3)) x) (A 1 5) (A 0 5) := rfl
    simp only [p10z, w_zero] at e
    exact e.trans (sel g1 (fun s => A s 5))
  have p16 : k0_pay16 (F := Ideal) (k0_pay2 (F := Ideal)) (k0_pay3 (F := Ideal) i) (k0_pay4 (F := Ideal) i) (A 0 5) v40 v43 (Ideal.ofBits .f32 0x00000000#32) (A 1 0) (A 1 1) (A 1 2) (A 1 3) (A 1 5) x = A w1 5 := by rw [w_zero]; exact p16z
  have hv87 : v87 x = A w1 5 := by rw [ev87]; exact p16
  have p17z : k0_pay17 (F := Ideal) (k0_pay2 (F := Ideal)) (k0_pay3 (F := Ideal) i) (k0_pay4 (F := Ideal) i) (A 0 6) v40 v43 ((0 : ℝ) : EReal) (A 1 0) (A 1 1) (A 1 2) (A 1 3) (A 1 6) x = A w1 6 := by
    have e : k0_pay17 (F := Ideal) (k0_pay2 (F := Ideal)) (k0_pay3 (F := Ideal) i) (k0_pay4 (F := Ideal) i) (A 0 6) v40 v43 ((0 : ℝ) : EReal) (A 1 0) (A 1 1) (A 1 2) (A 1 3) (A 1 6) x = Scalar.select ((k0_pay10 (F := Ideal) (k0_pay2 (F := Ideal)) (k0_pay3 (F := Ideal) i) (k0_pay4 (F := Ideal) i) v40 v43 ((0 : ℝ) : EReal) (A 1 0) (A 1 1) (A 1 2) (A 1 3)) x) (A 1 6) (A 0 6) := rfl
    simp only [p10z, w_zero] at e
    exact e.trans (sel g1 (fun s => A s 6))
  have p17 : k0_pay17 (F := Ideal) (k0_pay2 (F := Ideal)) (k0_pay3 (F := Ideal) i) (k0_pay4 (F := Ideal) i) (A 0 6) v40 v43 (Ideal.ofBits .f32 0x00000000#32) (A 1 0) (A 1 1) (A 1 2) (A 1 3) (A 1 6) x = A w1 6 := by rw [w_zero]; exact p17z
  have hv89 : v89 x = A w1 6 := by rw [ev89]; exact p17
  have p18 : k0_pay18 (F := Ideal) (k0_pay2 (F := Ideal)) (k0_pay3 (F := Ideal) i) (k0_pay4 (F := Ideal) i) (A 2 0) (A 2 1) (A 2 2) (A 2 3) x = kR U V I A 2 := by
    have e : k0_pay18 (F := Ideal) (k0_pay2 (F := Ideal)) (k0_pay3 (F := Ideal) i) (k0_pay4 (F := Ideal) i) (A 2 0) (A 2 1) (A 2 2) (A 2 3) x = ((((((k0_pay2 (F := Ideal)) x) * (A 2 0)) + (((k0_pay3 (F := Ideal) i) x) * (A 2 2))) + (A 2 1)) * ((k0_pay4 (F := Ideal) i) x)) - (((((((((k0_pay2 (F := Ideal)) x) * (A 2 0)) + (((k0_pay3 (F := Ideal) i) x) * (A 2 2))) + (A 2 1)) * ((k0_pay4 (F := Ideal) i) x)) * ((((((k0_pay2 (F := Ideal)) x) * (A 2 0)) + (((k0_pay3 (F := Ideal) i) x) * (A 2 2))) + (A 2 1)) * ((k0_pay4 (F := Ideal) i) x))) - (A 2 3)) * (Ideal.rsqrt ((((((((k0_pay2 (F := Ideal)) x) * (A 2 0)) + (((k0_pay3 (F := Ideal) i) x) * (A 2 2))) + (A 2 1)) * ((k0_pay4 (F := Ideal) i) x)) * ((((((k0_pay2 (F := Ideal)) x) * (A 2 0)) + (((k0_pay3 (F := Ideal) i) x) * (A 2 2))) + (A 2 1)) * ((k0_pay4 (F := Ideal) i) x))) - (A 2 3)))) := rfl
    simp only [hI, hU, hV] at e
    exact e.trans (rfl)
  have p19 : k0_pay19 (F := Ideal) (k0_pay2 (F := Ideal)) (k0_pay3 (F := Ideal) i) (k0_pay4 (F := Ideal) i) v77 (A 2 0) (A 2 1) (A 2 2) (A 2 3) x = Ideal.cmp .olt (T 2) (T w1) := by
    have e : k0_pay19 (F := Ideal) (k0_pay2 (F := Ideal)) (k0_pay3 (F := Ideal) i) (k0_pay4 (F := Ideal) i) v77 (A 2 0) (A 2 1) (A 2 2) (A 2 3) x = Ideal.cmp .olt ((k0_pay18 (F := Ideal) (k0_pay2 (F := Ideal)) (k0_pay3 (F := Ideal) i) (k0_pay4 (F := Ideal) i) (A 2 0) (A 2 1) (A 2 2) (A 2 3)) x) (v77 x) := rfl
    simp only [hv77, p18] at e
    exact e.trans (msk 2 (by decide) w1)
  have p20 : k0_pay20 (F := Ideal) (k0_pay2 (F := Ideal)) (k0_pay3 (F := Ideal) i) (k0_pay4 (F := Ideal) i) v77 (A 2 0) (A 2 1) (A 2 2) (A 2 3) x = T w2 := by
    have e : k0_pay20 (F := Ideal) (k0_pay2 (F := Ideal)) (k0_pay3 (F := Ideal) i) (k0_pay4 (F := Ideal) i) v77 (A 2 0) (A 2 1) (A 2 2) (A 2 3) x = Scalar.select ((k0_pay19 (F := Ideal) (k0_pay2 (F := Ideal)) (k0_pay3 (F := Ideal) i) (k0_pay4 (F := Ideal) i) v77 (A 2 0) (A 2 1) (A 2 2) (A 2 3)) x) ((k0_pay18 (F := Ideal) (k0_pay2 (F := Ideal)) (k0_pay3 (F := Ideal) i) (k0_pay4 (F := Ideal) i) (A 2 0) (A 2 1) (A 2 2) (A 2 3)) x) (v77 x) := rfl
    simp only [hv77, p18, p19] at e
    exact e.trans (best g2 hR)
  have hv113 : v113 x = T w2 := by rw [ev113]; exact p20
  have p21 : k0_pay21 (F := Ideal) (k0_pay2 (F := Ideal)) (k0_pay3 (F := Ideal) i) (k0_pay4 (F := Ideal) i) v77 v79 (A 2 0) (A 2 1) (A 2 2) (A 2 3) x = A w2 0 := by
    have e : k0_pay21 (F := Ideal) (k0_pay2 (F := Ideal)) (k0_pay3 (F := Ideal) i) (k0_pay4 (F := Ideal) i) v77 v79 (A 2 0) (A 2 1) (A 2 2) (A 2 3) x = Scalar.select ((k0_pay19 (F := Ideal) (k0_pay2 (F := Ideal)) (k0_pay3 (F := Ideal) i) (k0_pay4 (F := Ideal) i) v77 (A 2 0) (A 2 1) (A 2 2) (A 2 3)) x) (A 2 0) (v79 x) := rfl
    simp only [hv79, p19] at e
    exact e.trans (sel g2 (fun s => A s 0))
  have hv115 : v115 x = A w2 0 := by rw [ev115]; exact p21
  have p22 : k0_pay22 (F := Ideal) (k0_pay2 (F := Ideal)) (k0_pay3 (F := Ideal) i) (k0_pay4 (F := Ideal) i) v77 v81 (A 2 0) (A 2 1) (A 2 2) (A 2 3) (A 2 7) x = A w2 7 := by
    have e : k0_pay22 (F := Ideal) (k0_pay2 (F := Ideal)) (k0_pay3 (F := Ideal) i) (k0_pay4 (F := Ideal) i) v77 v81 (A 2 0) (A 2 1) (A 2 2) (A 2 3) (A 2 7) x = Scalar.select ((k0_pay19 (F := Ideal) (k0_pay2 (F := Ideal)) (k0_pay3 (F := Ideal) i) (k0_pay4 (F := Ideal) i) v77 (A 2 0) (A 2 1) (A 2 2) (A 2 3)) x) (A 2 7) (v81 x) := rfl
    simp only [hv81, p19] at e
    exact e.trans (sel g2 (fun s => A s 7))
  have hv117 : v117 x = A w2 7 := by rw [ev117]; exact p22
  have p23 : k0_pay23 (F := Ideal) (k0_pay2 (F := Ideal)) (k0_pay3 (F := Ideal) i) (k0_pay4 (F := Ideal) i) v77 v83 (A 2 0) (A 2 1) (A 2 2) (A 2 3) x = A w2 2 := by
    have e : k0_pay23 (F := Ideal) (k0_pay2 (F := Ideal)) (k0_pay3 (F := Ideal) i) (k0_pay4 (F := Ideal) i) v77 v83 (A 2 0) (A 2 1) (A 2 2) (A 2 3) x = Scalar.select ((k0_pay19 (F := Ideal) (k0_pay2 (F := Ideal)) (k0_pay3 (F := Ideal) i) (k0_pay4 (F := Ideal) i) v77 (A 2 0) (A 2 1) (A 2 2) (A 2 3)) x) (A 2 2) (v83 x) := rfl
    simp only [hv83, p19] at e
    exact e.trans (sel g2 (fun s => A s 2))
  have hv119 : v119 x = A w2 2 := by rw [ev119]; exact p23
  have p24 : k0_pay24 (F := Ideal) (k0_pay2 (F := Ideal)) (k0_pay3 (F := Ideal) i) (k0_pay4 (F := Ideal) i) v77 v85 (A 2 0) (A 2 1) (A 2 2) (A 2 3) (A 2 4) x = A w2 4 := by
    have e : k0_pay24 (F := Ideal) (k0_pay2 (F := Ideal)) (k0_pay3 (F := Ideal) i) (k0_pay4 (F := Ideal) i) v77 v85 (A 2 0) (A 2 1) (A 2 2) (A 2 3) (A 2 4) x = Scalar.select ((k0_pay19 (F := Ideal) (k0_pay2 (F := Ideal)) (k0_pay3 (F := Ideal) i) (k0_pay4 (F := Ideal) i) v77 (A 2 0) (A 2 1) (A 2 2) (A 2 3)) x) (A 2 4) (v85 x) := rfl
    simp only [hv85, p19] at e
    exact e.trans (sel g2 (fun s => A s 4))
  have hv121 : v121 x = A w2 4 := by rw [ev121]; exact p24
  have p25 : k0_pay25 (F := Ideal) (k0_pay2 (F := Ideal)) (k0_pay3 (F := Ideal) i) (k0_pay4 (F := Ideal) i) v77 v87 (A 2 0) (A 2 1) (A 2 2) (A 2 3) (A 2 5) x = A w2 5 := by
    have e : k0_pay25 (F := Ideal) (k0_pay2 (F := Ideal)) (k0_pay3 (F := Ideal) i) (k0_pay4 (F := Ideal) i) v77 v87 (A 2 0) (A 2 1) (A 2 2) (A 2 3) (A 2 5) x = Scalar.select ((k0_pay19 (F := Ideal) (k0_pay2 (F := Ideal)) (k0_pay3 (F := Ideal) i) (k0_pay4 (F := Ideal) i) v77 (A 2 0) (A 2 1) (A 2 2) (A 2 3)) x) (A 2 5) (v87 x) := rfl
    simp only [hv87, p19] at e
    exact e.trans (sel g2 (fun s => A s 5))
  have hv123 : v123 x = A w2 5 := by rw [ev123]; exact p25
  have p26 : k0_pay26 (F := Ideal) (k0_pay2 (F := Ideal)) (k0_pay3 (F := Ideal) i) (k0_pay4 (F := Ideal) i) v77 v89 (A 2 0) (A 2 1) (A 2 2) (A 2 3) (A 2 6) x = A w2 6 := by
    have e : k0_pay26 (F := Ideal) (k0_pay2 (F := Ideal)) (k0_pay3 (F := Ideal) i) (k0_pay4 (F := Ideal) i) v77 v89 (A 2 0) (A 2 1) (A 2 2) (A 2 3) (A 2 6) x = Scalar.select ((k0_pay19 (F := Ideal) (k0_pay2 (F := Ideal)) (k0_pay3 (F := Ideal) i) (k0_pay4 (F := Ideal) i) v77 (A 2 0) (A 2 1) (A 2 2) (A 2 3)) x) (A 2 6) (v89 x) := rfl
    simp only [hv89, p19] at e
    exact e.trans (sel g2 (fun s => A s 6))
  have hv125 : v125 x = A w2 6 := by rw [ev125]; exact p26
  have p27 : k0_pay27 (F := Ideal) (k0_pay2 (F := Ideal)) (k0_pay3 (F := Ideal) i) (A 3 0) (A 3 2) x = (U * (A 3 0)) + (V * (A 3 2)) := by
    have e : k0_pay27 (F := Ideal) (k0_pay2 (F := Ideal)) (k0_pay3 (F := Ideal) i) (A 3 0) (A 3 2) x = (((k0_pay2 (F := Ideal)) x) * (A 3 0)) + (((k0_pay3 (F := Ideal) i) x) * (A 3 2)) := rfl
    simp only [hU, hV] at e
    exact e.trans (rfl)
  have hv138 : v138 x = (U * (A 3 0)) + (V * (A 3 2)) := by rw [ev138]; exact p27
  have p28 : k0_pay28 (F := Ideal) (k0_pay4 (F := Ideal) i) (A 3 1) (A 3 3) v138 x = kR U V I A 3 := by
    have e : k0_pay28 (F := Ideal) (k0_pay4 (F := Ideal) i) (A 3 1) (A 3 3) v138 x = (((v138 x) + (A 3 1)) * ((k0_pay4 (F := Ideal) i) x)) - ((((((v138 x) + (A 3 1)) * ((k0_pay4 (F := Ideal) i) x)) * (((v138 x) + (A 3 1)) * ((k0_pay4 (F := Ideal) i) x))) - (A 3 3)) * (Ideal.rsqrt (((((v138 x) + (A 3 1)) * ((k0_pay4 (F := Ideal) i) x)) * (((v138 x) + (A 3 1)) * ((k0_pay4 (F := Ideal) i) x))) - (A 3 3)))) := rfl
    simp only [hI, hv138] at e
    exact e.trans (rfl)
  have p29 : k0_pay29 (F := Ideal) (k0_pay4 (F := Ideal) i) v113 (A 3 1) (A 3 3) v138 x = Ideal.cmp .olt (T 3) (T w2) := by
    have e : k0_pay29 (F := Ideal) (k0_pay4 (F := Ideal) i) v113 (A 3 1) (A 3 3) v138 x = Ideal.cmp .olt ((k0_pay28 (F := Ideal) (k0_pay4 (F := Ideal) i) (A 3 1) (A 3 3) v138) x) (v113 x) := rfl
    simp only [hv113, p28] at e
    exact e.trans (msk 3 (by decide) w2)
  have p30 : k0_pay30 (F := Ideal) (k0_pay4 (F := Ideal) i) v113 (A 3 1) (A 3 3) v138 x = T w3 := by
    have e : k0_pay30 (F := Ideal) (k0_pay4 (F := Ideal) i) v113 (A 3 1) (A 3 3) v138 x = Scalar.select ((k0_pay29 (F := Ideal) (k0_pay4 (F := Ideal) i) v113 (A 3 1) (A 3 3) v138) x) ((k0_pay28 (F := Ideal) (k0_pay4 (F := Ideal) i) (A 3 1) (A 3 3) v138) x) (v113 x) := rfl
    simp only [hv113, p28, p29] at e
    exact e.trans (best g3 hR)
  have p31 : k0_pay31 (F := Ideal) (k0_pay4 (F := Ideal) i) v113 v119 (A 3 1) (A 3 2) (A 3 3) v138 x = A w3 2 := by
    have e : k0_pay31 (F := Ideal) (k0_pay4 (F := Ideal) i) v113 v119 (A 3 1) (A 3 2) (A 3 3) v138 x = Scalar.select ((k0_pay29 (F := Ideal) (k0_pay4 (F := Ideal) i) v113 (A 3 1) (A 3 3) v138) x) (A 3 2) (v119 x) := rfl
    simp only [hv119, p29] at e
    exact e.trans (sel g3 (fun s => A s 2))
  have hv155 : v155 x = A w3 2 := by rw [ev155]; exact p31
  have p32 : k0_pay32 (F := Ideal) (k0_pay4 (F := Ideal) i) v113 v121 (A 3 1) (A 3 3) (A 3 4) v138 x = A w3 4 := by
    have e : k0_pay32 (F := Ideal) (k0_pay4 (F := Ideal) i) v113 v121 (A 3 1) (A 3 3) (A 3 4) v138 x = Scalar.select ((k0_pay29 (F := Ideal) (k0_pay4 (F := Ideal) i) v113 (A 3 1) (A 3 3) v138) x) (A 3 4) (v121 x) := rfl
    simp only [hv121, p29] at e
    exact e.trans (sel g3 (fun s => A s 4))
  have hv157 : v157 x = A w3 4 := by rw [ev157]; exact p32
  have p33 : k0_pay33 (F := Ideal) (k0_pay4 (F := Ideal) i) v113 v123 (A 3 1) (A 3 3) (A 3 5) v138 x = A w3 5 := by
    have e : k0_pay33 (F := Ideal) (k0_pay4 (F := Ideal) i) v113 v123 (A 3 1) (A 3 3) (A 3 5) v138 x = Scalar.select ((k0_pay29 (F := Ideal) (k0_pay4 (F := Ideal) i) v113 (A 3 1) (A 3 3) v138) x) (A 3 5) (v123 x) := rfl
    simp only [hv123, p29] at e
    exact e.trans (sel g3 (fun s => A s 5))
  have hv159 : v159 x = A w3 5 := by rw [ev159]; exact p33
  have p34 : k0_pay34 (F := Ideal) (k0_pay4 (F := Ideal) i) v113 v125 (A 3 1) (A 3 3) (A 3 6) v138 x = A w3 6 := by
    have e : k0_pay34 (F := Ideal) (k0_pay4 (F := Ideal) i) v113 v125 (A 3 1) (A 3 3) (A 3 6) v138 x = Scalar.select ((k0_pay29 (F := Ideal) (k0_pay4 (F := Ideal) i) v113 (A 3 1) (A 3 3) v138) x) (A 3 6) (v125 x) := rfl
    simp only [hv125, p29] at e
    exact e.trans (sel g3 (fun s => A s 6))
  have hv161 : v161 x = A w3 6 := by rw [ev161]; exact p34
  have p35 : k0_pay35 (F := Ideal) (k0_pay2 (F := Ideal)) (k0_pay3 (F := Ideal) i) (k0_pay4 (F := Ideal) i) (A 4 0) (A 4 1) (A 4 2) (A 4 3) x = kR U V I A 4 := by
    have e : k0_pay35 (F := Ideal) (k0_pay2 (F := Ideal)) (k0_pay3 (F := Ideal) i) (k0_pay4 (F := Ideal) i) (A 4 0) (A 4 1) (A 4 2) (A 4 3) x = ((((((k0_pay2 (F := Ideal)) x) * (A 4 0)) + (((k0_pay3 (F := Ideal) i) x) * (A 4 2))) + (A 4 1)) * ((k0_pay4 (F := Ideal) i) x)) - (((((((((k0_pay2 (F := Ideal)) x) * (A 4 0)) + (((k0_pay3 (F := Ideal) i) x) * (A 4 2))) + (A 4 1)) * ((k0_pay4 (F := Ideal) i) x)) * ((((((k0_pay2 (F := Ideal)) x) * (A 4 0)) + (((k0_pay3 (F := Ideal) i) x) * (A 4 2))) + (A 4 1)) * ((k0_pay4 (F := Ideal) i) x))) - (A 4 3)) * (Ideal.rsqrt ((((((((k0_pay2 (F := Ideal)) x) * (A 4 0)) + (((k0_pay3 (F := Ideal) i) x) * (A 4 2))) + (A 4 1)) * ((k0_pay4 (F := Ideal) i) x)) * ((((((k0_pay2 (F := Ideal)) x) * (A 4 0)) + (((k0_pay3 (F := Ideal) i) x) * (A 4 2))) + (A 4 1)) * ((k0_pay4 (F := Ideal) i) x))) - (A 4 3)))) := rfl
    simp only [hI, hU, hV] at e
    exact e.trans (rfl)
  have p36 : k0_pay36 (F := Ideal) (k0_pay2 (F := Ideal)) (k0_pay3 (F := Ideal) i) (k0_pay4 (F := Ideal) i) v113 (A 3 1) (A 3 3) v138 (A 4 0) (A 4 1) (A 4 2) (A 4 3) x = Ideal.cmp .olt (T 4) (T w3) := by
    have e : k0_pay36 (F := Ideal) (k0_pay2 (F := Ideal)) (k0_pay3 (F := Ideal) i) (k0_pay4 (F := Ideal) i) v113 (A 3 1) (A 3 3) v138 (A 4 0) (A 4 1) (A 4 2) (A 4 3) x = Ideal.cmp .olt ((k0_pay35 (F := Ideal) (k0_pay2 (F := Ideal)) (k0_pay3 (F := Ideal) i) (k0_pay4 (F := Ideal) i) (A 4 0) (A 4 1) (A 4 2) (A 4 3)) x) ((k0_pay30 (F := Ideal) (k0_pay4 (F := Ideal) i) v113 (A 3 1) (A 3 3) v138) x) := rfl
    simp only [p30, p35] at e
    exact e.trans (msk 4 (by decide) w3)
  have hv184 : v184 x = Ideal.cmp .olt (T 4) (T w3) := by rw [ev184]; exact p36
  have p37 : k0_pay37 (F := Ideal) (k0_pay2 (F := Ideal)) (k0_pay3 (F := Ideal) i) (k0_pay4 (F := Ideal) i) v113 (A 3 1) (A 3 3) v138 (A 4 0) (A 4 1) (A 4 2) (A 4 3) x = T w4 := by
    have e : k0_pay37 (F := Ideal) (k0_pay2 (F := Ideal)) (k0_pay3 (F := Ideal) i) (k0_pay4 (F := Ideal) i) v113 (A 3 1) (A 3 3) v138 (A 4 0) (A 4 1) (A 4 2) (A 4 3) x = Scalar.select ((k0_pay36 (F := Ideal) (k0_pay2 (F := Ideal)) (k0_pay3 (F := Ideal) i) (k0_pay4 (F := Ideal) i) v113 (A 3 1) (A 3 3) v138 (A 4 0) (A 4 1) (A 4 2) (A 4 3)) x) ((k0_pay35 (F := Ideal) (k0_pay2 (F := Ideal)) (k0_pay3 (F := Ideal) i) (k0_pay4 (F := Ideal) i) (A 4 0) (A 4 1) (A 4 2) (A 4 3)) x) ((k0_pay30 (F := Ideal) (k0_pay4 (F := Ideal) i) v113 (A 3 1) (A 3 3) v138) x) := rfl
    simp only [p30, p35, p36] at e
    exact e.trans (best g4 hR)
  have hv185 : v185 x = T w4 := by rw [ev185]; exact p37
  have p38 : k0_pay38 (F := Ideal) (k0_pay2 (F := Ideal)) (k0_pay3 (F := Ideal) i) (k0_pay4 (F := Ideal) i) v113 v115 (A 3 0) (A 3 1) (A 3 3) v138 (A 4 0) (A 4 1) (A 4 2) (A 4 3) x = A w4 0 := by
    have e : k0_pay38 (F := Ideal) (k0_pay2 (F := Ideal)) (k0_pay3 (F := Ideal) i) (k0_pay4 (F := Ideal) i) v113 v115 (A 3 0) (A 3 1) (A 3 3) v138 (A 4 0) (A 4 1) (A 4 2) (A 4 3) x = Scalar.select ((k0_pay36 (F := Ideal) (k0_pay2 (F := Ideal)) (k0_pay3 (F := Ideal) i) (k0_pay4 (F := Ideal) i) v113 (A 3 1) (A 3 3) v138 (A 4 0) (A 4 1) (A 4 2) (A 4 3)) x) (A 4 0) (Scalar.select ((k0_pay29 (F := Ideal) (k0_pay4 (F := Ideal) i) v113 (A 3 1) (A 3 3) v138) x) (A 3 0) (v115 x)) := rfl
    simp only [hv115, p29, p36] at e
    exact e.trans ((congrArg (Scalar.select _ _) (sel g3 (fun s => A s 0))).trans (sel g4 (fun s => A s 0)))
  have hv187 : v187 x = A w4 0 := by rw [ev187]; exact p38
  have p39 : k0_pay39 (F := Ideal) (k0_pay2 (F := Ideal)) (k0_pay3 (F := Ideal) i) (k0_pay4 (F := Ideal) i) v113 v117 (A 3 1) (A 3 3) (A 3 7) v138 (A 4 0) (A 4 1) (A 4 2) (A 4 3) (A 4 7) x = A w4 7 := by
    have e : k0_pay39 (F := Ideal) (k0_pay2 (F := Ideal)) (k0_pay3 (F := Ideal) i) (k0_pay4 (F := Ideal) i) v113 v117 (A 3 1) (A 3 3) (A 3 7) v138 (A 4 0) (A 4 1) (A 4 2) (A 4 3) (A 4 7) x = Scalar.select ((k0_pay36 (F := Ideal) (k0_pay2 (F := Ideal)) (k0_pay3 (F := Ideal) i) (k0_pay4 (F := Ideal) i) v113 (A 3 1) (A 3 3) v138 (A 4 0) (A 4 1) (A 4 2) (A 4 3)) x) (A 4 7) (Scalar.select ((k0_pay29 (F := Ideal) (k0_pay4 (F := Ideal) i) v113 (A 3 1) (A 3 3) v138) x) (A 3 7) (v117 x)) := rfl
    simp only [hv117, p29, p36] at e
    exact e.trans ((congrArg (Scalar.select _ _) (sel g3 (fun s => A s 7))).trans (sel g4 (fun s => A s 7)))
  have hv189 : v189 x = A w4 7 := by rw [ev189]; exact p39
  have p40 : k0_pay40 (F := Ideal) (A 4 2) x = A 4 2 := by
    have e : k0_pay40 (F := Ideal) (A 4 2) x = A 4 2 := rfl
    exact e.trans (rfl)
  have hv190 : v190 x = A 4 2 := by rw [ev190]; exact p40
  have p41 : k0_pay41 (F := Ideal) (k0_pay2 (F := Ideal)) (k0_pay3 (F := Ideal) i) (k0_pay4 (F := Ideal) i) (A 5 0) (A 5 1) (A 5 2) (A 5 3) x = kR U V I A 5 := by
    have e : k0_pay41 (F := Ideal) (k0_pay2 (F := Ideal)) (k0_pay3 (F := Ideal) i) (k0_pay4 (F := Ideal) i) (A 5 0) (A 5 1) (A 5 2) (A 5 3) x = ((((((k0_pay2 (F := Ideal)) x) * (A 5 0)) + (((k0_pay3 (F := Ideal) i) x) * (A 5 2))) + (A 5 1)) * ((k0_pay4 (F := Ideal) i) x)) - (((((((((k0_pay2 (F := Ideal)) x) * (A 5 0)) + (((k0_pay3 (F := Ideal) i) x) * (A 5 2))) + (A 5 1)) * ((k0_pay4 (F := Ideal) i) x)) * ((((((k0_pay2 (F := Ideal)) x) * (A 5 0)) + (((k0_pay3 (F := Ideal) i) x) * (A 5 2))) + (A 5 1)) * ((k0_pay4 (F := Ideal) i) x))) - (A 5 3)) * (Ideal.rsqrt ((((((((k0_pay2 (F := Ideal)) x) * (A 5 0)) + (((k0_pay3 (F := Ideal) i) x) * (A 5 2))) + (A 5 1)) * ((k0_pay4 (F := Ideal) i) x)) * ((((((k0_pay2 (F := Ideal)) x) * (A 5 0)) + (((k0_pay3 (F := Ideal) i) x) * (A 5 2))) + (A 5 1)) * ((k0_pay4 (F := Ideal) i) x))) - (A 5 3)))) := rfl
    simp only [hI, hU, hV] at e
    exact e.trans (rfl)
  have p42 : k0_pay42 (F := Ideal) (k0_pay2 (F := Ideal)) (k0_pay3 (F := Ideal) i) (k0_pay4 (F := Ideal) i) v185 (A 5 0) (A 5 1) (A 5 2) (A 5 3) x = Ideal.cmp .olt (T 5) (T w4) := by
    have e : k0_pay42 (F := Ideal) (k0_pay2 (F := Ideal)) (k0_pay3 (F := Ideal) i) (k0_pay4 (F := Ideal) i) v185 (A 5 0) (A 5 1) (A 5 2) (A 5 3) x = Ideal.cmp .olt ((k0_pay41 (F := Ideal) (k0_pay2 (F := Ideal)) (k0_pay3 (F := Ideal) i) (k0_pay4 (F := Ideal) i) (A 5 0) (A 5 1) (A 5 2) (A 5 3)) x) (v185 x) := rfl
    simp only [hv185, p41] at e
    exact e.trans (msk 5 (by decide) w4)
  have p43 : k0_pay43 (F := Ideal) (k0_pay2 (F := Ideal)) (k0_pay3 (F := Ideal) i) (k0_pay4 (F := Ideal) i) v185 (A 5 0) (A 5 1) (A 5 2) (A 5 3) x = T w5 := by
    have e : k0_pay43 (F := Ideal) (k0_pay2 (F := Ideal)) (k0_pay3 (F := Ideal) i) (k0_pay4 (F := Ideal) i) v185 (A 5 0) (A 5 1) (A 5 2) (A 5 3) x = Scalar.select ((k0_pay42 (F := Ideal) (k0_pay2 (F := Ideal)) (k0_pay3 (F := Ideal) i) (k0_pay4 (F := Ideal) i) v185 (A 5 0) (A 5 1) (A 5 2) (A 5 3)) x) ((k0_pay41 (F := Ideal) (k0_pay2 (F := Ideal)) (k0_pay3 (F := Ideal) i) (k0_pay4 (F := Ideal) i) (A 5 0) (A 5 1) (A 5 2) (A 5 3)) x) (v185 x) := rfl
    simp only [hv185, p41, p42] at e
    exact e.trans (best g5 hR)
  have hv221 : v221 x = T w5 := by rw [ev221]; exact p43
  have p44 : k0_pay44 (F := Ideal) (k0_pay2 (F := Ideal)) (k0_pay3 (F := Ideal) i) (k0_pay4 (F := Ideal) i) v185 v187 (A 5 0) (A 5 1) (A 5 2) (A 5 3) x = A w5 0 := by
    have e : k0_pay44 (F := Ideal) (k0_pay2 (F := Ideal)) (k0_pay3 (F := Ideal) i) (k0_pay4 (F := Ideal) i) v185 v187 (A 5 0) (A 5 1) (A 5 2) (A 5 3) x = Scalar.select ((k0_pay42 (F := Ideal) (k0_pay2 (F := Ideal)) (k0_pay3 (F := Ideal) i) (k0_pay4 (F := Ideal) i) v185 (A 5 0) (A 5 1) (A 5 2) (A 5 3)) x) (A 5 0) (v187 x) := rfl
    simp only [hv187, p42] at e
    exact e.trans (sel g5 (fun s => A s 0))
  have hv223 : v223 x = A w5 0 := by rw [ev223]; exact p44
  have p45 : k0_pay45 (F := Ideal) (k0_pay2 (F := Ideal)) (k0_pay3 (F := Ideal) i) (k0_pay4 (F := Ideal) i) v185 v189 (A 5 0) (A 5 1) (A 5 2) (A 5 3) (A 5 7) x = A w5 7 := by
    have e : k0_pay45 (F := Ideal) (k0_pay2 (F := Ideal)) (k0_pay3 (F := Ideal) i) (k0_pay4 (F := Ideal) i) v185 v189 (A 5 0) (A 5 1) (A 5 2) (A 5 3) (A 5 7) x = Scalar.select ((k0_pay42 (F := Ideal) (k0_pay2 (F := Ideal)) (k0_pay3 (F := Ideal) i) (k0_pay4 (F := Ideal) i) v185 (A 5 0) (A 5 1) (A 5 2) (A 5 3)) x) (A 5 7) (v189 x) := rfl
    simp only [hv189, p42] at e
    exact e.trans (sel g5 (fun s => A s 7))
  have hv225 : v225 x = A w5 7 := by rw [ev225]; exact p45
  have p46 : k0_pay46 (F := Ideal) (k0_pay2 (F := Ideal)) (k0_pay3 (F := Ideal) i) (k0_pay4 (F := Ideal) i) v155 v184 v185 v190 (A 5 0) (A 5 1) (A 5 2) (A 5 3) x = A w5 2 := by
    have e : k0_pay46 (F := Ideal) (k0_pay2 (F := Ideal)) (k0_pay3 (F := Ideal) i) (k0_pay4 (F := Ideal) i) v155 v184 v185 v190 (A 5 0) (A 5 1) (A 5 2) (A 5 3) x = Scalar.select ((k0_pay42 (F := Ideal) (k0_pay2 (F := Ideal)) (k0_pay3 (F := Ideal) i) (k0_pay4 (F := Ideal) i) v185 (A 5 0) (A 5 1) (A 5 2) (A 5 3)) x) (A 5 2) (Scalar.select (v184 x) (v190 x) (v155 x)) := rfl
    simp only [hv155, hv184, hv190, p42] at e
    exact e.trans ((congrArg (Scalar.select _ _) (sel g4 (fun s => A s 2))).trans (sel g5 (fun s => A s 2)))
  have hv227 : v227 x = A w5 2 := by rw [ev227]; exact p46
  have p47 : k0_pay47 (F := Ideal) (k0_pay2 (F := Ideal)) (k0_pay3 (F := Ideal) i) (k0_pay4 (F := Ideal) i) v157 (A 4 4) v184 v185 (A 5 0) (A 5 1) (A 5 2) (A 5 3) (A 5 4) x = A w5 4 := by
    have e : k0_pay47 (F := Ideal) (k0_pay2 (F := Ideal)) (k0_pay3 (F := Ideal) i) (k0_pay4 (F := Ideal) i) v157 (A 4 4) v184 v185 (A 5 0) (A 5 1) (A 5 2) (A 5 3) (A 5 4) x = Scalar.select ((k0_pay42 (F := Ideal) (k0_pay2 (F := Ideal)) (k0_pay3 (F := Ideal) i) (k0_pay4 (F := Ideal) i) v185 (A 5 0) (A 5 1) (A 5 2) (A 5 3)) x) (A 5 4) (Scalar.select (v184 x) (A 4 4) (v157 x)) := rfl
    simp only [hv157, hv184, p42] at e
    exact e.trans ((congrArg (Scalar.select _ _) (sel g4 (fun s => A s 4))).trans (sel g5 (fun s => A s 4)))
  have hv229 : v229 x = A w5 4 := by rw [ev229]; exact p47
  have p48 : k0_pay48 (F := Ideal) (k0_pay2 (F := Ideal)) (k0_pay3 (F := Ideal) i) (k0_pay4 (F := Ideal) i) v159 (A 4 5) v184 v185 (A 5 0) (A 5 1) (A 5 2) (A 5 3) (A 5 5) x = A w5 5 := by
    have e : k0_pay48 (F := Ideal) (k0_pay2 (F := Ideal)) (k0_pay3 (F := Ideal) i) (k0_pay4 (F := Ideal) i) v159 (A 4 5) v184 v185 (A 5 0) (A 5 1) (A 5 2) (A 5 3) (A 5 5) x = Scalar.select ((k0_pay42 (F := Ideal) (k0_pay2 (F := Ideal)) (k0_pay3 (F := Ideal) i) (k0_pay4 (F := Ideal) i) v185 (A 5 0) (A 5 1) (A 5 2) (A 5 3)) x) (A 5 5) (Scalar.select (v184 x) (A 4 5) (v159 x)) := rfl
    simp only [hv159, hv184, p42] at e
    exact e.trans ((congrArg (Scalar.select _ _) (sel g4 (fun s => A s 5))).trans (sel g5 (fun s => A s 5)))
  have hv231 : v231 x = A w5 5 := by rw [ev231]; exact p48
  have p49 : k0_pay49 (F := Ideal) (k0_pay2 (F := Ideal)) (k0_pay3 (F := Ideal) i) (k0_pay4 (F := Ideal) i) v161 (A 4 6) v184 v185 (A 5 0) (A 5 1) (A 5 2) (A 5 3) (A 5 6) x = A w5 6 := by
    have e : k0_pay49 (F := Ideal) (k0_pay2 (F := Ideal)) (k0_pay3 (F := Ideal) i) (k0_pay4 (F := Ideal) i) v161 (A 4 6) v184 v185 (A 5 0) (A 5 1) (A 5 2) (A 5 3) (A 5 6) x = Scalar.select ((k0_pay42 (F := Ideal) (k0_pay2 (F := Ideal)) (k0_pay3 (F := Ideal) i) (k0_pay4 (F := Ideal) i) v185 (A 5 0) (A 5 1) (A 5 2) (A 5 3)) x) (A 5 6) (Scalar.select (v184 x) (A 4 6) (v161 x)) := rfl
    simp only [hv161, hv184, p42] at e
    exact e.trans ((congrArg (Scalar.select _ _) (sel g4 (fun s => A s 6))).trans (sel g5 (fun s => A s 6)))
  have hv233 : v233 x = A w5 6 := by rw [ev233]; exact p49
  have p50 : k0_pay50 (F := Ideal) (k0_pay2 (F := Ideal)) (k0_pay3 (F := Ideal) i) (k0_pay4 (F := Ideal) i) (A 6 0) (A 6 1) (A 6 2) (A 6 3) x = kR U V I A 6 := by
    have e : k0_pay50 (F := Ideal) (k0_pay2 (F := Ideal)) (k0_pay3 (F := Ideal) i) (k0_pay4 (F := Ideal) i) (A 6 0) (A 6 1) (A 6 2) (A 6 3) x = ((((((k0_pay2 (F := Ideal)) x) * (A 6 0)) + (((k0_pay3 (F := Ideal) i) x) * (A 6 2))) + (A 6 1)) * ((k0_pay4 (F := Ideal) i) x)) - (((((((((k0_pay2 (F := Ideal)) x) * (A 6 0)) + (((k0_pay3 (F := Ideal) i) x) * (A 6 2))) + (A 6 1)) * ((k0_pay4 (F := Ideal) i) x)) * ((((((k0_pay2 (F := Ideal)) x) * (A 6 0)) + (((k0_pay3 (F := Ideal) i) x) * (A 6 2))) + (A 6 1)) * ((k0_pay4 (F := Ideal) i) x))) - (A 6 3)) * (Ideal.rsqrt ((((((((k0_pay2 (F := Ideal)) x) * (A 6 0)) + (((k0_pay3 (F := Ideal) i) x) * (A 6 2))) + (A 6 1)) * ((k0_pay4 (F := Ideal) i) x)) * ((((((k0_pay2 (F := Ideal)) x) * (A 6 0)) + (((k0_pay3 (F := Ideal) i) x) * (A 6 2))) + (A 6 1)) * ((k0_pay4 (F := Ideal) i) x))) - (A 6 3)))) := rfl
    simp only [hI, hU, hV] at e
    exact e.trans (rfl)
  have p51 : k0_pay51 (F := Ideal) (k0_pay2 (F := Ideal)) (k0_pay3 (F := Ideal) i) (k0_pay4 (F := Ideal) i) v221 (A 6 0) (A 6 1) (A 6 2) (A 6 3) x = Ideal.cmp .olt (T 6) (T w5) := by
    have e : k0_pay51 (F := Ideal) (k0_pay2 (F := Ideal)) (k0_pay3 (F := Ideal) i) (k0_pay4 (F := Ideal) i) v221 (A 6 0) (A 6 1) (A 6 2) (A 6 3) x = Ideal.cmp .olt ((k0_pay50 (F := Ideal) (k0_pay2 (F := Ideal)) (k0_pay3 (F := Ideal) i) (k0_pay4 (F := Ideal) i) (A 6 0) (A 6 1) (A 6 2) (A 6 3)) x) (v221 x) := rfl
    simp only [hv221, p50] at e
    exact e.trans (msk 6 (by decide) w5)
  have p52 : k0_pay52 (F := Ideal) (k0_pay2 (F := Ideal)) (k0_pay3 (F := Ideal) i) (k0_pay4 (F := Ideal) i) v221 (A 6 0) (A 6 1) (A 6 2) (A 6 3) x = T w6 := by
    have e : k0_pay52 (F := Ideal) (k0_pay2 (F := Ideal)) (k0_pay3 (F := Ideal) i) (k0_pay4 (F := Ideal) i) v221 (A 6 0) (A 6 1) (A 6 2) (A 6 3) x = Scalar.select ((k0_pay51 (F := Ideal) (k0_pay2 (F := Ideal)) (k0_pay3 (F := Ideal) i) (k0_pay4 (F := Ideal) i) v221 (A 6 0) (A 6 1) (A 6 2) (A 6 3)) x) ((k0_pay50 (F := Ideal) (k0_pay2 (F := Ideal)) (k0_pay3 (F := Ideal) i) (k0_pay4 (F := Ideal) i) (A 6 0) (A 6 1) (A 6 2) (A 6 3)) x) (v221 x) := rfl
    simp only [hv221, p50, p51] at e
    exact e.trans (best g6 hR)
  have hv257 : v257 x = T w6 := by rw [ev257]; exact p52
  have p53 : k0_pay53 (F := Ideal) (k0_pay2 (F := Ideal)) (k0_pay3 (F := Ideal) i) (k0_pay4 (F := Ideal) i) v221 v223 (A 6 0) (A 6 1) (A 6 2) (A 6 3) x = A w6 0 := by
    have e : k0_pay53 (F := Ideal) (k0_pay2 (F := Ideal)) (k0_pay3 (F := Ideal) i) (k0_pay4 (F := Ideal) i) v221 v223 (A 6 0) (A 6 1) (A 6 2) (A 6 3) x = Scalar.select ((k0_pay51 (F := Ideal) (k0_pay2 (F := Ideal)) (k0_pay3 (F := Ideal) i) (k0_pay4 (F := Ideal) i) v221 (A 6 0) (A 6 1) (A 6 2) (A 6 3)) x) (A 6 0) (v223 x) := rfl
    simp only [hv223, p51] at e
    exact e.trans (sel g6 (fun s => A s 0))
  have hv259 : v259 x = A w6 0 := by rw [ev259]; exact p53
  have p54 : k0_pay54 (F := Ideal) (k0_pay2 (F := Ideal)) (k0_pay3 (F := Ideal) i) (k0_pay4 (F := Ideal) i) v221 v225 (A 6 0) (A 6 1) (A 6 2) (A 6 3) (A 6 7) x = A w6 7 := by
    have e : k0_pay54 (F := Ideal) (k0_pay2 (F := Ideal)) (k0_pay3 (F := Ideal) i) (k0_pay4 (F := Ideal) i) v221 v225 (A 6 0) (A 6 1) (A 6 2) (A 6 3) (A 6 7) x = Scalar.select ((k0_pay51 (F := Ideal) (k0_pay2 (F := Ideal)) (k0_pay3 (F := Ideal) i) (k0_pay4 (F := Ideal) i) v221 (A 6 0) (A 6 1) (A 6 2) (A 6 3)) x) (A 6 7) (v225 x) := rfl
    simp only [hv225, p51] at e
    exact e.trans (sel g6 (fun s => A s 7))
  have hv261 : v261 x = A w6 7 := by rw [ev261]; exact p54
  have p55 : k0_pay55 (F := Ideal) (k0_pay2 (F := Ideal)) (k0_pay3 (F := Ideal) i) (k0_pay4 (F := Ideal) i) v221 v227 (A 6 0) (A 6 1) (A 6 2) (A 6 3) x = A w6 2 := by
    have e : k0_pay55 (F := Ideal) (k0_pay2 (F := Ideal)) (k0_pay3 (F := Ideal) i) (k0_pay4 (F := Ideal) i) v221 v227 (A 6 0) (A 6 1) (A 6 2) (A 6 3) x = Scalar.select ((k0_pay51 (F := Ideal) (k0_pay2 (F := Ideal)) (k0_pay3 (F := Ideal) i) (k0_pay4 (F := Ideal) i) v221 (A 6 0) (A 6 1) (A 6 2) (A 6 3)) x) (A 6 2) (v227 x) := rfl
    simp only [hv227, p51] at e
    exact e.trans (sel g6 (fun s => A s 2))
  have hv263 : v263 x = A w6 2 := by rw [ev263]; exact p55
  have p56 : k0_pay56 (F := Ideal) (k0_pay2 (F := Ideal)) (k0_pay3 (F := Ideal) i) (k0_pay4 (F := Ideal) i) v221 v229 (A 6 0) (A 6 1) (A 6 2) (A 6 3) (A 6 4) x = A w6 4 := by
    have e : k0_pay56 (F := Ideal) (k0_pay2 (F := Ideal)) (k0_pay3 (F := Ideal) i) (k0_pay4 (F := Ideal) i) v221 v229 (A 6 0) (A 6 1) (A 6 2) (A 6 3) (A 6 4) x = Scalar.select ((k0_pay51 (F := Ideal) (k0_pay2 (F := Ideal)) (k0_pay3 (F := Ideal) i) (k0_pay4 (F := Ideal) i) v221 (A 6 0) (A 6 1) (A 6 2) (A 6 3)) x) (A 6 4) (v229 x) := rfl
    simp only [hv229, p51] at e
    exact e.trans (sel g6 (fun s => A s 4))
  have hv265 : v265 x = A w6 4 := by rw [ev265]; exact p56
  have p57 : k0_pay57 (F := Ideal) (k0_pay2 (F := Ideal)) (k0_pay3 (F := Ideal) i) (k0_pay4 (F := Ideal) i) v221 v231 (A 6 0) (A 6 1) (A 6 2) (A 6 3) (A 6 5) x = A w6 5 := by
    have e : k0_pay57 (F := Ideal) (k0_pay2 (F := Ideal)) (k0_pay3 (F := Ideal) i) (k0_pay4 (F := Ideal) i) v221 v231 (A 6 0) (A 6 1) (A 6 2) (A 6 3) (A 6 5) x = Scalar.select ((k0_pay51 (F := Ideal) (k0_pay2 (F := Ideal)) (k0_pay3 (F := Ideal) i) (k0_pay4 (F := Ideal) i) v221 (A 6 0) (A 6 1) (A 6 2) (A 6 3)) x) (A 6 5) (v231 x) := rfl
    simp only [hv231, p51] at e
    exact e.trans (sel g6 (fun s => A s 5))
  have hv267 : v267 x = A w6 5 := by rw [ev267]; exact p57
  have p58 : k0_pay58 (F := Ideal) (k0_pay2 (F := Ideal)) (k0_pay3 (F := Ideal) i) (k0_pay4 (F := Ideal) i) v221 v233 (A 6 0) (A 6 1) (A 6 2) (A 6 3) (A 6 6) x = A w6 6 := by
    have e : k0_pay58 (F := Ideal) (k0_pay2 (F := Ideal)) (k0_pay3 (F := Ideal) i) (k0_pay4 (F := Ideal) i) v221 v233 (A 6 0) (A 6 1) (A 6 2) (A 6 3) (A 6 6) x = Scalar.select ((k0_pay51 (F := Ideal) (k0_pay2 (F := Ideal)) (k0_pay3 (F := Ideal) i) (k0_pay4 (F := Ideal) i) v221 (A 6 0) (A 6 1) (A 6 2) (A 6 3)) x) (A 6 6) (v233 x) := rfl
    simp only [hv233, p51] at e
    exact e.trans (sel g6 (fun s => A s 6))
  have hv269 : v269 x = A w6 6 := by rw [ev269]; exact p58
  have p59 : k0_pay59 (F := Ideal) (k0_pay2 (F := Ideal)) (k0_pay3 (F := Ideal) i) (k0_pay4 (F := Ideal) i) (A 7 0) (A 7 1) (A 7 2) x = kQ U V I A 7 := by
    have e : k0_pay59 (F := Ideal) (k0_pay2 (F := Ideal)) (k0_pay3 (F := Ideal) i) (k0_pay4 (F := Ideal) i) (A 7 0) (A 7 1) (A 7 2) x = (((((k0_pay2 (F := Ideal)) x) * (A 7 0)) + (((k0_pay3 (F := Ideal) i) x) * (A 7 2))) + (A 7 1)) * ((k0_pay4 (F := Ideal) i) x) := rfl
    simp only [hI, hU, hV] at e
    exact e.trans (rfl)
  have hv285 : v285 x = kQ U V I A 7 := by rw [ev285]; exact p59
  have p60 : k0_pay60 (F := Ideal) (k0_pay2 (F := Ideal)) (k0_pay3 (F := Ideal) i) (k0_pay4 (F := Ideal) i) (A 7 0) (A 7 1) (A 7 2) x = (kQ U V I A 7) * (kQ U V I A 7) := by
    have e : k0_pay60 (F := Ideal) (k0_pay2 (F := Ideal)) (k0_pay3 (F := Ideal) i) (k0_pay4 (F := Ideal) i) (A 7 0) (A 7 1) (A 7 2) x = ((k0_pay59 (F := Ideal) (k0_pay2 (F := Ideal)) (k0_pay3 (F := Ideal) i) (k0_pay4 (F := Ideal) i) (A 7 0) (A 7 1) (A 7 2)) x) * ((k0_pay59 (F := Ideal) (k0_pay2 (F := Ideal)) (k0_pay3 (F := Ideal) i) (k0_pay4 (F := Ideal) i) (A 7 0) (A 7 1) (A 7 2)) x) := rfl
    simp only [p59] at e
    exact e.trans (rfl)
  have hv286 : v286 x = (kQ U V I A 7) * (kQ U V I A 7) := by rw [ev286]; exact p60
  have p61 : k0_pay61 (F := Ideal) (A 7 3) v285 v286 x = kR U V I A 7 := by
    have e : k0_pay61 (F := Ideal) (A 7 3) v285 v286 x = (v285 x) - (((v286 x) - (A 7 3)) * (Ideal.rsqrt ((v286 x) - (A 7 3)))) := rfl
    simp only [hv285, hv286] at e
    exact e.trans (rfl)
  have p62 : k0_pay62 (F := Ideal) v257 (A 7 3) v285 v286 x = Ideal.cmp .olt (T 7) (T w6) := by
    have e : k0_pay62 (F := Ideal) v257 (A 7 3) v285 v286 x = Ideal.cmp .olt ((k0_pay61 (F := Ideal) (A 7 3) v285 v286) x) (v257 x) := rfl
    simp only [hv257, p61] at e
    exact e.trans (msk 7 (by decide) w6)
  have p63 : k0_pay63 (F := Ideal) v257 (A 7 3) v285 v286 x = T w7 := by
    have e : k0_pay63 (F := Ideal) v257 (A 7 3) v285 v286 x = Scalar.select ((k0_pay62 (F := Ideal) v257 (A 7 3) v285 v286) x) ((k0_pay61 (F := Ideal) (A 7 3) v285 v286) x) (v257 x) := rfl
    simp only [hv257, p61, p62] at e
    exact e.trans (best g7 hR)
  have hv293 : v293 x = T w7 := by rw [ev293]; exact p63
  have p64 : k0_pay64 (F := Ideal) v257 v265 (A 7 3) (A 7 4) v285 v286 x = A w7 4 := by
    have e : k0_pay64 (F := Ideal) v257 v265 (A 7 3) (A 7 4) v285 v286 x = Scalar.select ((k0_pay62 (F := Ideal) v257 (A 7 3) v285 v286) x) (A 7 4) (v265 x) := rfl
    simp only [hv265, p62] at e
    exact e.trans (sel g7 (fun s => A s 4))
  have hv301 : v301 x = A w7 4 := by rw [ev301]; exact p64
  have p65 : k0_pay65 (F := Ideal) v257 v267 (A 7 3) (A 7 5) v285 v286 x = A w7 5 := by
    have e : k0_pay65 (F := Ideal) v257 v267 (A 7 3) (A 7 5) v285 v286 x = Scalar.select ((k0_pay62 (F := Ideal) v257 (A 7 3) v285 v286) x) (A 7 5) (v267 x) := rfl
    simp only [hv267, p62] at e
    exact e.trans (sel g7 (fun s => A s 5))
  have hv303 : v303 x = A w7 5 := by rw [ev303]; exact p65
  have p66 : k0_pay66 (F := Ideal) v257 v269 (A 7 3) (A 7 6) v285 v286 x = A w7 6 := by
    have e : k0_pay66 (F := Ideal) v257 v269 (A 7 3) (A 7 6) v285 v286 x = Scalar.select ((k0_pay62 (F := Ideal) v257 (A 7 3) v285 v286) x) (A 7 6) (v269 x) := rfl
    simp only [hv269, p62] at e
    exact e.trans (sel g7 (fun s => A s 6))
  have hv305 : v305 x = A w7 6 := by rw [ev305]; exact p66
  have p67 : k0_pay67 (F := Ideal) v257 (A 7 3) v285 v286 x = Ideal.cmp .olt (T w7) (⊤) := by
    have e : k0_pay67 (F := Ideal) v257 (A 7 3) v285 v286 x = Ideal.cmp .olt ((k0_pay63 (F := Ideal) v257 (A 7 3) v285 v286) x) (Ideal.ofBits .f32 0x7F800000#32) := rfl
    simp only [p63, w_inf] at e
    exact e.trans (rfl)
  have hv310 : v310 x = Ideal.cmp .olt (T w7) (⊤) := by rw [ev310]; exact p67
  have p68 : k0_pay68 (F := Ideal) (k0_pay4 (F := Ideal) i) v257 (A 7 3) v285 v286 x = s311 := by
    have e : k0_pay68 (F := Ideal) (k0_pay4 (F := Ideal) i) v257 (A 7 3) v285 v286 x = ((k0_pay63 (F := Ideal) v257 (A 7 3) v285 v286) x) * ((k0_pay4 (F := Ideal) i) x) := rfl
    simp only [hI, p63] at e
    exact e.trans (by simp only [d311])
  have p69 : k0_pay69 (F := Ideal) (k0_pay2 (F := Ideal)) (k0_pay4 (F := Ideal) i) v257 (A 7 3) v285 v286 x = s312 := by
    have e : k0_pay69 (F := Ideal) (k0_pay2 (F := Ideal)) (k0_pay4 (F := Ideal) i) v257 (A 7 3) v285 v286 x = ((k0_pay68 (F := Ideal) (k0_pay4 (F := Ideal) i) v257 (A 7 3) v285 v286) x) * ((k0_pay2 (F := Ideal)) x) := rfl
    simp only [hU, p68] at e
    exact e.trans (by simp only [d312])
  have p70 : k0_pay70 (F := Ideal) (k0_pay4 (F := Ideal) i) v257 (A 7 3) v285 v286 x = s314 := by
    have e : k0_pay70 (F := Ideal) (k0_pay4 (F := Ideal) i) v257 (A 7 3) v285 v286 x = ((k0_pay68 (F := Ideal) (k0_pay4 (F := Ideal) i) v257 (A 7 3) v285 v286) x) * (Ideal.ofBits .f32 0x40A00000#32) := rfl
    simp only [p68, w_five] at e
    exact e.trans (by simp only [d314])
  have p71 : k0_pay71 (F := Ideal) (k0_pay3 (F := Ideal) i) (k0_pay4 (F := Ideal) i) v257 (A 7 3) v285 v286 x = s315 := by
    have e : k0_pay71 (F := Ideal) (k0_pay3 (F := Ideal) i) (k0_pay4 (F := Ideal) i) v257 (A 7 3) v285 v286 x = ((k0_pay68 (F := Ideal) (k0_pay4 (F := Ideal) i) v257 (A 7 3) v285 v286) x) * ((k0_pay3 (F := Ideal) i) x) := rfl
    simp only [hV, p68] at e
    exact e.trans (by simp only [d315])
  have p72 : k0_pay72 (F := Ideal) (k0_pay2 (F := Ideal)) (k0_pay4 (F := Ideal) i) v257 v259 (A 7 0) (A 7 3) v285 v286 x = s316 := by
    have e : k0_pay72 (F := Ideal) (k0_pay2 (F := Ideal)) (k0_pay4 (F := Ideal) i) v257 v259 (A 7 0) (A 7 3) v285 v286 x = ((k0_pay69 (F := Ideal) (k0_pay2 (F := Ideal)) (k0_pay4 (F := Ideal) i) v257 (A 7 3) v285 v286) x) - (Scalar.select ((k0_pay62 (F := Ideal) v257 (A 7 3) v285 v286) x) (A 7 0) (v259 x)) := rfl
    simp only [hv259, p62, p69] at e
    exact e.trans (by simp only [sel g7 (fun s => A s 0), d316])
  have p73 : k0_pay73 (F := Ideal) (k0_pay4 (F := Ideal) i) v257 v261 (A 7 3) (A 7 7) v285 v286 x = s317 := by
    have e : k0_pay73 (F := Ideal) (k0_pay4 (F := Ideal) i) v257 v261 (A 7 3) (A 7 7) v285 v286 x = ((k0_pay70 (F := Ideal) (k0_pay4 (F := Ideal) i) v257 (A 7 3) v285 v286) x) - (Scalar.select ((k0_pay62 (F := Ideal) v257 (A 7 3) v285 v286) x) (A 7 7) (v261 x)) := rfl
    simp only [hv261, p62, p70] at e
    exact e.trans (by simp only [sel g7 (fun s => A s 7), d317])
  have p74 : k0_pay74 (F := Ideal) (k0_pay3 (F := Ideal) i) (k0_pay4 (F := Ideal) i) v257 v263 (A 7 2) (A 7 3) v285 v286 x = s318 := by
    have e : k0_pay74 (F := Ideal) (k0_pay3 (F := Ideal) i) (k0_pay4 (F := Ideal) i) v257 v263 (A 7 2) (A 7 3) v285 v286 x = ((k0_pay71 (F := Ideal) (k0_pay3 (F := Ideal) i) (k0_pay4 (F := Ideal) i) v257 (A 7 3) v285 v286) x) - (Scalar.select ((k0_pay62 (F := Ideal) v257 (A 7 3) v285 v286) x) (A 7 2) (v263 x)) := rfl
    simp only [hv263, p62, p71] at e
    exact e.trans (by simp only [sel g7 (fun s => A s 2), d318])
  have p75 : k0_pay75 (F := Ideal) (k0_pay2 (F := Ideal)) (k0_pay3 (F := Ideal) i) (k0_pay4 (F := Ideal) i) v257 v259 v261 v263 (A 7 0) (A 7 2) (A 7 3) (A 7 7) v285 v286 x = s324 := by
    have e : k0_pay75 (F := Ideal) (k0_pay2 (F := Ideal)) (k0_pay3 (F := Ideal) i) (k0_pay4 (F := Ideal) i) v257 v259 v261 v263 (A 7 0) (A 7 2) (A 7 3) (A 7 7) v285 v286 x = Ideal.rsqrt (((((k0_pay72 (F := Ideal) (k0_pay2 (F := Ideal)) (k0_pay4 (F := Ideal) i) v257 v259 (A 7 0) (A 7 3) v285 v286) x) * ((k0_pay72 (F := Ideal) (k0_pay2 (F := Ideal)) (k0_pay4 (F := Ideal) i) v257 v259 (A 7 0) (A 7 3) v285 v286) x)) + (((k0_pay73 (F := Ideal) (k0_pay4 (F := Ideal) i) v257 v261 (A 7 3) (A 7 7) v285 v286) x) * ((k0_pay73 (F := Ideal) (k0_pay4 (F := Ideal) i) v257 v261 (A 7 3) (A 7 7) v285 v286) x))) + (((k0_pay74 (F := Ideal) (k0_pay3 (F := Ideal) i) (k0_pay4 (F := Ideal) i) v257 v263 (A 7 2) (A 7 3) v285 v286) x) * ((k0_pay74 (F := Ideal) (k0_pay3 (F := Ideal) i) (k0_pay4 (F := Ideal) i) v257 v263 (A 7 2) (A 7 3) v285 v286) x))) := rfl
    simp only [p72, p73, p74] at e
    exact e.trans (by simp only [d319, d320, d321, d322, d323, d324])
  have p76 : k0_pay76 (F := Ideal) (k0_pay2 (F := Ideal)) (k0_pay3 (F := Ideal) i) (k0_pay4 (F := Ideal) i) v257 v259 v261 v263 (A 7 0) (A 7 2) (A 7 3) (A 7 7) v285 v286 x = s325 := by
    have e : k0_pay76 (F := Ideal) (k0_pay2 (F := Ideal)) (k0_pay3 (F := Ideal) i) (k0_pay4 (F := Ideal) i) v257 v259 v261 v263 (A 7 0) (A 7 2) (A 7 3) (A 7 7) v285 v286 x = ((k0_pay72 (F := Ideal) (k0_pay2 (F := Ideal)) (k0_pay4 (F := Ideal) i) v257 v259 (A 7 0) (A 7 3) v285 v286) x) * ((k0_pay75 (F := Ideal) (k0_pay2 (F := Ideal)) (k0_pay3 (F := Ideal) i) (k0_pay4 (F := Ideal) i) v257 v259 v261 v263 (A 7 0) (A 7 2) (A 7 3) (A 7 7) v285 v286) x) := rfl
    simp only [p72, p75] at e
    exact e.trans (by simp only [d325])
  have hv325 : v325 x = s325 := by rw [ev325]; exact p76
  have p77 : k0_pay77 (F := Ideal) (k0_pay2 (F := Ideal)) (k0_pay3 (F := Ideal) i) (k0_pay4 (F := Ideal) i) v257 v259 v261 v263 (A 7 0) (A 7 2) (A 7 3) (A 7 7) v285 v286 x = s326 := by
    have e : k0_pay77 (F := Ideal) (k0_pay2 (F := Ideal)) (k0_pay3 (F := Ideal) i) (k0_pay4 (F := Ideal) i) v257 v259 v261 v263 (A 7 0) (A 7 2) (A 7 3) (A 7 7) v285 v286 x = ((k0_pay73 (F := Ideal) (k0_pay4 (F := Ideal) i) v257 v261 (A 7 3) (A 7 7) v285 v286) x) * ((k0_pay75 (F := Ideal) (k0_pay2 (F := Ideal)) (k0_pay3 (F := Ideal) i) (k0_pay4 (F := Ideal) i) v257 v259 v261 v263 (A 7 0) (A 7 2) (A 7 3) (A 7 7) v285 v286) x) := rfl
    simp only [p73, p75] at e
    exact e.trans (by simp only [d326])
  have hv326 : v326 x = s326 := by rw [ev326]; exact p77
  have p78 : k0_pay78 (F := Ideal) (k0_pay2 (F := Ideal)) (k0_pay3 (F := Ideal) i) (k0_pay4 (F := Ideal) i) v257 v259 v261 v263 (A 7 0) (A 7 2) (A 7 3) (A 7 7) v285 v286 x = s327 := by
    have e : k0_pay78 (F := Ideal) (k0_pay2 (F := Ideal)) (k0_pay3 (F := Ideal) i) (k0_pay4 (F := Ideal) i) v257 v259 v261 v263 (A 7 0) (A 7 2) (A 7 3) (A 7 7) v285 v286 x = ((k0_pay74 (F := Ideal) (k0_pay3 (F := Ideal) i) (k0_pay4 (F := Ideal) i) v257 v263 (A 7 2) (A 7 3) v285 v286) x) * ((k0_pay75 (F := Ideal) (k0_pay2 (F := Ideal)) (k0_pay3 (F := Ideal) i) (k0_pay4 (F := Ideal) i) v257 v259 v261 v263 (A 7 0) (A 7 2) (A 7 3) (A 7 7) v285 v286) x) := rfl
    simp only [p74, p75] at e
    exact e.trans (by simp only [d327])
  have hv327 : v327 x = s327 := by rw [ev327]; exact p78
  have p79 : k0_pay79 (F := Ideal) (k0_pay2 (F := Ideal)) (k0_pay4 (F := Ideal) i) v257 (A 7 3) v285 v286 (L 0) x = s329 := by
    have e : k0_pay79 (F := Ideal) (k0_pay2 (F := Ideal)) (k0_pay4 (F := Ideal) i) v257 (A 7 3) v285 v286 (L 0) x = (L 0) - ((k0_pay69 (F := Ideal) (k0_pay2 (F := Ideal)) (k0_pay4 (F := Ideal) i) v257 (A 7 3) v285 v286) x) := rfl
    simp only [p69] at e
    exact e.trans (by simp only [d329])
  have p80 : k0_pay80 (F := Ideal) (k0_pay4 (F := Ideal) i) v257 (A 7 3) v285 v286 (L 1) x = s331 := by
    have e : k0_pay80 (F := Ideal) (k0_pay4 (F := Ideal) i) v257 (A 7 3) v285 v286 (L 1) x = (L 1) - ((k0_pay70 (F := Ideal) (k0_pay4 (F := Ideal) i) v257 (A 7 3) v285 v286) x) := rfl
    simp only [p70] at e
    exact e.trans (by simp only [d331])
  have p81 : k0_pay81 (F := Ideal) (k0_pay3 (F := Ideal) i) (k0_pay4 (F := Ideal) i) v257 (A 7 3) v285 v286 (L 2) x = s333 := by
    have e : k0_pay81 (F := Ideal) (k0_pay3 (F := Ideal) i) (k0_pay4 (F := Ideal) i) v257 (A 7 3) v285 v286 (L 2) x = (L 2) - ((k0_pay71 (F := Ideal) (k0_pay3 (F := Ideal) i) (k0_pay4 (F := Ideal) i) v257 (A 7 3) v285 v286) x) := rfl
    simp only [p71] at e
    exact e.trans (by simp only [d333])
  have hv333 : v333 x = s333 := by rw [ev333]; exact p81
  have p82 : k0_pay82 (F := Ideal) (k0_pay2 (F := Ideal)) (k0_pay3 (F := Ideal) i) (k0_pay4 (F := Ideal) i) v257 (A 7 3) v285 v286 (L 0) (L 1) (L 2) x = s339 := by
    have e : k0_pay82 (F := Ideal) (k0_pay2 (F := Ideal)) (k0_pay3 (F := Ideal) i) (k0_pay4 (F := Ideal) i) v257 (A 7 3) v285 v286 (L 0) (L 1) (L 2) x = Ideal.rsqrt (((((k0_pay79 (F := Ideal) (k0_pay2 (F := Ideal)) (k0_pay4 (F := Ideal) i) v257 (A 7 3) v285 v286 (L 0)) x) * ((k0_pay79 (F := Ideal) (k0_pay2 (F := Ideal)) (k0_pay4 (F := Ideal) i) v257 (A 7 3) v285 v286 (L 0)) x)) + (((k0_pay80 (F := Ideal) (k0_pay4 (F := Ideal) i) v257 (A 7 3) v285 v286 (L 1)) x) * ((k0_pay80 (F := Ideal) (k0_pay4 (F := Ideal) i) v257 (A 7 3) v285 v286 (L 1)) x))) + (((k0_pay81 (F := Ideal) (k0_pay3 (F := Ideal) i) (k0_pay4 (F := Ideal) i) v257 (A 7 3) v285 v286 (L 2)) x) * ((k0_pay81 (F := Ideal) (k0_pay3 (F := Ideal) i) (k0_pay4 (F := Ideal) i) v257 (A 7 3) v285 v286 (L 2)) x))) := rfl
    simp only [p79, p80, p81] at e
    exact e.trans (by simp only [d334, d335, d336, d337, d338, d339])
  have hv339 : v339 x = s339 := by rw [ev339]; exact p82
  have p83 : k0_pay83 (F := Ideal) (k0_pay2 (F := Ideal)) (k0_pay3 (F := Ideal) i) (k0_pay4 (F := Ideal) i) v257 (A 7 3) v285 v286 (L 0) (L 1) (L 2) x = s340 := by
    have e : k0_pay83 (F := Ideal) (k0_pay2 (F := Ideal)) (k0_pay3 (F := Ideal) i) (k0_pay4 (F := Ideal) i) v257 (A 7 3) v285 v286 (L 0) (L 1) (L 2) x = ((k0_pay79 (F := Ideal) (k0_pay2 (F := Ideal)) (k0_pay4 (F := Ideal) i) v257 (A 7 3) v285 v286 (L 0)) x) * ((k0_pay82 (F := Ideal) (k0_pay2 (F := Ideal)) (k0_pay3 (F := Ideal) i) (k0_pay4 (F := Ideal) i) v257 (A 7 3) v285 v286 (L 0) (L 1) (L 2)) x) := rfl
    simp only [p79, p82] at e
    exact e.trans (by simp only [d340])
  have hv340 : v340 x = s340 := by rw [ev340]; exact p83
  have p84 : k0_pay84 (F := Ideal) (k0_pay2 (F := Ideal)) (k0_pay3 (F := Ideal) i) (k0_pay4 (F := Ideal) i) v257 (A 7 3) v285 v286 (L 0) (L 1) (L 2) x = s341 := by
    have e : k0_pay84 (F := Ideal) (k0_pay2 (F := Ideal)) (k0_pay3 (F := Ideal) i) (k0_pay4 (F := Ideal) i) v257 (A 7 3) v285 v286 (L 0) (L 1) (L 2) x = ((k0_pay80 (F := Ideal) (k0_pay4 (F := Ideal) i) v257 (A 7 3) v285 v286 (L 1)) x) * ((k0_pay82 (F := Ideal) (k0_pay2 (F := Ideal)) (k0_pay3 (F := Ideal) i) (k0_pay4 (F := Ideal) i) v257 (A 7 3) v285 v286 (L 0) (L 1) (L 2)) x) := rfl
    simp only [p80, p82] at e
    exact e.trans (by simp only [d341])
  have hv341 : v341 x = s341 := by rw [ev341]; exact p84
  have p85 : k0_pay85 (F := Ideal) (k0_pay2 (F := Ideal)) (k0_pay3 (F := Ideal) i) (k0_pay4 (F := Ideal) i) v293 v325 v326 v327 v333 v339 v340 v341 x = s390 := by
    have e : k0_pay85 (F := Ideal) (k0_pay2 (F := Ideal)) (k0_pay3 (F := Ideal) i) (k0_pay4 (F := Ideal) i) v293 v325 v326 v327 v333 v339 v340 v341 x = ((Ideal.ofBits .f32 0x3ECCCCCD#32) + ((Ideal.ofBits .f32 0x3F000000#32) * (max ((((v325 x) * (v340 x)) + ((v326 x) * (v341 x))) + ((v327 x) * ((v333 x) * (v339 x)))) (Ideal.ofBits .f32 0x00000000#32)))) + ((Ideal.ofBits .f32 0x3F4CCCCD#32) * (pow16 (max ((((((v325 x) * (((((v325 x) * (v340 x)) + ((v326 x) * (v341 x))) + ((v327 x) * ((v333 x) * (v339 x)))) + ((((v325 x) * (v340 x)) + ((v326 x) * (v341 x))) + ((v327 x) * ((v333 x) * (v339 x)))))) - (v340 x)) * (((Ideal.ofBits .f32 0x00000000#32) - (Scalar.select (Ideal.cmp .olt (v293 x) (Ideal.ofBits .f32 0x00000000#32)) ((Ideal.ofBits .f32 0x00000000#32) - (max ((k0_pay4 (F := Ideal) i) x) (-((k0_pay4 (F := Ideal) i) x)))) (max ((k0_pay4 (F := Ideal) i) x) (-((k0_pay4 (F := Ideal) i) x))))) * ((k0_pay2 (F := Ideal)) x))) + ((((v326 x) * (((((v325 x) * (v340 x)) + ((v326 x) * (v341 x))) + ((v327 x) * ((v333 x) * (v339 x)))) + ((((v325 x) * (v340 x)) + ((v326 x) * (v341 x))) + ((v327 x) * ((v333 x) * (v339 x)))))) - (v341 x)) * (((Ideal.ofBits .f32 0x00000000#32) - (Scalar.select (Ideal.cmp .olt (v293 x) (Ideal.ofBits .f32 0x00000000#32)) ((Ideal.ofBits .f32 0x00000000#32) - (max ((k0_pay4 (F := Ideal) i) x) (-((k0_pay4 (F := Ideal) i) x)))) (max ((k0_pay4 (F := Ideal) i) x) (-((k0_pay4 (F := Ideal) i) x))))) * (Ideal.ofBits .f32 0x40A00000#32)))) + ((((v327 x) * (((((v325 x) * (v340 x)) + ((v326 x) * (v341 x))) + ((v327 x) * ((v333 x) * (v339 x)))) + ((((v325 x) * (v340 x)) + ((v326 x) * (v341 x))) + ((v327 x) * ((v333 x) * (v339 x)))))) - ((v333 x) * (v339 x))) * (((Ideal.ofBits .f32 0x00000000#32) - (Scalar.select (Ideal.cmp .olt (v293 x) (Ideal.ofBits .f32 0x00000000#32)) ((Ideal.ofBits .f32 0x00000000#32) - (max ((k0_pay4 (F := Ideal) i) x) (-((k0_pay4 (F := Ideal) i) x)))) (max ((k0_pay4 (F := Ideal) i) x) (-((k0_pay4 (F := Ideal) i) x))))) * ((k0_pay3 (F := Ideal) i) x)))) (Ideal.ofBits .f32 0x00000000#32)))) := rfl
    simp only [hI, hU, hV, hv293, hv325, hv326, hv327, hv333, hv339, hv340, hv341, w_amb, w_five, w_half, w_spc, w_zero] at e
    exact e.trans (by simp only [pow16, d342, d352, d354, d355, d357, d358, d359, d360, d361, d362, d363, d365, d367, d368, d369, d370, d371, d372, d373, d374, d375, d376, d377, d378, d379, d381, d382, d383, d384, d385, d387, d389, d390])
  have hv390 : v390 x = s390 := by rw [ev390]; exact p85
  have p86 : k0_pay86 (F := Ideal) (k0_pay1 (F := Ideal) i) x = Y * ((2 / 1023 : ℝ) : EReal) := by
    have e : k0_pay86 (F := Ideal) (k0_pay1 (F := Ideal) i) x = ((k0_pay1 (F := Ideal) i) x) * (Named.named (F := Ideal) κ "pitch" 0x3B002008#32) := rfl
    simp only [hY, w_pitch] at e
    exact e.trans (rfl)
  have hv392 : v392 x = Y * ((2 / 1023 : ℝ) : EReal) := by rw [ev392]; exact p86
  have p87 : k0_pay87 (F := Ideal) v392 x = (Y * ((2 / 1023 : ℝ) : EReal)) - ((1 : ℝ) : EReal) := by
    have e : k0_pay87 (F := Ideal) v392 x = (v392 x) - (Ideal.ofBits .f32 0x3F800000#32) := rfl
    simp only [hv392, w_one] at e
    exact e.trans (rfl)
  have p88 : k0_pay88 (F := Ideal) v392 x = ((1 : ℝ) : EReal) - ((Y * ((2 / 1023 : ℝ) : EReal)) - ((1 : ℝ) : EReal)) := by
    have e : k0_pay88 (F := Ideal) v392 x = (Ideal.ofBits .f32 0x3F800000#32) - ((k0_pay87 (F := Ideal) v392) x) := rfl
    simp only [p87, w_one] at e
    exact e.trans (rfl)
  have p89 : k0_pay89 (F := Ideal) v301 v310 v390 v392 y = Scalar.select (Ideal.cmp .olt (T w7) (⊤)) (min ((1 : ℝ) : EReal) (max ((0 : ℝ) : EReal) s404)) (((((1 : ℝ) : EReal) - ((Y * ((2 / 1023 : ℝ) : EReal)) - ((1 : ℝ) : EReal))) * ((1 / 2 : ℝ) : EReal)) + ((Y * ((2 / 1023 : ℝ) : EReal)) - ((1 : ℝ) : EReal))) := by
    have e : k0_pay89 (F := Ideal) v301 v310 v390 v392 y = Scalar.select (v310 x) (min (Ideal.ofBits .f32 0x3F800000#32) (max (Ideal.ofBits .f32 0x00000000#32) ((v390 x) * (v301 x)))) ((((k0_pay88 (F := Ideal) v392) x) * (Ideal.ofBits .f32 0x3F000000#32)) + ((k0_pay87 (F := Ideal) v392) x)) := hy (fun x => Scalar.select (v310 x) (min (Ideal.ofBits .f32 0x3F800000#32) (max (Ideal.ofBits .f32 0x00000000#32) ((v390 x) * (v301 x)))) ((((k0_pay88 (F := Ideal) v392) x) * (Ideal.ofBits .f32 0x3F000000#32)) + ((k0_pay87 (F := Ideal) v392) x)))
    simp only [hv301, hv310, hv390, p87, p88, w_half, w_one, w_zero] at e
    exact e.trans (by simp only [d404])
  have p90 : k0_pay90 (F := Ideal) v303 v310 v390 v392 y = Scalar.select (Ideal.cmp .olt (T w7) (⊤)) (min ((1 : ℝ) : EReal) (max ((0 : ℝ) : EReal) s409)) (((((1 : ℝ) : EReal) - ((Y * ((2 / 1023 : ℝ) : EReal)) - ((1 : ℝ) : EReal))) * ((sky : ℝ) : EReal)) + ((Y * ((2 / 1023 : ℝ) : EReal)) - ((1 : ℝ) : EReal))) := by
    have e : k0_pay90 (F := Ideal) v303 v310 v390 v392 y = Scalar.select (v310 x) (min (Ideal.ofBits .f32 0x3F800000#32) (max (Ideal.ofBits .f32 0x00000000#32) ((v390 x) * (v303 x)))) ((((k0_pay88 (F := Ideal) v392) x) * (Ideal.ofBits .f32 0x3F333333#32)) + ((k0_pay87 (F := Ideal) v392) x)) := hy (fun x => Scalar.select (v310 x) (min (Ideal.ofBits .f32 0x3F800000#32) (max (Ideal.ofBits .f32 0x00000000#32) ((v390 x) * (v303 x)))) ((((k0_pay88 (F := Ideal) v392) x) * (Ideal.ofBits .f32 0x3F333333#32)) + ((k0_pay87 (F := Ideal) v392) x)))
    simp only [hv303, hv310, hv390, p87, p88, w_one, w_sky, w_zero] at e
    exact e.trans (by simp only [d409])
  have p91 : k0_pay91 (F := Ideal) v305 v310 v390 v392 y = Scalar.select (Ideal.cmp .olt (T w7) (⊤)) (min ((1 : ℝ) : EReal) (max ((0 : ℝ) : EReal) s414)) ((((1 : ℝ) : EReal) - ((Y * ((2 / 1023 : ℝ) : EReal)) - ((1 : ℝ) : EReal))) + ((Y * ((2 / 1023 : ℝ) : EReal)) - ((1 : ℝ) : EReal))) := by
    have e : k0_pay91 (F := Ideal) v305 v310 v390 v392 y = Scalar.select (v310 x) (min (Ideal.ofBits .f32 0x3F800000#32) (max (Ideal.ofBits .f32 0x00000000#32) ((v390 x) * (v305 x)))) (((k0_pay88 (F := Ideal) v392) x) + ((k0_pay87 (F := Ideal) v392) x)) := hy (fun x => Scalar.select (v310 x) (min (Ideal.ofBits .f32 0x3F800000#32) (max (Ideal.ofBits .f32 0x00000000#32) ((v390 x) * (v305 x)))) (((k0_pay88 (F := Ideal) v392) x) + ((k0_pay87 (F := Ideal) v392) x)))
    simp only [hv305, hv310, hv390, p87, p88, w_one, w_zero] at e
    exact e.trans (by simp only [d414])
  rw [d404, hs, hw] at p89
  rw [d409, hs, hw] at p90
  rw [d414, hs, hw] at p91
  exact ⟨p89, p90, p91⟩

end Cert.KernelIdeal.Gen

end
-- ==== Proof.Coords.lean ====
/- The coordinates of the picture: column `n` and row `n` of 1024 between -1 and 1. -/
module

public import proofs.«01_k».proof.Proof.Walk
public import Idealize.ShloMosaic.Lib.Pipeline.ValueKit

@[expose] public section

noncomputable section

namespace RayTrace

open Idealize.ShloMosaic

/-! ## Coordinates -/

/-- Column `n` across the picture, from -1 to 1. -/
def ux (n : ℕ) : ℝ := n * (2 / 1023) - 1
/-- Row `n` up the picture, from 1 to -1. -/
def vy (n : ℕ) : ℝ := 1 - n * (2 / 1023)

/-- The result at row `y`, column `x`, color `k`. -/
def shot (c : Fin 8 → Fin 3 → EReal) (r : Fin 8 → ℝ) (L : Fin 3 → EReal) (col : Fin 8 → Fin 3 → EReal) (lc : Fin 3 → EReal)
    (y x : ℕ) (k : Fin 3) : EReal :=
  pixel (ux x) (vy y) (ux y) c r L col lc k

/-- A number below `2 ^ 31`, as a 32-bit word read as a signed integer, is itself. -/
theorem word_real {n : ℕ} (h : n < 2 ^ 31) : ((BitVec.ofNat 32 n).toInt : ℝ) = n := by
  have e : (BitVec.ofNat 32 n).toNat = n := by
    rw [BitVec.toNat_ofNat]; exact Nat.mod_eq_of_lt (by omega)
  have : (BitVec.ofNat 32 n).toInt = (n : ℤ) := by
    rw [BitVec.toInt_eq_toNat_of_lt (by omega), e]
  rw [this]
  simp

/-- The kernel's column times the pitch, less one, is the column's coordinate. -/
theorem ux_coe (n : ℕ) (a p : EReal) (ha : a = ((n : ℝ) : EReal)) (hp : p = ((2 / 1023 : ℝ) : EReal)) :
    a * p - ((1 : ℝ) : EReal) = ((ux n : ℝ) : EReal) := by
  rw [ha, hp, ← EReal.coe_mul, ← EReal.coe_sub]; rfl

/-- One less the kernel's row times the pitch is the row's coordinate. -/
theorem vy_coe (n : ℕ) (a p : EReal) (ha : a = ((n : ℝ) : EReal)) (hp : p = ((2 / 1023 : ℝ) : EReal)) :
    ((1 : ℝ) : EReal) - a * p = ((vy n : ℝ) : EReal) := by
  rw [ha, hp, ← EReal.coe_mul, ← EReal.coe_sub]; rfl

/-- The kernel's reciprocal root at real coordinates is the reciprocal of the length of the line of sight. -/
theorem inv_coe (u v : ℝ) :
    Ideal.rsqrt (((u : ℝ) : EReal) * ((u : ℝ) : EReal) + ((v : ℝ) : EReal) * ((v : ℝ) : EReal) + ((25 : ℝ) : EReal))
      = ((inv u v : ℝ) : EReal) := by
  have h := nn_pos u v
  rw [← EReal.coe_mul, ← EReal.coe_mul, ← EReal.coe_add, ← EReal.coe_add, Ideal.rsqrt_coe, if_neg (not_lt.mpr h.le),
    if_neg h.ne']
  rfl

/-! ## A block written in pieces -/

/-- A plane's element, placed in the block. -/
theorem plane_at (k : Fin 3) (i) (x : (⟨3, ![1, 128, 1024]⟩ : Shape).Idx) :
    (Rect.unit (s := ⟨3, ![3, 128, 1024]⟩) ![k.val, 0, 0] ![1, 128, 1024] i).emb x 0 = k
    ∧ ix3 0 ((Rect.unit (s := ⟨3, ![3, 128, 1024]⟩) ![k.val, 0, 0] ![1, 128, 1024] i).emb x 1)
        ((Rect.unit (s := ⟨3, ![3, 128, 1024]⟩) ![k.val, 0, 0] ![1, 128, 1024] i).emb x 2) = x := by
  have h0 : (x 0).val < 1 := (x 0).isLt
  constructor
  · apply Fin.ext
    rw [ValueKit.rect_emb_unit_val]
    show k.val + (x 0).val = k.val
    omega
  · funext a
    apply Fin.ext
    fin_cases a
    · show 0 = (x 0).val
      omega
    · show ((Rect.unit (s := ⟨3, ![3, 128, 1024]⟩) ![k.val, 0, 0] ![1, 128, 1024] i).emb x 1).val = (x 1).val
      rw [ValueKit.rect_emb_unit_val]
      show 0 + (x 1).val = (x 1).val
      omega
    · show ((Rect.unit (s := ⟨3, ![3, 128, 1024]⟩) ![k.val, 0, 0] ![1, 128, 1024] i).emb x 2).val = (x 2).val
      rw [ValueKit.rect_emb_unit_val]
      show 0 + (x 2).val = (x 2).val
      omega

/-- Three planes stored one after another. -/
theorem three_planes (P2 P1 P0 : (⟨3, ![1, 128, 1024]⟩ : Shape).Idx → EReal) (i2 i1 i0) (y : (⟨3, ![3, 128, 1024]⟩ : Shape).Idx) :
    View.canon (Val := Elt Ideal) (e := .f32)
      [⟨Rect.unit (s := ⟨3, ![3, 128, 1024]⟩) ![2, 0, 0] ![1, 128, 1024] i2, P2⟩,
       ⟨Rect.unit (s := ⟨3, ![3, 128, 1024]⟩) ![1, 0, 0] ![1, 128, 1024] i1, P1⟩,
       ⟨Rect.unit (s := ⟨3, ![3, 128, 1024]⟩) ![0, 0, 0] ![1, 128, 1024] i0, P0⟩] y
      = (![P0, P1, P2] : Fin 3 → (⟨3, ![1, 128, 1024]⟩ : Shape).Idx → EReal) (y 0) (ix3 0 (y 1) (y 2)) := by
  refine View.canon_apply_of_pieces (Val := Elt Ideal) (e := .f32)
    (fun y : (⟨3, ![3, 128, 1024]⟩ : Shape).Idx =>
      (![P0, P1, P2] : Fin 3 → (⟨3, ![1, 128, 1024]⟩ : Shape).Idx → EReal) (y 0) (ix3 0 (y 1) (y 2))) _ ?_ y ?_
  · intro p hp x
    simp only [List.mem_cons, List.not_mem_nil, or_false] at hp
    rcases hp with rfl | rfl | rfl
    · obtain ⟨h, e⟩ := plane_at 2 i2 x
      exact (congrArg₂ (fun k z => (![P0, P1, P2] : Fin 3 → (⟨3, ![1, 128, 1024]⟩ : Shape).Idx → EReal) k z) h e).symm
    · obtain ⟨h, e⟩ := plane_at 1 i1 x
      exact (congrArg₂ (fun k z => (![P0, P1, P2] : Fin 3 → (⟨3, ![1, 128, 1024]⟩ : Shape).Idx → EReal) k z) h e).symm
    · obtain ⟨h, e⟩ := plane_at 0 i0 x
      exact (congrArg₂ (fun k z => (![P0, P1, P2] : Fin 3 → (⟨3, ![1, 128, 1024]⟩ : Shape).Idx → EReal) k z) h e).symm
  · have h1 : (y 1).val < 128 := (y 1).isLt
    have h2 : (y 2).val < 1024 := (y 2).isLt
    have h0 : (y 0).val < 3 := (y 0).isLt
    have hc : ∀ (n : ℕ) (i), (y 0).val = n →
        y ∈ (Rect.unit (s := ⟨3, ![3, 128, 1024]⟩) ![n, 0, 0] ![1, 128, 1024] i).set := by
      intro n i hn
      rw [Rect.mem_set_unit]
      intro a
      fin_cases a
      · show n ≤ (y 0).val ∧ (y 0).val < n + 1
        omega
      · show 0 ≤ (y 1).val ∧ (y 1).val < 0 + 128
        omega
      · show 0 ≤ (y 2).val ∧ (y 2).val < 0 + 1024
        omega
    rcases (by omega : (y 0).val = 2 ∨ (y 0).val = 1 ∨ (y 0).val = 0) with h | h | h
    · exact ⟨_, List.mem_cons_self, hc _ i2 h⟩
    · exact ⟨_, List.mem_cons_of_mem _ List.mem_cons_self, hc _ i1 h⟩
    · exact ⟨_, List.mem_cons_of_mem _ (List.mem_cons_of_mem _ List.mem_cons_self), hc _ i0 h⟩

/-- Three planes stored one after another, each known where the block is read. -/
theorem planes (P2 P1 P0 : (⟨3, ![1, 128, 1024]⟩ : Shape).Idx → EReal) (i2 i1 i0) (y : (⟨3, ![3, 128, 1024]⟩ : Shape).Idx)
    (v : Fin 3 → EReal)
    (h : P0 (ix3 0 (y 1) (y 2)) = v 0 ∧ P1 (ix3 0 (y 1) (y 2)) = v 1 ∧ P2 (ix3 0 (y 1) (y 2)) = v 2) :
    View.canon (Val := Elt Ideal) (e := .f32)
      [⟨Rect.unit (s := ⟨3, ![3, 128, 1024]⟩) ![2, 0, 0] ![1, 128, 1024] i2, P2⟩,
       ⟨Rect.unit (s := ⟨3, ![3, 128, 1024]⟩) ![1, 0, 0] ![1, 128, 1024] i1, P1⟩,
       ⟨Rect.unit (s := ⟨3, ![3, 128, 1024]⟩) ![0, 0, 0] ![1, 128, 1024] i0, P0⟩] y
      = v (y 0) := by
  refine (three_planes P2 P1 P0 i2 i1 i0 y).trans ?_
  have e : ∀ k : Fin 3, (![P0, P1, P2] : Fin 3 → (⟨3, ![1, 128, 1024]⟩ : Shape).Idx → EReal) k (ix3 0 (y 1) (y 2)) = v k := by
    intro k
    fin_cases k
    · exact h.1
    · exact h.2.1
    · exact h.2.2
  exact e (y 0)

end RayTrace

end
-- ==== Proof.LoadsK.lean ====
/- What a grid step of the kernel loads, and the coordinates of its block. -/
module

public import proofs.«01_k».proof.Proof.Gen.KernelIdeal.Frame
public import proofs.«01_k».proof.Proof.BodyK
public import proofs.«01_k».proof.Proof.Coords
public import Idealize.ShloMosaic.Lib.Claim
public import Idealize.ShloMosaic.Lib.Pointwise
public import Idealize.ShloMosaic.Lib.Pipeline.ValueKit

@[expose] public section
noncomputable section
namespace Cert.KernelIdeal.Gen
open Idealize.ShloMosaic Idealize.ShloMosaic.TcCoe Idealize.ShloMosaic.Tactic Idealize.SL.Sem RayTrace

/-- Each step of the grid sees the whole array of parameters. -/
theorem idx0 : ∀ t : Fin cfg0.N, win0_0.index t = ![0] := (by decide +kernel : ∀ t : Fin grid0.N, _)
/-- Each step of the grid writes its own block of the result's rows. -/
theorem idx1 : ∀ t : Fin cfg0.N, win0_1.index t = ![0, t.val, 0] := (by decide +kernel : ∀ t : Fin grid0.N, _)
/-- The grid's coordinate is the step's number. -/
theorem crd : ∀ t : Fin cfg0.N, (grid0.coords t 0).val = t.val := (by decide +kernel : ∀ t : Fin grid0.N, _)

/-- The row of the picture. -/
theorem row_at (i : grid0.Coords) (x : S128x1024.Idx) :
    k0_pay1 (F := Ideal) i x = ((((i 0).val * 128 + (x 0).val : ℕ) : ℝ) : EReal) := by
  have e : k0_pay1 (F := Ideal) i x = (((iota .tc S128x1024 32 [0] iota_S128x1024_d0_w32 x).toInt : ℝ) : EReal)
      + (((Scalar.muli (BitVec.ofNat 32 (i 0).val) 128#32).toInt : ℝ) : EReal) := rfl
  have h0 : (i 0).val < 8 := (i 0).isLt
  have h1 : (x 0).val < 128 := (x 0).isLt
  have e2 : Scalar.muli (BitVec.ofNat 32 (i 0).val) 128#32 = BitVec.ofNat 32 ((i 0).val * 128) := by
    apply BitVec.eq_of_toNat_eq
    show (BitVec.ofNat 32 (i 0).val * 128#32).toNat = _
    simp [BitVec.toNat_mul]
  rw [e, iota_single_apply, e2, word_real (by omega), word_real (by omega), ← EReal.coe_add]
  congr 1
  push_cast
  ring

/-- The horizontal coordinate of an element of a block. -/
theorem U_at (x : S128x1024.Idx) : k0_pay2 (F := Ideal) x = ((ux (x 1).val : ℝ) : EReal) := by
  have e : k0_pay2 (F := Ideal) x = (((iota .tc S128x1024 32 [1] iota_S128x1024_d1_w32 x).toInt : ℝ) : EReal)
      * Named.named (F := Ideal) (φ := .f32) κ "pitch" 0x3B002008#32 - Ideal.ofBits .f32 0x3F800000#32 := rfl
  have h1 : (x 1).val < 1024 := (x 1).isLt
  rw [e, iota_single_apply, word_real (by omega), w_one]
  exact ux_coe _ _ _ rfl w_pitch

/-- The vertical coordinate of an element of a block. -/
theorem V_at (i : grid0.Coords) (x : S128x1024.Idx) :
    k0_pay3 (F := Ideal) i x = ((vy ((i 0).val * 128 + (x 0).val) : ℝ) : EReal) := by
  have e : k0_pay3 (F := Ideal) i x = Ideal.ofBits .f32 0x3F800000#32
      - k0_pay1 (F := Ideal) i x * Named.named (F := Ideal) (φ := .f32) κ "pitch" 0x3B002008#32 := rfl
  rw [e, w_one]
  exact vy_coe _ _ _ (row_at i x) w_pitch

/-- The reciprocal of the length of the line of sight at an element of a block. -/
theorem I_at (i : grid0.Coords) (x : S128x1024.Idx) :
    k0_pay4 (F := Ideal) i x = ((inv (ux (x 1).val) (vy ((i 0).val * 128 + (x 0).val)) : ℝ) : EReal) := by
  have e : k0_pay4 (F := Ideal) i x = Ideal.rsqrt (k0_pay2 (F := Ideal) x * k0_pay2 (F := Ideal) x
      + k0_pay3 (F := Ideal) i x * k0_pay3 (F := Ideal) i x + Ideal.ofBits .f32 0x41C80000#32) := rfl
  rw [e, U_at, V_at, w_25, inv_coe]

variable (m : (ℓ : Loc nD τ sig) → Buf (Elt Ideal) ℓ)

/-- A parameter as a step loads it is that element of the array the host made. -/
theorem par_read (c : Dev nD) (t : Fin cfg0.N) (k : Fin 67) (inb) (h) :
    View.ld (iblk m c 0 t) (Rect.unit (s := S67) ![k.val] ![1] inb) (Shape.Idx.first h) = V m c main_v14 (ix1 k) := by
  show V m c main_v14 _ = V m c main_v14 _
  congr 1
  funext a
  apply Fin.ext
  fin_cases a
  show ((cfg0.win 0).blk t).view.emb _ 0 = k.val
  blk_simp [idx0]
  rfl

/-- A plane stored under a leading axis of extent one is read at the plane's own index. -/
theorem cast_at (x : S1x128x1024.Idx) (a : FVec Ideal S128x1024 .f32) :
    shapeCast S1x128x1024 a shapeCasts_S128x1024_S1x128x1024 x = a (ix2 (x 1) (x 2)) := by
  rw [show x = ix3 (x 0) (x 1) (x 2) from by funext a; fin_cases a <;> rfl]
  pointwise

/-- A sphere's parameters lie in the array. -/
theorem inA (s k : Fin 8) (a : Fin 1) : (![8 * s.val + k.val] : Fin 1 → ℕ) a + (![1] : Fin 1 → ℕ) a ≤ S67.size a := by
  fin_cases a
  show 8 * s.val + k.val + 1 ≤ 67
  omega
/-- The light's position lies in the array. -/
theorem inL (k : Fin 3) (a : Fin 1) : (![64 + k.val] : Fin 1 → ℕ) a + (![1] : Fin 1 → ℕ) a ≤ S67.size a := by
  fin_cases a
  show 64 + k.val + 1 ≤ 67
  omega
/-- A sphere's parameter's place is below 67. -/
theorem ltA (s k : Fin 8) : 8 * s.val + k.val < 67 := by omega
/-- The light's place is below 67. -/
theorem ltL (k : Fin 3) : 64 + k.val < 67 := by omega
/-- One element is an element. -/
theorem one_pt : 0 < (⟨1, ![1]⟩ : Shape).numel := by decide

/-- The parameters as a point loads them. -/
def ldA (c : Dev nD) (t : Fin cfg0.N) (s k : Fin 8) : EReal :=
  View.ld (iblk m c 0 t) (Rect.unit (s := S67) ![8 * s.val + k.val] ![1] (inA s k))
    (Shape.Idx.first one_pt)
/-- The light as a point loads it. -/
def ldL (c : Dev nD) (t : Fin cfg0.N) (k : Fin 3) : EReal :=
  View.ld (iblk m c 0 t) (Rect.unit (s := S67) ![64 + k.val] ![1] (inL k))
    (Shape.Idx.first one_pt)

section
variable (c : Dev nD) {cs : Fin 8 → Fin 3 → EReal} {r : Fin 8 → ℝ} {L : Fin 3 → EReal} {col : Fin 8 → Fin 3 → EReal}
  {lc : Fin 3 → EReal} (ok : ∀ s, Near (cs s) → Ok (pos (cs s)) (r s) L)
  (hP : ∀ s k : Fin 8, V m c main_v14 (ix1 ⟨8 * s.val + k.val, ltA s k⟩) = par cs r col lc s k)
  (hL : ∀ k : Fin 3, V m c main_v14 (ix1 ⟨64 + k.val, ltL k⟩) = L k)

include hP in
/-- The spheres' parameters as a step loads them are those of the scene. -/
theorem ldA_par (t : Fin cfg0.N) : ldA m c t = par cs r col lc := by
  funext s k
  rw [← hP]
  exact par_read m c t ⟨8 * s.val + k.val, ltA s k⟩ _ _

include hL in
/-- The light's position as a step loads it is that of the scene. -/
theorem ldL_par (t : Fin cfg0.N) (k : Fin 3) : ldL m c t k = L k := by
  rw [← hL]
  exact par_read m c t ⟨64 + k.val, ltL k⟩ _ _

end

end Cert.KernelIdeal.Gen

end
-- ==== Proof.ValueK.lean ====
/- What the kernel leaves in its result: every block, from the parameters the host made. -/
module

public import proofs.«01_k».proof.Proof.Gen.KernelIdeal.Frame
public import proofs.«01_k».proof.Proof.BodyK
public import proofs.«01_k».proof.Proof.LoadsK
public import proofs.«01_k».proof.Proof.Coords
public import Idealize.ShloMosaic.Lib.Claim
public import Idealize.ShloMosaic.Lib.Pointwise
public import Idealize.ShloMosaic.Lib.Pipeline.ValueKit

@[expose] public section
noncomputable section
namespace Cert.KernelIdeal.Gen
open Idealize.ShloMosaic Idealize.ShloMosaic.TcCoe Idealize.ShloMosaic.Tactic Idealize.SL.Sem RayTrace
variable (m : (ℓ : Loc nD τ sig) → Buf (Elt Ideal) ℓ)
section
variable (c : Dev nD) {cs : Fin 8 → Fin 3 → EReal} {r : Fin 8 → ℝ} {L : Fin 3 → EReal} {col : Fin 8 → Fin 3 → EReal}
  {lc : Fin 3 → EReal} (ok : ∀ s, Near (cs s) → Ok (pos (cs s)) (r s) L)
  (hP : ∀ s k : Fin 8, V m c main_v14 (ix1 ⟨8 * s.val + k.val, ltA s k⟩) = par cs r col lc s k)
  (hL : ∀ k : Fin 3, V m c main_v14 (ix1 ⟨64 + k.val, ltL k⟩) = L k)

include ok hP hL in
set_option maxHeartbeats 4000000 in
/-- A point's block, element by element. -/
theorem block_at (t : Fin cfg0.N) (y : S3x128x1024.Idx)
    (hm : ∀ s : Fin 8, s ≠ 0 → Met (dir (ux (y 2).val) (vy (t.val * 128 + (y 1).val))) (cs s) (r s)) :
    outsAt0 m c t y = shot cs r L col lc (t.val * 128 + (y 1).val) (y 2).val (y 0) := by
  unfold outsAt0
  frame_out
  refine planes _ _ _ _ _ _ y (fun k => shot cs r L col lc (t.val * 128 + (y 1).val) (y 2).val k) ?_
  have fin := final_par (ux (y 2).val) (vy (t.val * 128 + (y 1).val)) cs r col lc L (ux (t.val * 128 + (y 1).val)) ok
  have hA := ldA_par m c hP t
  have hL0 := ldL_par m c hL t
  have f0 := fin 0 4 _ (fun w => rfl) (background0 _)
  have f1 := fin 1 5 _ (fun w => rfl) (background1 _)
  have f2 := fin 2 6 _ (fun w => rfl) (background2 _)
  simp only [← hA, ← hL0, ← ux_coe _ _ _ (rfl : (((t.val * 128 + (y 1).val : ℕ) : ℝ) : EReal) = _) rfl] at f0 f1 f2
  have b := body (grid0.coords t) (ix2 (y 1) (y 2)) (ix3 0 (y 1) (y 2)) (cast_at _)
    (U := ((ux (y 2).val : ℝ) : EReal)) (V := ((vy (t.val * 128 + (y 1).val) : ℝ) : EReal))
    (I := ((inv (ux (y 2).val) (vy (t.val * 128 + (y 1).val)) : ℝ) : EReal))
    (Y := (((t.val * 128 + (y 1).val : ℕ) : ℝ) : EReal)) (A := ldA m c t) (L := ldL m c t)
    (T := meets (ux (y 2).val) (vy (t.val * 128 + (y 1).val)) cs r)
    (U_at _) (by rw [← crd t]; exact V_at _ _) (by rw [← crd t]; exact I_at _ _) (by rw [← crd t]; exact row_at _ _)
    (by rw [ldA_par m c hP]; exact first_par _ _ _ _ _ _)
    (by rw [ldA_par m c hP]; exact near_par _ _ _ _ _ _)
    (by rw [ldA_par m c hP]; exact mask_met _ _ _ _ _ _ hm)
    rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl
  exact ⟨b.1.trans f0, b.2.1.trans f1, b.2.2.trans f2⟩

/-- Row `n` of a block in the picture. -/
theorem spot (t : Fin cfg0.N) (y : S3x128x1024.Idx) :
    (win0_1.blk t).view.emb y = (ix3 (y 0) ⟨t.val * 128 + (y 1).val, by
      have := t.isLt; have h : (y 1).val < 128 := (y 1).isLt; have h8 : cfg0.N = 8 := by decide
      omega⟩ (y 2) : S3x1024x1024.Idx) := by
  funext a
  apply Fin.ext
  fin_cases a
  · show ((win0_1.blk t).view.emb y 0).val = (y 0).val
    blk_simp [idx1]
  · show ((win0_1.blk t).view.emb y 1).val = t.val * 128 + (y 1).val
    blk_simp [idx1]
  · show ((win0_1.blk t).view.emb y 2).val = (y 2).val
    blk_simp [idx1]

include ok hP hL in
/-- The kernel's array, wherever its rays meet the spheres after the first. -/
theorem arr_at (i : S3x1024x1024.Idx) :
    (∀ s : Fin 8, s ≠ 0 → Met (dir (ux (i 2).val) (vy (i 1).val)) (cs s) (r s)) →
    (dats m 0 c).arrAt 1 cfg0.N i = shot cs r L col lc (i 1).val (i 2).val (i 0) := by
  refine (dats m 0 c).arrAt_forall_of_covers 1
    (fun (i : S3x1024x1024.Idx) (v : EReal) => (∀ s : Fin 8, s ≠ 0 → Met (dir (ux (i 2).val) (vy (i 1).val)) (cs s) (r s)) →
      v = shot cs r L col lc (i 1).val (i 2).val (i 0)) (by decide +kernel) (fun t hf y => ?_) i
  have e := spot t y
  show (∀ s : Fin 8, s ≠ 0 → Met (dir (ux ((win0_1.blk t).view.emb y (2 : Fin 3)).val) (vy ((win0_1.blk t).view.emb y (1 : Fin 3)).val)) (cs s) (r s)) →
    (dats m 0 c).after 1 t y = shot cs r L col lc ((win0_1.blk t).view.emb y (1 : Fin 3)).val ((win0_1.blk t).view.emb y (2 : Fin 3)).val ((win0_1.blk t).view.emb y (0 : Fin 3))
  rw [after0_1]
  generalize (win0_1.blk t).view.emb y = z at e
  subst e
  exact block_at m c ok hP hL t y
end
end Cert.KernelIdeal.Gen

end
-- ==== Proof.HostK.lean ====
module

public import proofs.«01_k».proof.Proof.LoadsK
public import Idealize.ShloMosaic.Lib.StableHlo.ReadAt
public import Idealize.ShloMosaic.Lib.Claim

/-! The kernel's parameters as the launch finds them, computed on the host from the arguments. -/

@[expose] public section
noncomputable section
namespace Cert.KernelIdeal.Gen
open Idealize.ShloMosaic Idealize.ShloMosaic.TcCoe Idealize.ShloMosaic.Tactic Idealize.SL.Sem RayTrace
variable (m : (ℓ : Loc nD τ sig) → Buf (Elt Ideal) ℓ) (c : Dev nD)

/-- The light's position stands after the spheres' parameters. -/
theorem light_at (k : Fin 3) : V m c main_v14 (ix1 ⟨64 + k.val, ltL k⟩) = m ((c.tc : Thread nD τ).loc main_arg3) (ix1 k) := by
  unfold V
  after_reads_at

/-- Eight columns, read by which of the four pieces a column lies in. -/
theorem eight_of {α : Type} (x : Fin 3 → α) (e : α) (y : Fin 3 → α) (z : α) (k : Fin 8) :
    (if h : k.val < 3 then x ⟨k.val, h⟩
      else if h1 : k.val - 3 < 1 then e
      else if h2 : k.val - 3 - 1 < 3 then y ⟨k.val - 3 - 1, h2⟩ else z)
      = (![x 0, x 1, x 2, e, y 0, y 1, y 2, z] : Fin 8 → α) k := by
  fin_cases k <;> rfl

section
variable {cs : Fin 8 → Fin 3 → EReal} {r : Fin 8 → ℝ} {col : Fin 8 → Fin 3 → EReal} {lc : Fin 3 → EReal}
    (h0 : ∀ s j, m ((c.tc : Thread nD τ).loc main_arg0) (ix2 s j) = cs s j)
    (h1 : ∀ s, m ((c.tc : Thread nD τ).loc main_arg1) (ix1 s) = ((r s : ℝ) : EReal))
    (h2 : ∀ s j, m ((c.tc : Thread nD τ).loc main_arg2) (ix2 s j) = col s j)
    (h4 : ∀ j, m ((c.tc : Thread nD τ).loc main_arg4) (ix1 j) = lc j)

include h0 in
/-- The centres, the middle coordinate scaled. -/
theorem scaled_at (s : Fin 8) (j : Fin 3) :
    StableHlo.upto (Val := Elt Ideal) [hostOps0].flatten (fun b => m (c, b)) 14 (Proc.tc.devRef main_v6) (ix2 s j)
      = cs s j * Ideal.ofBits FTy.f32 (lit0 j) := by
  have e : lit0 j = lit0 (S3.rowMajor (ix1 j)) := by fin_cases j <;> rfl
  rw [← h0, e]
  unfold StableHlo.upto
  after_reads_at

include h0 h1 in
/-- A centre's squared distance from the camera less the squared radius. -/
theorem offset_at (s : Fin 8) (j : Fin 1) :
    StableHlo.upto (Val := Elt Ideal) [hostOps0].flatten (fun b => m (c, b)) 14 (Proc.tc.devRef main_v10) (ix2 s j)
      = cs s 0 * cs s 0 + cs s 1 * cs s 1 + cs s 2 * cs s 2 - ((r s : ℝ) : EReal) * ((r s : ℝ) : EReal) := by
  rw [← Fin.sum_univ_three (fun x => cs s x * cs s x)]
  simp only [← h0, ← h1]
  unfold StableHlo.upto
  after_reads_at

include h2 h4 in
/-- The colours under the light. -/
theorem lit_at (s : Fin 8) (j : Fin 3) :
    StableHlo.upto (Val := Elt Ideal) [hostOps0].flatten (fun b => m (c, b)) 14 (Proc.tc.devRef main_v9) (ix2 s j)
      = col s j * lc j := by
  rw [← h2, ← h4]
  unfold StableHlo.upto
  after_reads_at

include h0 in
/-- The centres' middle coordinate. -/
theorem middle_at (s : Fin 8) (j : Fin 1) :
    StableHlo.upto (Val := Elt Ideal) [hostOps0].flatten (fun b => m (c, b)) 14 (Proc.tc.devRef main_v11) (ix2 s j)
      = cs s 1 := by
  rw [← h0, show j = 0 from Subsingleton.elim _ _]
  unfold StableHlo.upto
  after_reads_at

include h0 h1 h2 h4 in
/-- A sphere's parameters, from the arguments. -/
theorem par_at (s k : Fin 8) :
    V m c main_v14 (ix1 ⟨8 * s.val + k.val, ltA s k⟩) = par cs r col lc s k := by
  have hs := s.isLt
  have hk := k.isLt
  unfold V
  after_reads_at
  rw [dif_pos (by omega : 8 * s.val + k.val < 64)]
  have hd : (8 * s.val + k.val) / 8 = s.val := by omega
  have hm : (8 * s.val + k.val) % 8 = k.val := by omega
  simp only [scaled_at m c h0, offset_at m c h0 h1, lit_at m c h2 h4, middle_at m c h0, hd, hm, Fin.eta]
  refine (eight_of (fun j => cs s j * Ideal.ofBits FTy.f32 (lit0 j)) _ (fun j => col s j * lc j) _ k).trans ?_
  have e0 : cs s 0 * Ideal.ofBits FTy.f32 (lit0 0) = cs s 0 := by
    rw [show lit0 0 = 0x3F800000#32 from rfl, w_one, EReal.coe_one, mul_one]
  have e1 : cs s 1 * Ideal.ofBits FTy.f32 (lit0 1) = cs s 1 * ((5 : ℝ) : EReal) := by
    rw [show lit0 1 = 0x40A00000#32 from rfl, w_five]
  have e2 : cs s 2 * Ideal.ofBits FTy.f32 (lit0 2) = cs s 2 := by
    rw [show lit0 2 = 0x3F800000#32 from rfl, w_one, EReal.coe_one, mul_one]
  rw [e0, e1, e2]
  rfl
end

end Cert.KernelIdeal.Gen

end
-- ==== Proof.OutK.lean ====
module

public import proofs.«01_k».proof.Proof.ValueK
public import proofs.«01_k».proof.Proof.HostK

/-! The kernel's result after the run. -/

@[expose] public section
noncomputable section
namespace Cert.KernelIdeal.Gen
open Idealize.ShloMosaic Idealize.ShloMosaic.TcCoe Idealize.ShloMosaic.Tactic Idealize.SL.Sem RayTrace

variable (m : (ℓ : Loc nD τ sig) → Buf (Elt Ideal) ℓ) (ρ : Dev nD → PrngReg)

/-- The result's element is the launch's output with the color plane first. -/
theorem out_at (r) (h : Pipeline.FramePost cfgs (dats m) 0 (Pipeline.afterTail₀ cfgs (dats m) 0 (V0 m) [hostOps1]) r) (c : Dev nD) (y x : Fin 1024) (k : Fin 3) :
    r.2.mem ((c.tc : Thread nD τ).loc main_v16) (ix3 y x k) = (dats m 0 c).arrAt 1 cfg0.N (ix3 k y x) := by
  refine (congrFun ((h c).2 main_v16 (by decide)) (ix3 y x k)).trans ?_
  unfold Pipeline.afterTail₀ hostOps1
  after_reads_at
  exact congrFun (Pipeline.withArrays_arr (cfgs 0).spec (by decide) c (V0 m c) (fun w => (dats m 0 c).arrAt w (cfgs 0).N) 1) (ix3 k y x)

/-- The kernel's result at a pixel whose line of sight meets the spheres after the first. -/
theorem shot_at {cs : Fin 8 → Fin 3 → EReal} {R : Fin 8 → ℝ} {L : Fin 3 → EReal} {col : Fin 8 → Fin 3 → EReal} {lc : Fin 3 → EReal}
    (r) (h : Pipeline.FramePost cfgs (dats m) 0 (Pipeline.afterTail₀ cfgs (dats m) 0 (V0 m) [hostOps1]) r) (c : Dev nD)
    (h0 : ∀ s j, m ((c.tc : Thread nD τ).loc main_arg0) (ix2 s j) = cs s j)
    (h1 : ∀ s, m ((c.tc : Thread nD τ).loc main_arg1) (ix1 s) = ((R s : ℝ) : EReal))
    (h2 : ∀ s j, m ((c.tc : Thread nD τ).loc main_arg2) (ix2 s j) = col s j)
    (h3 : ∀ j, m ((c.tc : Thread nD τ).loc main_arg3) (ix1 j) = L j)
    (h4 : ∀ j, m ((c.tc : Thread nD τ).loc main_arg4) (ix1 j) = lc j)
    (ok : ∀ s, Near (cs s) → Ok (pos (cs s)) (R s) L) (y x : Fin 1024) (k : Fin 3)
    (hm : ∀ s : Fin 8, s ≠ 0 → Met (dir (ux x) (vy y)) (cs s) (R s)) :
    r.2.mem ((c.tc : Thread nD τ).loc main_v16) (ix3 y x k) = shot cs R L col lc y x k :=
  (out_at m r h c y x k).trans
    (arr_at m c ok (fun s j => par_at m c h0 h1 h2 h4 s j) (fun j => (light_at m c j).trans (h3 j)) (ix3 k y x) hm)

end Cert.KernelIdeal.Gen
-- ==== Proof.BodyG.lean ====
/- The guarded kernel's body read at one element of a block: the payloads of its skeleton one after another, each from the values
   of those before it. -/
module

public import proofs.«01_k».proof.Proof.Walk
public import proofs.«01_k».proof.Proof.Gen.GuardedIdeal.Skeleton

@[expose] public section

noncomputable section

namespace Cert.GuardedIdeal.Gen

open Idealize.ShloMosaic RayTrace

/-- The pixel pitch, as the idealized program names it. -/
theorem w_pitch : Named.named (F := Ideal) (φ := .f32) κ "pitch" 0x3B002008#32 = ((2 / 1023 : ℝ) : EReal) :=
  IdealRules.named_const.ideal_named_scalar _ _ _ _ rfl

set_option maxHeartbeats 2000000 in
/-- The three stores at one element. `U V I Y` are the values there of the line of sight, its reciprocal length and the
    row; `A s k` is parameter `k` of sphere `s`, `L` the light; `T s` is where the ray meets sphere `s`, and `w1` to `w7`
    are the leaders after each sphere. -/
theorem body (i : grid0.Coords) (x : S128x1024.Idx) (y : S1x128x1024.Idx)
    (hy : ∀ a : FVec Ideal S128x1024 .f32, shapeCast S1x128x1024 a shapeCasts_S128x1024_S1x128x1024 y = a x)
    {U V I Y : EReal} {A : Fin 8 → Fin 8 → EReal} {L : Fin 3 → EReal} {T : Fin 8 → EReal}
    (hU : k0_pay5 (F := Ideal) x = U) (hV : k0_pay6 (F := Ideal) i x = V) (hI : k0_pay7 (F := Ideal) i x = I) (hY : k0_pay4 (F := Ideal) i x = Y)
    (first : Scalar.select (Ideal.cmp .oge (kD U V I A 0) ((0 : ℝ) : EReal)) (kR U V I A 0) ⊤ = T 0)
    (hR : ∀ s w, T s < T w → kR U V I A s = T s)
    (msk : ∀ s w, IntOp.andi (Ideal.cmp .oge (kD U V I A s) ((0 : ℝ) : EReal)) (Ideal.cmp .olt (kR U V I A s) (T w))
      = Ideal.cmp .olt (T s) (T w))
    {w1 w2 w3 w4 w5 w6 w7 : Fin 8}
    (g1 : lead T 0 1 = w1)
    (g2 : lead T w1 2 = w2)
    (g3 : lead T w2 3 = w3)
    (g4 : lead T w3 4 = w4)
    (g5 : lead T w4 5 = w5)
    (g6 : lead T w5 6 = w6)
    (g7 : lead T w6 7 = w7)
    {v40 : FVec Ideal S128x1024 .f32} (ev40 : v40 = k0_pay9 (F := Ideal) i (A 0 0) (A 0 1) (A 0 2) (A 0 3))
    {v43 : FVec Ideal S128x1024 .f32} (ev43 : v43 = k0_pay10 (F := Ideal) i (A 0 0) (A 0 1) (A 0 2) (A 0 3))
    {v80 : FVec Ideal S128x1024 .f32} (ev80 : v80 = k0_pay16 (F := Ideal) (k0_pay5 (F := Ideal)) (k0_pay6 (F := Ideal) i) (k0_pay7 (F := Ideal) i) v40 v43 (Ideal.ofBits .f32 0x00000000#32) (A 1 0) (A 1 1) (A 1 2) (A 1 3))
    {v82 : FVec Ideal S128x1024 .f32} (ev82 : v82 = k0_pay17 (F := Ideal) (k0_pay5 (F := Ideal)) (k0_pay6 (F := Ideal) i) (k0_pay7 (F := Ideal) i) (A 0 0) v40 v43 (Ideal.ofBits .f32 0x00000000#32) (A 1 0) (A 1 1) (A 1 2) (A 1 3))
    {v84 : FVec Ideal S128x1024 .f32} (ev84 : v84 = k0_pay18 (F := Ideal) (k0_pay5 (F := Ideal)) (k0_pay6 (F := Ideal) i) (k0_pay7 (F := Ideal) i) (A 0 7) v40 v43 (Ideal.ofBits .f32 0x00000000#32) (A 1 0) (A 1 1) (A 1 2) (A 1 3) (A 1 7))
    {v86 : FVec Ideal S128x1024 .f32} (ev86 : v86 = k0_pay19 (F := Ideal) (k0_pay5 (F := Ideal)) (k0_pay6 (F := Ideal) i) (k0_pay7 (F := Ideal) i) (A 0 2) v40 v43 (Ideal.ofBits .f32 0x00000000#32) (A 1 0) (A 1 1) (A 1 2) (A 1 3))
    {v88 : FVec Ideal S128x1024 .f32} (ev88 : v88 = k0_pay20 (F := Ideal) (k0_pay5 (F := Ideal)) (k0_pay6 (F := Ideal) i) (k0_pay7 (F := Ideal) i) (A 0 4) v40 v43 (Ideal.ofBits .f32 0x00000000#32) (A 1 0) (A 1 1) (A 1 2) (A 1 3) (A 1 4))
    {v90 : FVec Ideal S128x1024 .f32} (ev90 : v90 = k0_pay21 (F := Ideal) (k0_pay5 (F := Ideal)) (k0_pay6 (F := Ideal) i) (k0_pay7 (F := Ideal) i) (A 0 5) v40 v43 (Ideal.ofBits .f32 0x00000000#32) (A 1 0) (A 1 1) (A 1 2) (A 1 3) (A 1 5))
    {v92 : FVec Ideal S128x1024 .f32} (ev92 : v92 = k0_pay22 (F := Ideal) (k0_pay5 (F := Ideal)) (k0_pay6 (F := Ideal) i) (k0_pay7 (F := Ideal) i) (A 0 6) v40 v43 (Ideal.ofBits .f32 0x00000000#32) (A 1 0) (A 1 1) (A 1 2) (A 1 3) (A 1 6))
    {v119 : FVec Ideal S128x1024 .f32} (ev119 : v119 = k0_pay27 (F := Ideal) (k0_pay5 (F := Ideal)) (k0_pay6 (F := Ideal) i) (k0_pay7 (F := Ideal) i) v80 (A 2 0) (A 2 1) (A 2 2) (A 2 3))
    {v121 : FVec Ideal S128x1024 .f32} (ev121 : v121 = k0_pay28 (F := Ideal) (k0_pay5 (F := Ideal)) (k0_pay6 (F := Ideal) i) (k0_pay7 (F := Ideal) i) v80 v82 (A 2 0) (A 2 1) (A 2 2) (A 2 3))
    {v123 : FVec Ideal S128x1024 .f32} (ev123 : v123 = k0_pay29 (F := Ideal) (k0_pay5 (F := Ideal)) (k0_pay6 (F := Ideal) i) (k0_pay7 (F := Ideal) i) v80 v84 (A 2 0) (A 2 1) (A 2 2) (A 2 3) (A 2 7))
    {v125 : FVec Ideal S128x1024 .f32} (ev125 : v125 = k0_pay30 (F := Ideal) (k0_pay5 (F := Ideal)) (k0_pay6 (F := Ideal) i) (k0_pay7 (F := Ideal) i) v80 v86 (A 2 0) (A 2 1) (A 2 2) (A 2 3))
    {v127 : FVec Ideal S128x1024 .f32} (ev127 : v127 = k0_pay31 (F := Ideal) (k0_pay5 (F := Ideal)) (k0_pay6 (F := Ideal) i) (k0_pay7 (F := Ideal) i) v80 v88 (A 2 0) (A 2 1) (A 2 2) (A 2 3) (A 2 4))
    {v129 : FVec Ideal S128x1024 .f32} (ev129 : v129 = k0_pay32 (F := Ideal) (k0_pay5 (F := Ideal)) (k0_pay6 (F := Ideal) i) (k0_pay7 (F := Ideal) i) v80 v90 (A 2 0) (A 2 1) (A 2 2) (A 2 3) (A 2 5))
    {v131 : FVec Ideal S128x1024 .f32} (ev131 : v131 = k0_pay33 (F := Ideal) (k0_pay5 (F := Ideal)) (k0_pay6 (F := Ideal) i) (k0_pay7 (F := Ideal) i) v80 v92 (A 2 0) (A 2 1) (A 2 2) (A 2 3) (A 2 6))
    {v158 : FVec Ideal S128x1024 .f32} (ev158 : v158 = k0_pay38 (F := Ideal) (k0_pay5 (F := Ideal)) (k0_pay6 (F := Ideal) i) (k0_pay7 (F := Ideal) i) v119 (A 3 0) (A 3 1) (A 3 2) (A 3 3))
    {v160 : FVec Ideal S128x1024 .f32} (ev160 : v160 = k0_pay39 (F := Ideal) (k0_pay5 (F := Ideal)) (k0_pay6 (F := Ideal) i) (k0_pay7 (F := Ideal) i) v119 v121 (A 3 0) (A 3 1) (A 3 2) (A 3 3))
    {v162 : FVec Ideal S128x1024 .f32} (ev162 : v162 = k0_pay40 (F := Ideal) (k0_pay5 (F := Ideal)) (k0_pay6 (F := Ideal) i) (k0_pay7 (F := Ideal) i) v119 v123 (A 3 0) (A 3 1) (A 3 2) (A 3 3) (A 3 7))
    {v164 : FVec Ideal S128x1024 .f32} (ev164 : v164 = k0_pay41 (F := Ideal) (k0_pay5 (F := Ideal)) (k0_pay6 (F := Ideal) i) (k0_pay7 (F := Ideal) i) v119 v125 (A 3 0) (A 3 1) (A 3 2) (A 3 3))
    {v166 : FVec Ideal S128x1024 .f32} (ev166 : v166 = k0_pay42 (F := Ideal) (k0_pay5 (F := Ideal)) (k0_pay6 (F := Ideal) i) (k0_pay7 (F := Ideal) i) v119 v127 (A 3 0) (A 3 1) (A 3 2) (A 3 3) (A 3 4))
    {v168 : FVec Ideal S128x1024 .f32} (ev168 : v168 = k0_pay43 (F := Ideal) (k0_pay5 (F := Ideal)) (k0_pay6 (F := Ideal) i) (k0_pay7 (F := Ideal) i) v119 v129 (A 3 0) (A 3 1) (A 3 2) (A 3 3) (A 3 5))
    {v170 : FVec Ideal S128x1024 .f32} (ev170 : v170 = k0_pay44 (F := Ideal) (k0_pay5 (F := Ideal)) (k0_pay6 (F := Ideal) i) (k0_pay7 (F := Ideal) i) v119 v131 (A 3 0) (A 3 1) (A 3 2) (A 3 3) (A 3 6))
    {v186 : FVec Ideal S128x1024 .f32} (ev186 : v186 = k0_pay45 (F := Ideal) (k0_pay5 (F := Ideal)) (k0_pay6 (F := Ideal) i) (k0_pay7 (F := Ideal) i) (A 4 0) (A 4 1) (A 4 2))
    {v187 : FVec Ideal S128x1024 .f32} (ev187 : v187 = k0_pay46 (F := Ideal) (k0_pay5 (F := Ideal)) (k0_pay6 (F := Ideal) i) (k0_pay7 (F := Ideal) i) (A 4 0) (A 4 1) (A 4 2))
    {v199 : FVec Ideal S128x1024 .f32} (ev199 : v199 = k0_pay51 (F := Ideal) v158 v160 (A 4 0) (A 4 3) v186 v187)
    {v201 : FVec Ideal S128x1024 .f32} (ev201 : v201 = k0_pay52 (F := Ideal) v158 v162 (A 4 3) (A 4 7) v186 v187)
    {v203 : FVec Ideal S128x1024 .f32} (ev203 : v203 = k0_pay53 (F := Ideal) v158 v164 (A 4 2) (A 4 3) v186 v187)
    {v205 : FVec Ideal S128x1024 .f32} (ev205 : v205 = k0_pay54 (F := Ideal) v158 v166 (A 4 3) (A 4 4) v186 v187)
    {v207 : FVec Ideal S128x1024 .f32} (ev207 : v207 = k0_pay55 (F := Ideal) v158 v168 (A 4 3) (A 4 5) v186 v187)
    {v209 : FVec Ideal S128x1024 .f32} (ev209 : v209 = k0_pay56 (F := Ideal) v158 v170 (A 4 3) (A 4 6) v186 v187)
    {v235 : IVec S128x1024 1} (ev235 : v235 = k0_pay60 (F := Ideal) (k0_pay5 (F := Ideal)) (k0_pay6 (F := Ideal) i) (k0_pay7 (F := Ideal) i) v158 (A 4 3) v186 v187 (A 5 0) (A 5 1) (A 5 2) (A 5 3))
    {v236 : FVec Ideal S128x1024 .f32} (ev236 : v236 = k0_pay61 (F := Ideal) (k0_pay5 (F := Ideal)) (k0_pay6 (F := Ideal) i) (k0_pay7 (F := Ideal) i) v158 (A 4 3) v186 v187 (A 5 0) (A 5 1) (A 5 2) (A 5 3))
    {v237 : FVec Ideal S128x1024 .f32} (ev237 : v237 = k0_pay62 (F := Ideal) (A 5 0))
    {v275 : FVec Ideal S128x1024 .f32} (ev275 : v275 = k0_pay67 (F := Ideal) (k0_pay5 (F := Ideal)) (k0_pay6 (F := Ideal) i) (k0_pay7 (F := Ideal) i) v236 (A 6 0) (A 6 1) (A 6 2) (A 6 3))
    {v277 : FVec Ideal S128x1024 .f32} (ev277 : v277 = k0_pay68 (F := Ideal) (k0_pay5 (F := Ideal)) (k0_pay6 (F := Ideal) i) (k0_pay7 (F := Ideal) i) v199 v235 v236 v237 (A 6 0) (A 6 1) (A 6 2) (A 6 3))
    {v279 : FVec Ideal S128x1024 .f32} (ev279 : v279 = k0_pay69 (F := Ideal) (k0_pay5 (F := Ideal)) (k0_pay6 (F := Ideal) i) (k0_pay7 (F := Ideal) i) v201 (A 5 7) v235 v236 (A 6 0) (A 6 1) (A 6 2) (A 6 3) (A 6 7))
    {v281 : FVec Ideal S128x1024 .f32} (ev281 : v281 = k0_pay70 (F := Ideal) (k0_pay5 (F := Ideal)) (k0_pay6 (F := Ideal) i) (k0_pay7 (F := Ideal) i) v203 (A 5 2) v235 v236 (A 6 0) (A 6 1) (A 6 2) (A 6 3))
    {v283 : FVec Ideal S128x1024 .f32} (ev283 : v283 = k0_pay71 (F := Ideal) (k0_pay5 (F := Ideal)) (k0_pay6 (F := Ideal) i) (k0_pay7 (F := Ideal) i) v205 (A 5 4) v235 v236 (A 6 0) (A 6 1) (A 6 2) (A 6 3) (A 6 4))
    {v285 : FVec Ideal S128x1024 .f32} (ev285 : v285 = k0_pay72 (F := Ideal) (k0_pay5 (F := Ideal)) (k0_pay6 (F := Ideal) i) (k0_pay7 (F := Ideal) i) v207 (A 5 5) v235 v236 (A 6 0) (A 6 1) (A 6 2) (A 6 3) (A 6 5))
    {v287 : FVec Ideal S128x1024 .f32} (ev287 : v287 = k0_pay73 (F := Ideal) (k0_pay5 (F := Ideal)) (k0_pay6 (F := Ideal) i) (k0_pay7 (F := Ideal) i) v209 (A 5 6) v235 v236 (A 6 0) (A 6 1) (A 6 2) (A 6 3) (A 6 6))
    {v314 : FVec Ideal S128x1024 .f32} (ev314 : v314 = k0_pay78 (F := Ideal) (k0_pay5 (F := Ideal)) (k0_pay6 (F := Ideal) i) (k0_pay7 (F := Ideal) i) v275 (A 7 0) (A 7 1) (A 7 2) (A 7 3))
    {v316 : FVec Ideal S128x1024 .f32} (ev316 : v316 = k0_pay79 (F := Ideal) (k0_pay5 (F := Ideal)) (k0_pay6 (F := Ideal) i) (k0_pay7 (F := Ideal) i) v275 v277 (A 7 0) (A 7 1) (A 7 2) (A 7 3))
    {v318 : FVec Ideal S128x1024 .f32} (ev318 : v318 = k0_pay80 (F := Ideal) (k0_pay5 (F := Ideal)) (k0_pay6 (F := Ideal) i) (k0_pay7 (F := Ideal) i) v275 v279 (A 7 0) (A 7 1) (A 7 2) (A 7 3) (A 7 7))
    {v320 : FVec Ideal S128x1024 .f32} (ev320 : v320 = k0_pay81 (F := Ideal) (k0_pay5 (F := Ideal)) (k0_pay6 (F := Ideal) i) (k0_pay7 (F := Ideal) i) v275 v281 (A 7 0) (A 7 1) (A 7 2) (A 7 3))
    {v322 : FVec Ideal S128x1024 .f32} (ev322 : v322 = k0_pay82 (F := Ideal) (k0_pay5 (F := Ideal)) (k0_pay6 (F := Ideal) i) (k0_pay7 (F := Ideal) i) v275 v283 (A 7 0) (A 7 1) (A 7 2) (A 7 3) (A 7 4))
    {v324 : FVec Ideal S128x1024 .f32} (ev324 : v324 = k0_pay83 (F := Ideal) (k0_pay5 (F := Ideal)) (k0_pay6 (F := Ideal) i) (k0_pay7 (F := Ideal) i) v275 v285 (A 7 0) (A 7 1) (A 7 2) (A 7 3) (A 7 5))
    {v326 : FVec Ideal S128x1024 .f32} (ev326 : v326 = k0_pay84 (F := Ideal) (k0_pay5 (F := Ideal)) (k0_pay6 (F := Ideal) i) (k0_pay7 (F := Ideal) i) v275 v287 (A 7 0) (A 7 1) (A 7 2) (A 7 3) (A 7 6))
    {v331 : IVec S128x1024 1} (ev331 : v331 = k0_pay85 (F := Ideal) (k0_pay5 (F := Ideal)) (k0_pay6 (F := Ideal) i) (k0_pay7 (F := Ideal) i) v275 (A 7 0) (A 7 1) (A 7 2) (A 7 3))
    {v332 : FVec Ideal S128x1024 .f32} (ev332 : v332 = k0_pay86 (F := Ideal) (k0_pay5 (F := Ideal)) (k0_pay6 (F := Ideal) i) (k0_pay7 (F := Ideal) i) v275 (A 7 0) (A 7 1) (A 7 2) (A 7 3))
    {v333 : FVec Ideal S128x1024 .f32} (ev333 : v333 = k0_pay87 (F := Ideal) (k0_pay5 (F := Ideal)) (k0_pay6 (F := Ideal) i) (k0_pay7 (F := Ideal) i) v275 (A 7 0) (A 7 1) (A 7 2) (A 7 3))
    {v334 : FVec Ideal S128x1024 .f32} (ev334 : v334 = k0_pay88 (F := Ideal))
    {v346 : FVec Ideal S128x1024 .f32} (ev346 : v346 = k0_pay95 (F := Ideal) (k0_pay6 (F := Ideal) i) v316 v318 v320 v332 v333 v334)
    {v347 : FVec Ideal S128x1024 .f32} (ev347 : v347 = k0_pay96 (F := Ideal) (k0_pay6 (F := Ideal) i) v316 v318 v320 v332 v333 v334)
    {v348 : FVec Ideal S128x1024 .f32} (ev348 : v348 = k0_pay97 (F := Ideal) (k0_pay6 (F := Ideal) i) v316 v318 v320 v332 v333 v334)
    {v361 : FVec Ideal S128x1024 .f32} (ev361 : v361 = k0_pay102 (F := Ideal) (k0_pay6 (F := Ideal) i) (L 0) (L 1) (L 2) v332 v333 v334)
    {v362 : FVec Ideal S128x1024 .f32} (ev362 : v362 = k0_pay103 (F := Ideal) (k0_pay6 (F := Ideal) i) (L 0) (L 1) (L 2) v332 v333 v334)
    {v363 : FVec Ideal S128x1024 .f32} (ev363 : v363 = k0_pay104 (F := Ideal) (k0_pay6 (F := Ideal) i) (L 0) (L 1) (L 2) v332 v333 v334)
    {v376 : FVec Ideal S128x1024 .f32} (ev376 : v376 = k0_pay106 (F := Ideal) (k0_pay5 (F := Ideal)) (k0_pay7 (F := Ideal) i) v314)
    {v378 : FVec Ideal S128x1024 .f32} (ev378 : v378 = k0_pay107 (F := Ideal) (k0_pay7 (F := Ideal) i) v314)
    {v379 : FVec Ideal S128x1024 .f32} (ev379 : v379 = k0_pay108 (F := Ideal) (k0_pay6 (F := Ideal) i) (k0_pay7 (F := Ideal) i) v314)
    {v388 : FVec Ideal S128x1024 .f32} (ev388 : v388 = k0_pay110 (F := Ideal) (k0_pay6 (F := Ideal) i) v316 v318 v320 (L 0) (L 1) (L 2) v332 v333 v334)
    {v389 : FVec Ideal S128x1024 .f32} (ev389 : v389 = k0_pay111 (F := Ideal) (k0_pay6 (F := Ideal) i) v316 v318 v320 (L 0) (L 1) (L 2) v332 v333 v334)
    {v420 : FVec Ideal S128x1024 .f32} (ev420 : v420 = k0_pay115 (F := Ideal) (k0_pay4 (F := Ideal) i))
    {v423 : FVec Ideal S128x1024 .f32} (ev423 : v423 = k0_pay116 (F := Ideal) (k0_pay4 (F := Ideal) i))
    {v424 : FVec Ideal S128x1024 .f32} (ev424 : v424 = k0_pay117 (F := Ideal) (k0_pay4 (F := Ideal) i))
    {v429 : FVec Ideal S128x1024 .f32} (ev429 : v429 = k0_pay118 (F := Ideal) v322 v346 v347 v348 v361 v362 v363 v376 v378 v379 v388 v389)
    {v434 : FVec Ideal S128x1024 .f32} (ev434 : v434 = k0_pay119 (F := Ideal) v324 v346 v347 v348 v361 v362 v363 v376 v378 v379 v388 v389)
    {v435 : FVec Ideal S128x1024 .f32} (ev435 : v435 = k0_pay120 (F := Ideal) v326 v346 v347 v348 v361 v362 v363 v376 v378 v379 v388 v389)
    {s332 : EReal} (d332 : s332 = (T w7) * I)
    {s333 : EReal} (d333 : s333 = s332 * U)
    {s335 : EReal} (d335 : s335 = s332 * ((5 : ℝ) : EReal))
    {s336 : EReal} (d336 : s336 = s332 * V)
    {s337 : EReal} (d337 : s337 = s333 - (A w7 0))
    {s338 : EReal} (d338 : s338 = s335 - (A w7 7))
    {s339 : EReal} (d339 : s339 = s336 - (A w7 2))
    {s340 : EReal} (d340 : s340 = s337 * s337)
    {s341 : EReal} (d341 : s341 = s338 * s338)
    {s342 : EReal} (d342 : s342 = s340 + s341)
    {s343 : EReal} (d343 : s343 = s339 * s339)
    {s344 : EReal} (d344 : s344 = s342 + s343)
    {s345 : EReal} (d345 : s345 = Ideal.rsqrt s344)
    {s346 : EReal} (d346 : s346 = s337 * s345)
    {s347 : EReal} (d347 : s347 = s338 * s345)
    {s348 : EReal} (d348 : s348 = s339 * s345)
    {s350 : EReal} (d350 : s350 = (L 0) - s333)
    {s352 : EReal} (d352 : s352 = (L 1) - s335)
    {s354 : EReal} (d354 : s354 = (L 2) - s336)
    {s355 : EReal} (d355 : s355 = s350 * s350)
    {s356 : EReal} (d356 : s356 = s352 * s352)
    {s357 : EReal} (d357 : s357 = s355 + s356)
    {s358 : EReal} (d358 : s358 = s354 * s354)
    {s359 : EReal} (d359 : s359 = s357 + s358)
    {s360 : EReal} (d360 : s360 = Ideal.rsqrt s359)
    {s361 : EReal} (d361 : s361 = s350 * s360)
    {s362 : EReal} (d362 : s362 = s352 * s360)
    {s363 : EReal} (d363 : s363 = s354 * s360)
    {s373 : EReal} (d373 : s373 = Scalar.select (Ideal.cmp .olt (T w7) ((0 : ℝ) : EReal)) (((0 : ℝ) : EReal) - (max I (-I))) (max I (-I)))
    {s375 : EReal} (d375 : s375 = ((0 : ℝ) : EReal) - s373)
    {s376 : EReal} (d376 : s376 = s375 * U)
    {s378 : EReal} (d378 : s378 = s375 * ((5 : ℝ) : EReal))
    {s379 : EReal} (d379 : s379 = s375 * V)
    {s380 : EReal} (d380 : s380 = s346 * s361)
    {s381 : EReal} (d381 : s381 = s347 * s362)
    {s382 : EReal} (d382 : s382 = s380 + s381)
    {s383 : EReal} (d383 : s383 = s348 * s363)
    {s384 : EReal} (d384 : s384 = s382 + s383)
    {s386 : EReal} (d386 : s386 = max s384 ((0 : ℝ) : EReal))
    {s388 : EReal} (d388 : s388 = ((1 / 2 : ℝ) : EReal) * s386)
    {s389 : EReal} (d389 : s389 = s384 + s384)
    {s390 : EReal} (d390 : s390 = s346 * s389)
    {s391 : EReal} (d391 : s391 = s390 - s361)
    {s392 : EReal} (d392 : s392 = s347 * s389)
    {s393 : EReal} (d393 : s393 = s392 - s362)
    {s394 : EReal} (d394 : s394 = s348 * s389)
    {s395 : EReal} (d395 : s395 = s394 - s363)
    {s396 : EReal} (d396 : s396 = s391 * s376)
    {s397 : EReal} (d397 : s397 = s393 * s378)
    {s398 : EReal} (d398 : s398 = s396 + s397)
    {s399 : EReal} (d399 : s399 = s395 * s379)
    {s400 : EReal} (d400 : s400 = s398 + s399)
    {s402 : EReal} (d402 : s402 = max s400 ((0 : ℝ) : EReal))
    {s403 : EReal} (d403 : s403 = s402 * s402)
    {s404 : EReal} (d404 : s404 = s403 * s403)
    {s405 : EReal} (d405 : s405 = s404 * s404)
    {s406 : EReal} (d406 : s406 = s405 * s405)
    {s408 : EReal} (d408 : s408 = ((spc : ℝ) : EReal) * s406)
    {s410 : EReal} (d410 : s410 = ((amb : ℝ) : EReal) + s388)
    {s411 : EReal} (d411 : s411 = s410 + s408)
    {s425 : EReal} (d425 : s425 = s411 * (A w7 4))
    {s430 : EReal} (d430 : s430 = s411 * (A w7 5))
    {s435 : EReal} (d435 : s435 = s411 * (A w7 6))
    :
    k0_pay1 (F := Ideal) v331 v420 v429 y
      = Scalar.select (Ideal.cmp .olt (T (win T)) (⊤)) (min ((1 : ℝ) : EReal) (max ((0 : ℝ) : EReal) ((kShare U V I (T (win T)) (A (win T) 0) (A (win T) 7) (A (win T) 2) (L 0) (L 1) (L 2)) * (A (win T) 4)))) (((((1 : ℝ) : EReal) - ((Y * ((2 / 1023 : ℝ) : EReal)) - ((1 : ℝ) : EReal))) * ((1 / 2 : ℝ) : EReal)) + ((Y * ((2 / 1023 : ℝ) : EReal)) - ((1 : ℝ) : EReal))) ∧
    k0_pay2 (F := Ideal) v331 v423 v434 y
      = Scalar.select (Ideal.cmp .olt (T (win T)) (⊤)) (min ((1 : ℝ) : EReal) (max ((0 : ℝ) : EReal) ((kShare U V I (T (win T)) (A (win T) 0) (A (win T) 7) (A (win T) 2) (L 0) (L 1) (L 2)) * (A (win T) 5)))) (((((1 : ℝ) : EReal) - ((Y * ((2 / 1023 : ℝ) : EReal)) - ((1 : ℝ) : EReal))) * ((sky : ℝ) : EReal)) + ((Y * ((2 / 1023 : ℝ) : EReal)) - ((1 : ℝ) : EReal))) ∧
    k0_pay3 (F := Ideal) v331 v424 v435 (Ideal.ofBits .f32 0x00000000#32) (Ideal.ofBits .f32 0x3F800000#32) y
      = Scalar.select (Ideal.cmp .olt (T (win T)) (⊤)) (min ((1 : ℝ) : EReal) (max ((0 : ℝ) : EReal) ((kShare U V I (T (win T)) (A (win T) 0) (A (win T) 7) (A (win T) 2) (L 0) (L 1) (L 2)) * (A (win T) 6)))) ((((1 : ℝ) : EReal) - ((Y * ((2 / 1023 : ℝ) : EReal)) - ((1 : ℝ) : EReal))) + ((Y * ((2 / 1023 : ℝ) : EReal)) - ((1 : ℝ) : EReal))) := by
  have hw : w7 = win T := by rw [← g7, ← g6, ← g5, ← g4, ← g3, ← g2, ← g1]; rfl
  have hs : s411 = (kShare U V I (T (win T)) (A (win T) 0) (A (win T) 7) (A (win T) 2) (L 0) (L 1) (L 2)) := by
    subst hw
    subst d332 d333 d335 d336 d337 d338 d339 d340 d341 d342 d343 d344 d345 d346 d347 d348 d350 d352 d354 d355 d356 d357 d358 d359 d360 d361 d362 d363 d373 d375 d376 d378 d379 d380 d381 d382 d383 d384 d386 d388 d389 d390 d391 d392 d393 d394 d395 d396 d397 d398 d399 d400 d402 d403 d404 d405 d406 d408 d410 d411 d425 d430 d435
    rfl
  have p8 : k0_pay8 (F := Ideal) i (A 0 0) (A 0 1) (A 0 2) x = kQ U V I A 0 := by
    have e : k0_pay8 (F := Ideal) i (A 0 0) (A 0 1) (A 0 2) x = (((((k0_pay5 (F := Ideal)) x) * (A 0 0)) + (((k0_pay6 (F := Ideal) i) x) * (A 0 2))) + (A 0 1)) * ((k0_pay7 (F := Ideal) i) x) := rfl
    simp only [hI, hU, hV] at e
    exact e.trans (rfl)
  have p9 : k0_pay9 (F := Ideal) i (A 0 0) (A 0 1) (A 0 2) (A 0 3) x = kD U V I A 0 := by
    have e : k0_pay9 (F := Ideal) i (A 0 0) (A 0 1) (A 0 2) (A 0 3) x = (((k0_pay8 (F := Ideal) i (A 0 0) (A 0 1) (A 0 2)) x) * ((k0_pay8 (F := Ideal) i (A 0 0) (A 0 1) (A 0 2)) x)) - (A 0 3) := rfl
    simp only [p8] at e
    exact e.trans (rfl)
  have hv40 : v40 x = kD U V I A 0 := by rw [ev40]; exact p9
  have p10 : k0_pay10 (F := Ideal) i (A 0 0) (A 0 1) (A 0 2) (A 0 3) x = kR U V I A 0 := by
    have e : k0_pay10 (F := Ideal) i (A 0 0) (A 0 1) (A 0 2) (A 0 3) x = ((k0_pay8 (F := Ideal) i (A 0 0) (A 0 1) (A 0 2)) x) - (((k0_pay9 (F := Ideal) i (A 0 0) (A 0 1) (A 0 2) (A 0 3)) x) * (Ideal.rsqrt ((k0_pay9 (F := Ideal) i (A 0 0) (A 0 1) (A 0 2) (A 0 3)) x))) := rfl
    simp only [p8, p9] at e
    exact e.trans (rfl)
  have hv43 : v43 x = kR U V I A 0 := by rw [ev43]; exact p10
  have p11z : k0_pay11 (F := Ideal) v40 v43 ((0 : ℝ) : EReal) x = T 0 := by
    have e : k0_pay11 (F := Ideal) v40 v43 ((0 : ℝ) : EReal) x = Scalar.select (Ideal.cmp .oge (v40 x) ((0 : ℝ) : EReal)) (v43 x) (Ideal.ofBits .f32 0x7F800000#32) := rfl
    simp only [hv40, hv43, w_inf] at e
    exact e.trans (first)
  have p11 : k0_pay11 (F := Ideal) v40 v43 (Ideal.ofBits .f32 0x00000000#32) x = T 0 := by rw [w_zero]; exact p11z
  have p12 : k0_pay12 (F := Ideal) (k0_pay5 (F := Ideal)) (k0_pay6 (F := Ideal) i) (k0_pay7 (F := Ideal) i) (A 1 0) (A 1 1) (A 1 2) x = kQ U V I A 1 := by
    have e : k0_pay12 (F := Ideal) (k0_pay5 (F := Ideal)) (k0_pay6 (F := Ideal) i) (k0_pay7 (F := Ideal) i) (A 1 0) (A 1 1) (A 1 2) x = (((((k0_pay5 (F := Ideal)) x) * (A 1 0)) + (((k0_pay6 (F := Ideal) i) x) * (A 1 2))) + (A 1 1)) * ((k0_pay7 (F := Ideal) i) x) := rfl
    simp only [hI, hU, hV] at e
    exact e.trans (rfl)
  have p13 : k0_pay13 (F := Ideal) (k0_pay5 (F := Ideal)) (k0_pay6 (F := Ideal) i) (k0_pay7 (F := Ideal) i) (A 1 0) (A 1 1) (A 1 2) (A 1 3) x = kD U V I A 1 := by
    have e : k0_pay13 (F := Ideal) (k0_pay5 (F := Ideal)) (k0_pay6 (F := Ideal) i) (k0_pay7 (F := Ideal) i) (A 1 0) (A 1 1) (A 1 2) (A 1 3) x = (((k0_pay12 (F := Ideal) (k0_pay5 (F := Ideal)) (k0_pay6 (F := Ideal) i) (k0_pay7 (F := Ideal) i) (A 1 0) (A 1 1) (A 1 2)) x) * ((k0_pay12 (F := Ideal) (k0_pay5 (F := Ideal)) (k0_pay6 (F := Ideal) i) (k0_pay7 (F := Ideal) i) (A 1 0) (A 1 1) (A 1 2)) x)) - (A 1 3) := rfl
    simp only [p12] at e
    exact e.trans (rfl)
  have p14 : k0_pay14 (F := Ideal) (k0_pay5 (F := Ideal)) (k0_pay6 (F := Ideal) i) (k0_pay7 (F := Ideal) i) (A 1 0) (A 1 1) (A 1 2) (A 1 3) x = kR U V I A 1 := by
    have e : k0_pay14 (F := Ideal) (k0_pay5 (F := Ideal)) (k0_pay6 (F := Ideal) i) (k0_pay7 (F := Ideal) i) (A 1 0) (A 1 1) (A 1 2) (A 1 3) x = ((k0_pay12 (F := Ideal) (k0_pay5 (F := Ideal)) (k0_pay6 (F := Ideal) i) (k0_pay7 (F := Ideal) i) (A 1 0) (A 1 1) (A 1 2)) x) - (((k0_pay13 (F := Ideal) (k0_pay5 (F := Ideal)) (k0_pay6 (F := Ideal) i) (k0_pay7 (F := Ideal) i) (A 1 0) (A 1 1) (A 1 2) (A 1 3)) x) * (Ideal.rsqrt ((k0_pay13 (F := Ideal) (k0_pay5 (F := Ideal)) (k0_pay6 (F := Ideal) i) (k0_pay7 (F := Ideal) i) (A 1 0) (A 1 1) (A 1 2) (A 1 3)) x))) := rfl
    simp only [p12, p13] at e
    exact e.trans (rfl)
  have p15z : k0_pay15 (F := Ideal) (k0_pay5 (F := Ideal)) (k0_pay6 (F := Ideal) i) (k0_pay7 (F := Ideal) i) v40 v43 ((0 : ℝ) : EReal) (A 1 0) (A 1 1) (A 1 2) (A 1 3) x = Ideal.cmp .olt (T 1) (T 0) := by
    have e : k0_pay15 (F := Ideal) (k0_pay5 (F := Ideal)) (k0_pay6 (F := Ideal) i) (k0_pay7 (F := Ideal) i) v40 v43 ((0 : ℝ) : EReal) (A 1 0) (A 1 1) (A 1 2) (A 1 3) x = IntOp.andi (Ideal.cmp .oge ((k0_pay13 (F := Ideal) (k0_pay5 (F := Ideal)) (k0_pay6 (F := Ideal) i) (k0_pay7 (F := Ideal) i) (A 1 0) (A 1 1) (A 1 2) (A 1 3)) x) (Ideal.ofBits .f32 0x00000000#32)) (Ideal.cmp .olt ((k0_pay14 (F := Ideal) (k0_pay5 (F := Ideal)) (k0_pay6 (F := Ideal) i) (k0_pay7 (F := Ideal) i) (A 1 0) (A 1 1) (A 1 2) (A 1 3)) x) ((k0_pay11 (F := Ideal) v40 v43 ((0 : ℝ) : EReal)) x)) := rfl
    simp only [p11z, p13, p14, w_zero] at e
    exact e.trans (msk 1 0)
  have p15 : k0_pay15 (F := Ideal) (k0_pay5 (F := Ideal)) (k0_pay6 (F := Ideal) i) (k0_pay7 (F := Ideal) i) v40 v43 (Ideal.ofBits .f32 0x00000000#32) (A 1 0) (A 1 1) (A 1 2) (A 1 3) x = Ideal.cmp .olt (T 1) (T 0) := by rw [w_zero]; exact p15z
  have p16z : k0_pay16 (F := Ideal) (k0_pay5 (F := Ideal)) (k0_pay6 (F := Ideal) i) (k0_pay7 (F := Ideal) i) v40 v43 ((0 : ℝ) : EReal) (A 1 0) (A 1 1) (A 1 2) (A 1 3) x = T w1 := by
    have e : k0_pay16 (F := Ideal) (k0_pay5 (F := Ideal)) (k0_pay6 (F := Ideal) i) (k0_pay7 (F := Ideal) i) v40 v43 ((0 : ℝ) : EReal) (A 1 0) (A 1 1) (A 1 2) (A 1 3) x = Scalar.select ((k0_pay15 (F := Ideal) (k0_pay5 (F := Ideal)) (k0_pay6 (F := Ideal) i) (k0_pay7 (F := Ideal) i) v40 v43 ((0 : ℝ) : EReal) (A 1 0) (A 1 1) (A 1 2) (A 1 3)) x) ((k0_pay14 (F := Ideal) (k0_pay5 (F := Ideal)) (k0_pay6 (F := Ideal) i) (k0_pay7 (F := Ideal) i) (A 1 0) (A 1 1) (A 1 2) (A 1 3)) x) ((k0_pay11 (F := Ideal) v40 v43 ((0 : ℝ) : EReal)) x) := rfl
    simp only [p11z, p14, p15z, w_zero] at e
    exact e.trans (best g1 hR)
  have p16 : k0_pay16 (F := Ideal) (k0_pay5 (F := Ideal)) (k0_pay6 (F := Ideal) i) (k0_pay7 (F := Ideal) i) v40 v43 (Ideal.ofBits .f32 0x00000000#32) (A 1 0) (A 1 1) (A 1 2) (A 1 3) x = T w1 := by rw [w_zero]; exact p16z
  have hv80 : v80 x = T w1 := by rw [ev80]; exact p16
  have p17z : k0_pay17 (F := Ideal) (k0_pay5 (F := Ideal)) (k0_pay6 (F := Ideal) i) (k0_pay7 (F := Ideal) i) (A 0 0) v40 v43 ((0 : ℝ) : EReal) (A 1 0) (A 1 1) (A 1 2) (A 1 3) x = A w1 0 := by
    have e : k0_pay17 (F := Ideal) (k0_pay5 (F := Ideal)) (k0_pay6 (F := Ideal) i) (k0_pay7 (F := Ideal) i) (A 0 0) v40 v43 ((0 : ℝ) : EReal) (A 1 0) (A 1 1) (A 1 2) (A 1 3) x = Scalar.select ((k0_pay15 (F := Ideal) (k0_pay5 (F := Ideal)) (k0_pay6 (F := Ideal) i) (k0_pay7 (F := Ideal) i) v40 v43 ((0 : ℝ) : EReal) (A 1 0) (A 1 1) (A 1 2) (A 1 3)) x) (A 1 0) (A 0 0) := rfl
    simp only [p15z, w_zero] at e
    exact e.trans (sel g1 (fun s => A s 0))
  have p17 : k0_pay17 (F := Ideal) (k0_pay5 (F := Ideal)) (k0_pay6 (F := Ideal) i) (k0_pay7 (F := Ideal) i) (A 0 0) v40 v43 (Ideal.ofBits .f32 0x00000000#32) (A 1 0) (A 1 1) (A 1 2) (A 1 3) x = A w1 0 := by rw [w_zero]; exact p17z
  have hv82 : v82 x = A w1 0 := by rw [ev82]; exact p17
  have p18z : k0_pay18 (F := Ideal) (k0_pay5 (F := Ideal)) (k0_pay6 (F := Ideal) i) (k0_pay7 (F := Ideal) i) (A 0 7) v40 v43 ((0 : ℝ) : EReal) (A 1 0) (A 1 1) (A 1 2) (A 1 3) (A 1 7) x = A w1 7 := by
    have e : k0_pay18 (F := Ideal) (k0_pay5 (F := Ideal)) (k0_pay6 (F := Ideal) i) (k0_pay7 (F := Ideal) i) (A 0 7) v40 v43 ((0 : ℝ) : EReal) (A 1 0) (A 1 1) (A 1 2) (A 1 3) (A 1 7) x = Scalar.select ((k0_pay15 (F := Ideal) (k0_pay5 (F := Ideal)) (k0_pay6 (F := Ideal) i) (k0_pay7 (F := Ideal) i) v40 v43 ((0 : ℝ) : EReal) (A 1 0) (A 1 1) (A 1 2) (A 1 3)) x) (A 1 7) (A 0 7) := rfl
    simp only [p15z, w_zero] at e
    exact e.trans (sel g1 (fun s => A s 7))
  have p18 : k0_pay18 (F := Ideal) (k0_pay5 (F := Ideal)) (k0_pay6 (F := Ideal) i) (k0_pay7 (F := Ideal) i) (A 0 7) v40 v43 (Ideal.ofBits .f32 0x00000000#32) (A 1 0) (A 1 1) (A 1 2) (A 1 3) (A 1 7) x = A w1 7 := by rw [w_zero]; exact p18z
  have hv84 : v84 x = A w1 7 := by rw [ev84]; exact p18
  have p19z : k0_pay19 (F := Ideal) (k0_pay5 (F := Ideal)) (k0_pay6 (F := Ideal) i) (k0_pay7 (F := Ideal) i) (A 0 2) v40 v43 ((0 : ℝ) : EReal) (A 1 0) (A 1 1) (A 1 2) (A 1 3) x = A w1 2 := by
    have e : k0_pay19 (F := Ideal) (k0_pay5 (F := Ideal)) (k0_pay6 (F := Ideal) i) (k0_pay7 (F := Ideal) i) (A 0 2) v40 v43 ((0 : ℝ) : EReal) (A 1 0) (A 1 1) (A 1 2) (A 1 3) x = Scalar.select ((k0_pay15 (F := Ideal) (k0_pay5 (F := Ideal)) (k0_pay6 (F := Ideal) i) (k0_pay7 (F := Ideal) i) v40 v43 ((0 : ℝ) : EReal) (A 1 0) (A 1 1) (A 1 2) (A 1 3)) x) (A 1 2) (A 0 2) := rfl
    simp only [p15z, w_zero] at e
    exact e.trans (sel g1 (fun s => A s 2))
  have p19 : k0_pay19 (F := Ideal) (k0_pay5 (F := Ideal)) (k0_pay6 (F := Ideal) i) (k0_pay7 (F := Ideal) i) (A 0 2) v40 v43 (Ideal.ofBits .f32 0x00000000#32) (A 1 0) (A 1 1) (A 1 2) (A 1 3) x = A w1 2 := by rw [w_zero]; exact p19z
  have hv86 : v86 x = A w1 2 := by rw [ev86]; exact p19
  have p20z : k0_pay20 (F := Ideal) (k0_pay5 (F := Ideal)) (k0_pay6 (F := Ideal) i) (k0_pay7 (F := Ideal) i) (A 0 4) v40 v43 ((0 : ℝ) : EReal) (A 1 0) (A 1 1) (A 1 2) (A 1 3) (A 1 4) x = A w1 4 := by
    have e : k0_pay20 (F := Ideal) (k0_pay5 (F := Ideal)) (k0_pay6 (F := Ideal) i) (k0_pay7 (F := Ideal) i) (A 0 4) v40 v43 ((0 : ℝ) : EReal) (A 1 0) (A 1 1) (A 1 2) (A 1 3) (A 1 4) x = Scalar.select ((k0_pay15 (F := Ideal) (k0_pay5 (F := Ideal)) (k0_pay6 (F := Ideal) i) (k0_pay7 (F := Ideal) i) v40 v43 ((0 : ℝ) : EReal) (A 1 0) (A 1 1) (A 1 2) (A 1 3)) x) (A 1 4) (A 0 4) := rfl
    simp only [p15z, w_zero] at e
    exact e.trans (sel g1 (fun s => A s 4))
  have p20 : k0_pay20 (F := Ideal) (k0_pay5 (F := Ideal)) (k0_pay6 (F := Ideal) i) (k0_pay7 (F := Ideal) i) (A 0 4) v40 v43 (Ideal.ofBits .f32 0x00000000#32) (A 1 0) (A 1 1) (A 1 2) (A 1 3) (A 1 4) x = A w1 4 := by rw [w_zero]; exact p20z
  have hv88 : v88 x = A w1 4 := by rw [ev88]; exact p20
  have p21z : k0_pay21 (F := Ideal) (k0_pay5 (F := Ideal)) (k0_pay6 (F := Ideal) i) (k0_pay7 (F := Ideal) i) (A 0 5) v40 v43 ((0 : ℝ) : EReal) (A 1 0) (A 1 1) (A 1 2) (A 1 3) (A 1 5) x = A w1 5 := by
    have e : k0_pay21 (F := Ideal) (k0_pay5 (F := Ideal)) (k0_pay6 (F := Ideal) i) (k0_pay7 (F := Ideal) i) (A 0 5) v40 v43 ((0 : ℝ) : EReal) (A 1 0) (A 1 1) (A 1 2) (A 1 3) (A 1 5) x = Scalar.select ((k0_pay15 (F := Ideal) (k0_pay5 (F := Ideal)) (k0_pay6 (F := Ideal) i) (k0_pay7 (F := Ideal) i) v40 v43 ((0 : ℝ) : EReal) (A 1 0) (A 1 1) (A 1 2) (A 1 3)) x) (A 1 5) (A 0 5) := rfl
    simp only [p15z, w_zero] at e
    exact e.trans (sel g1 (fun s => A s 5))
  have p21 : k0_pay21 (F := Ideal) (k0_pay5 (F := Ideal)) (k0_pay6 (F := Ideal) i) (k0_pay7 (F := Ideal) i) (A 0 5) v40 v43 (Ideal.ofBits .f32 0x00000000#32) (A 1 0) (A 1 1) (A 1 2) (A 1 3) (A 1 5) x = A w1 5 := by rw [w_zero]; exact p21z
  have hv90 : v90 x = A w1 5 := by rw [ev90]; exact p21
  have p22z : k0_pay22 (F := Ideal) (k0_pay5 (F := Ideal)) (k0_pay6 (F := Ideal) i) (k0_pay7 (F := Ideal) i) (A 0 6) v40 v43 ((0 : ℝ) : EReal) (A 1 0) (A 1 1) (A 1 2) (A 1 3) (A 1 6) x = A w1 6 := by
    have e : k0_pay22 (F := Ideal) (k0_pay5 (F := Ideal)) (k0_pay6 (F := Ideal) i) (k0_pay7 (F := Ideal) i) (A 0 6) v40 v43 ((0 : ℝ) : EReal) (A 1 0) (A 1 1) (A 1 2) (A 1 3) (A 1 6) x = Scalar.select ((k0_pay15 (F := Ideal) (k0_pay5 (F := Ideal)) (k0_pay6 (F := Ideal) i) (k0_pay7 (F := Ideal) i) v40 v43 ((0 : ℝ) : EReal) (A 1 0) (A 1 1) (A 1 2) (A 1 3)) x) (A 1 6) (A 0 6) := rfl
    simp only [p15z, w_zero] at e
    exact e.trans (sel g1 (fun s => A s 6))
  have p22 : k0_pay22 (F := Ideal) (k0_pay5 (F := Ideal)) (k0_pay6 (F := Ideal) i) (k0_pay7 (F := Ideal) i) (A 0 6) v40 v43 (Ideal.ofBits .f32 0x00000000#32) (A 1 0) (A 1 1) (A 1 2) (A 1 3) (A 1 6) x = A w1 6 := by rw [w_zero]; exact p22z
  have hv92 : v92 x = A w1 6 := by rw [ev92]; exact p22
  have p23 : k0_pay23 (F := Ideal) (k0_pay5 (F := Ideal)) (k0_pay6 (F := Ideal) i) (k0_pay7 (F := Ideal) i) (A 2 0) (A 2 1) (A 2 2) x = kQ U V I A 2 := by
    have e : k0_pay23 (F := Ideal) (k0_pay5 (F := Ideal)) (k0_pay6 (F := Ideal) i) (k0_pay7 (F := Ideal) i) (A 2 0) (A 2 1) (A 2 2) x = (((((k0_pay5 (F := Ideal)) x) * (A 2 0)) + (((k0_pay6 (F := Ideal) i) x) * (A 2 2))) + (A 2 1)) * ((k0_pay7 (F := Ideal) i) x) := rfl
    simp only [hI, hU, hV] at e
    exact e.trans (rfl)
  have p24 : k0_pay24 (F := Ideal) (k0_pay5 (F := Ideal)) (k0_pay6 (F := Ideal) i) (k0_pay7 (F := Ideal) i) (A 2 0) (A 2 1) (A 2 2) (A 2 3) x = kD U V I A 2 := by
    have e : k0_pay24 (F := Ideal) (k0_pay5 (F := Ideal)) (k0_pay6 (F := Ideal) i) (k0_pay7 (F := Ideal) i) (A 2 0) (A 2 1) (A 2 2) (A 2 3) x = (((k0_pay23 (F := Ideal) (k0_pay5 (F := Ideal)) (k0_pay6 (F := Ideal) i) (k0_pay7 (F := Ideal) i) (A 2 0) (A 2 1) (A 2 2)) x) * ((k0_pay23 (F := Ideal) (k0_pay5 (F := Ideal)) (k0_pay6 (F := Ideal) i) (k0_pay7 (F := Ideal) i) (A 2 0) (A 2 1) (A 2 2)) x)) - (A 2 3) := rfl
    simp only [p23] at e
    exact e.trans (rfl)
  have p25 : k0_pay25 (F := Ideal) (k0_pay5 (F := Ideal)) (k0_pay6 (F := Ideal) i) (k0_pay7 (F := Ideal) i) (A 2 0) (A 2 1) (A 2 2) (A 2 3) x = kR U V I A 2 := by
    have e : k0_pay25 (F := Ideal) (k0_pay5 (F := Ideal)) (k0_pay6 (F := Ideal) i) (k0_pay7 (F := Ideal) i) (A 2 0) (A 2 1) (A 2 2) (A 2 3) x = ((k0_pay23 (F := Ideal) (k0_pay5 (F := Ideal)) (k0_pay6 (F := Ideal) i) (k0_pay7 (F := Ideal) i) (A 2 0) (A 2 1) (A 2 2)) x) - (((k0_pay24 (F := Ideal) (k0_pay5 (F := Ideal)) (k0_pay6 (F := Ideal) i) (k0_pay7 (F := Ideal) i) (A 2 0) (A 2 1) (A 2 2) (A 2 3)) x) * (Ideal.rsqrt ((k0_pay24 (F := Ideal) (k0_pay5 (F := Ideal)) (k0_pay6 (F := Ideal) i) (k0_pay7 (F := Ideal) i) (A 2 0) (A 2 1) (A 2 2) (A 2 3)) x))) := rfl
    simp only [p23, p24] at e
    exact e.trans (rfl)
  have p26 : k0_pay26 (F := Ideal) (k0_pay5 (F := Ideal)) (k0_pay6 (F := Ideal) i) (k0_pay7 (F := Ideal) i) v80 (A 2 0) (A 2 1) (A 2 2) (A 2 3) x = Ideal.cmp .olt (T 2) (T w1) := by
    have e : k0_pay26 (F := Ideal) (k0_pay5 (F := Ideal)) (k0_pay6 (F := Ideal) i) (k0_pay7 (F := Ideal) i) v80 (A 2 0) (A 2 1) (A 2 2) (A 2 3) x = IntOp.andi (Ideal.cmp .oge ((k0_pay24 (F := Ideal) (k0_pay5 (F := Ideal)) (k0_pay6 (F := Ideal) i) (k0_pay7 (F := Ideal) i) (A 2 0) (A 2 1) (A 2 2) (A 2 3)) x) (Ideal.ofBits .f32 0x00000000#32)) (Ideal.cmp .olt ((k0_pay25 (F := Ideal) (k0_pay5 (F := Ideal)) (k0_pay6 (F := Ideal) i) (k0_pay7 (F := Ideal) i) (A 2 0) (A 2 1) (A 2 2) (A 2 3)) x) (v80 x)) := rfl
    simp only [hv80, p24, p25, w_zero] at e
    exact e.trans (msk 2 w1)
  have p27 : k0_pay27 (F := Ideal) (k0_pay5 (F := Ideal)) (k0_pay6 (F := Ideal) i) (k0_pay7 (F := Ideal) i) v80 (A 2 0) (A 2 1) (A 2 2) (A 2 3) x = T w2 := by
    have e : k0_pay27 (F := Ideal) (k0_pay5 (F := Ideal)) (k0_pay6 (F := Ideal) i) (k0_pay7 (F := Ideal) i) v80 (A 2 0) (A 2 1) (A 2 2) (A 2 3) x = Scalar.select ((k0_pay26 (F := Ideal) (k0_pay5 (F := Ideal)) (k0_pay6 (F := Ideal) i) (k0_pay7 (F := Ideal) i) v80 (A 2 0) (A 2 1) (A 2 2) (A 2 3)) x) ((k0_pay25 (F := Ideal) (k0_pay5 (F := Ideal)) (k0_pay6 (F := Ideal) i) (k0_pay7 (F := Ideal) i) (A 2 0) (A 2 1) (A 2 2) (A 2 3)) x) (v80 x) := rfl
    simp only [hv80, p25, p26] at e
    exact e.trans (best g2 hR)
  have hv119 : v119 x = T w2 := by rw [ev119]; exact p27
  have p28 : k0_pay28 (F := Ideal) (k0_pay5 (F := Ideal)) (k0_pay6 (F := Ideal) i) (k0_pay7 (F := Ideal) i) v80 v82 (A 2 0) (A 2 1) (A 2 2) (A 2 3) x = A w2 0 := by
    have e : k0_pay28 (F := Ideal) (k0_pay5 (F := Ideal)) (k0_pay6 (F := Ideal) i) (k0_pay7 (F := Ideal) i) v80 v82 (A 2 0) (A 2 1) (A 2 2) (A 2 3) x = Scalar.select ((k0_pay26 (F := Ideal) (k0_pay5 (F := Ideal)) (k0_pay6 (F := Ideal) i) (k0_pay7 (F := Ideal) i) v80 (A 2 0) (A 2 1) (A 2 2) (A 2 3)) x) (A 2 0) (v82 x) := rfl
    simp only [hv82, p26] at e
    exact e.trans (sel g2 (fun s => A s 0))
  have hv121 : v121 x = A w2 0 := by rw [ev121]; exact p28
  have p29 : k0_pay29 (F := Ideal) (k0_pay5 (F := Ideal)) (k0_pay6 (F := Ideal) i) (k0_pay7 (F := Ideal) i) v80 v84 (A 2 0) (A 2 1) (A 2 2) (A 2 3) (A 2 7) x = A w2 7 := by
    have e : k0_pay29 (F := Ideal) (k0_pay5 (F := Ideal)) (k0_pay6 (F := Ideal) i) (k0_pay7 (F := Ideal) i) v80 v84 (A 2 0) (A 2 1) (A 2 2) (A 2 3) (A 2 7) x = Scalar.select ((k0_pay26 (F := Ideal) (k0_pay5 (F := Ideal)) (k0_pay6 (F := Ideal) i) (k0_pay7 (F := Ideal) i) v80 (A 2 0) (A 2 1) (A 2 2) (A 2 3)) x) (A 2 7) (v84 x) := rfl
    simp only [hv84, p26] at e
    exact e.trans (sel g2 (fun s => A s 7))
  have hv123 : v123 x = A w2 7 := by rw [ev123]; exact p29
  have p30 : k0_pay30 (F := Ideal) (k0_pay5 (F := Ideal)) (k0_pay6 (F := Ideal) i) (k0_pay7 (F := Ideal) i) v80 v86 (A 2 0) (A 2 1) (A 2 2) (A 2 3) x = A w2 2 := by
    have e : k0_pay30 (F := Ideal) (k0_pay5 (F := Ideal)) (k0_pay6 (F := Ideal) i) (k0_pay7 (F := Ideal) i) v80 v86 (A 2 0) (A 2 1) (A 2 2) (A 2 3) x = Scalar.select ((k0_pay26 (F := Ideal) (k0_pay5 (F := Ideal)) (k0_pay6 (F := Ideal) i) (k0_pay7 (F := Ideal) i) v80 (A 2 0) (A 2 1) (A 2 2) (A 2 3)) x) (A 2 2) (v86 x) := rfl
    simp only [hv86, p26] at e
    exact e.trans (sel g2 (fun s => A s 2))
  have hv125 : v125 x = A w2 2 := by rw [ev125]; exact p30
  have p31 : k0_pay31 (F := Ideal) (k0_pay5 (F := Ideal)) (k0_pay6 (F := Ideal) i) (k0_pay7 (F := Ideal) i) v80 v88 (A 2 0) (A 2 1) (A 2 2) (A 2 3) (A 2 4) x = A w2 4 := by
    have e : k0_pay31 (F := Ideal) (k0_pay5 (F := Ideal)) (k0_pay6 (F := Ideal) i) (k0_pay7 (F := Ideal) i) v80 v88 (A 2 0) (A 2 1) (A 2 2) (A 2 3) (A 2 4) x = Scalar.select ((k0_pay26 (F := Ideal) (k0_pay5 (F := Ideal)) (k0_pay6 (F := Ideal) i) (k0_pay7 (F := Ideal) i) v80 (A 2 0) (A 2 1) (A 2 2) (A 2 3)) x) (A 2 4) (v88 x) := rfl
    simp only [hv88, p26] at e
    exact e.trans (sel g2 (fun s => A s 4))
  have hv127 : v127 x = A w2 4 := by rw [ev127]; exact p31
  have p32 : k0_pay32 (F := Ideal) (k0_pay5 (F := Ideal)) (k0_pay6 (F := Ideal) i) (k0_pay7 (F := Ideal) i) v80 v90 (A 2 0) (A 2 1) (A 2 2) (A 2 3) (A 2 5) x = A w2 5 := by
    have e : k0_pay32 (F := Ideal) (k0_pay5 (F := Ideal)) (k0_pay6 (F := Ideal) i) (k0_pay7 (F := Ideal) i) v80 v90 (A 2 0) (A 2 1) (A 2 2) (A 2 3) (A 2 5) x = Scalar.select ((k0_pay26 (F := Ideal) (k0_pay5 (F := Ideal)) (k0_pay6 (F := Ideal) i) (k0_pay7 (F := Ideal) i) v80 (A 2 0) (A 2 1) (A 2 2) (A 2 3)) x) (A 2 5) (v90 x) := rfl
    simp only [hv90, p26] at e
    exact e.trans (sel g2 (fun s => A s 5))
  have hv129 : v129 x = A w2 5 := by rw [ev129]; exact p32
  have p33 : k0_pay33 (F := Ideal) (k0_pay5 (F := Ideal)) (k0_pay6 (F := Ideal) i) (k0_pay7 (F := Ideal) i) v80 v92 (A 2 0) (A 2 1) (A 2 2) (A 2 3) (A 2 6) x = A w2 6 := by
    have e : k0_pay33 (F := Ideal) (k0_pay5 (F := Ideal)) (k0_pay6 (F := Ideal) i) (k0_pay7 (F := Ideal) i) v80 v92 (A 2 0) (A 2 1) (A 2 2) (A 2 3) (A 2 6) x = Scalar.select ((k0_pay26 (F := Ideal) (k0_pay5 (F := Ideal)) (k0_pay6 (F := Ideal) i) (k0_pay7 (F := Ideal) i) v80 (A 2 0) (A 2 1) (A 2 2) (A 2 3)) x) (A 2 6) (v92 x) := rfl
    simp only [hv92, p26] at e
    exact e.trans (sel g2 (fun s => A s 6))
  have hv131 : v131 x = A w2 6 := by rw [ev131]; exact p33
  have p34 : k0_pay34 (F := Ideal) (k0_pay5 (F := Ideal)) (k0_pay6 (F := Ideal) i) (k0_pay7 (F := Ideal) i) (A 3 0) (A 3 1) (A 3 2) x = kQ U V I A 3 := by
    have e : k0_pay34 (F := Ideal) (k0_pay5 (F := Ideal)) (k0_pay6 (F := Ideal) i) (k0_pay7 (F := Ideal) i) (A 3 0) (A 3 1) (A 3 2) x = (((((k0_pay5 (F := Ideal)) x) * (A 3 0)) + (((k0_pay6 (F := Ideal) i) x) * (A 3 2))) + (A 3 1)) * ((k0_pay7 (F := Ideal) i) x) := rfl
    simp only [hI, hU, hV] at e
    exact e.trans (rfl)
  have p35 : k0_pay35 (F := Ideal) (k0_pay5 (F := Ideal)) (k0_pay6 (F := Ideal) i) (k0_pay7 (F := Ideal) i) (A 3 0) (A 3 1) (A 3 2) (A 3 3) x = kD U V I A 3 := by
    have e : k0_pay35 (F := Ideal) (k0_pay5 (F := Ideal)) (k0_pay6 (F := Ideal) i) (k0_pay7 (F := Ideal) i) (A 3 0) (A 3 1) (A 3 2) (A 3 3) x = (((k0_pay34 (F := Ideal) (k0_pay5 (F := Ideal)) (k0_pay6 (F := Ideal) i) (k0_pay7 (F := Ideal) i) (A 3 0) (A 3 1) (A 3 2)) x) * ((k0_pay34 (F := Ideal) (k0_pay5 (F := Ideal)) (k0_pay6 (F := Ideal) i) (k0_pay7 (F := Ideal) i) (A 3 0) (A 3 1) (A 3 2)) x)) - (A 3 3) := rfl
    simp only [p34] at e
    exact e.trans (rfl)
  have p36 : k0_pay36 (F := Ideal) (k0_pay5 (F := Ideal)) (k0_pay6 (F := Ideal) i) (k0_pay7 (F := Ideal) i) (A 3 0) (A 3 1) (A 3 2) (A 3 3) x = kR U V I A 3 := by
    have e : k0_pay36 (F := Ideal) (k0_pay5 (F := Ideal)) (k0_pay6 (F := Ideal) i) (k0_pay7 (F := Ideal) i) (A 3 0) (A 3 1) (A 3 2) (A 3 3) x = ((k0_pay34 (F := Ideal) (k0_pay5 (F := Ideal)) (k0_pay6 (F := Ideal) i) (k0_pay7 (F := Ideal) i) (A 3 0) (A 3 1) (A 3 2)) x) - (((k0_pay35 (F := Ideal) (k0_pay5 (F := Ideal)) (k0_pay6 (F := Ideal) i) (k0_pay7 (F := Ideal) i) (A 3 0) (A 3 1) (A 3 2) (A 3 3)) x) * (Ideal.rsqrt ((k0_pay35 (F := Ideal) (k0_pay5 (F := Ideal)) (k0_pay6 (F := Ideal) i) (k0_pay7 (F := Ideal) i) (A 3 0) (A 3 1) (A 3 2) (A 3 3)) x))) := rfl
    simp only [p34, p35] at e
    exact e.trans (rfl)
  have p37 : k0_pay37 (F := Ideal) (k0_pay5 (F := Ideal)) (k0_pay6 (F := Ideal) i) (k0_pay7 (F := Ideal) i) v119 (A 3 0) (A 3 1) (A 3 2) (A 3 3) x = Ideal.cmp .olt (T 3) (T w2) := by
    have e : k0_pay37 (F := Ideal) (k0_pay5 (F := Ideal)) (k0_pay6 (F := Ideal) i) (k0_pay7 (F := Ideal) i) v119 (A 3 0) (A 3 1) (A 3 2) (A 3 3) x = IntOp.andi (Ideal.cmp .oge ((k0_pay35 (F := Ideal) (k0_pay5 (F := Ideal)) (k0_pay6 (F := Ideal) i) (k0_pay7 (F := Ideal) i) (A 3 0) (A 3 1) (A 3 2) (A 3 3)) x) (Ideal.ofBits .f32 0x00000000#32)) (Ideal.cmp .olt ((k0_pay36 (F := Ideal) (k0_pay5 (F := Ideal)) (k0_pay6 (F := Ideal) i) (k0_pay7 (F := Ideal) i) (A 3 0) (A 3 1) (A 3 2) (A 3 3)) x) (v119 x)) := rfl
    simp only [hv119, p35, p36, w_zero] at e
    exact e.trans (msk 3 w2)
  have p38 : k0_pay38 (F := Ideal) (k0_pay5 (F := Ideal)) (k0_pay6 (F := Ideal) i) (k0_pay7 (F := Ideal) i) v119 (A 3 0) (A 3 1) (A 3 2) (A 3 3) x = T w3 := by
    have e : k0_pay38 (F := Ideal) (k0_pay5 (F := Ideal)) (k0_pay6 (F := Ideal) i) (k0_pay7 (F := Ideal) i) v119 (A 3 0) (A 3 1) (A 3 2) (A 3 3) x = Scalar.select ((k0_pay37 (F := Ideal) (k0_pay5 (F := Ideal)) (k0_pay6 (F := Ideal) i) (k0_pay7 (F := Ideal) i) v119 (A 3 0) (A 3 1) (A 3 2) (A 3 3)) x) ((k0_pay36 (F := Ideal) (k0_pay5 (F := Ideal)) (k0_pay6 (F := Ideal) i) (k0_pay7 (F := Ideal) i) (A 3 0) (A 3 1) (A 3 2) (A 3 3)) x) (v119 x) := rfl
    simp only [hv119, p36, p37] at e
    exact e.trans (best g3 hR)
  have hv158 : v158 x = T w3 := by rw [ev158]; exact p38
  have p39 : k0_pay39 (F := Ideal) (k0_pay5 (F := Ideal)) (k0_pay6 (F := Ideal) i) (k0_pay7 (F := Ideal) i) v119 v121 (A 3 0) (A 3 1) (A 3 2) (A 3 3) x = A w3 0 := by
    have e : k0_pay39 (F := Ideal) (k0_pay5 (F := Ideal)) (k0_pay6 (F := Ideal) i) (k0_pay7 (F := Ideal) i) v119 v121 (A 3 0) (A 3 1) (A 3 2) (A 3 3) x = Scalar.select ((k0_pay37 (F := Ideal) (k0_pay5 (F := Ideal)) (k0_pay6 (F := Ideal) i) (k0_pay7 (F := Ideal) i) v119 (A 3 0) (A 3 1) (A 3 2) (A 3 3)) x) (A 3 0) (v121 x) := rfl
    simp only [hv121, p37] at e
    exact e.trans (sel g3 (fun s => A s 0))
  have hv160 : v160 x = A w3 0 := by rw [ev160]; exact p39
  have p40 : k0_pay40 (F := Ideal) (k0_pay5 (F := Ideal)) (k0_pay6 (F := Ideal) i) (k0_pay7 (F := Ideal) i) v119 v123 (A 3 0) (A 3 1) (A 3 2) (A 3 3) (A 3 7) x = A w3 7 := by
    have e : k0_pay40 (F := Ideal) (k0_pay5 (F := Ideal)) (k0_pay6 (F := Ideal) i) (k0_pay7 (F := Ideal) i) v119 v123 (A 3 0) (A 3 1) (A 3 2) (A 3 3) (A 3 7) x = Scalar.select ((k0_pay37 (F := Ideal) (k0_pay5 (F := Ideal)) (k0_pay6 (F := Ideal) i) (k0_pay7 (F := Ideal) i) v119 (A 3 0) (A 3 1) (A 3 2) (A 3 3)) x) (A 3 7) (v123 x) := rfl
    simp only [hv123, p37] at e
    exact e.trans (sel g3 (fun s => A s 7))
  have hv162 : v162 x = A w3 7 := by rw [ev162]; exact p40
  have p41 : k0_pay41 (F := Ideal) (k0_pay5 (F := Ideal)) (k0_pay6 (F := Ideal) i) (k0_pay7 (F := Ideal) i) v119 v125 (A 3 0) (A 3 1) (A 3 2) (A 3 3) x = A w3 2 := by
    have e : k0_pay41 (F := Ideal) (k0_pay5 (F := Ideal)) (k0_pay6 (F := Ideal) i) (k0_pay7 (F := Ideal) i) v119 v125 (A 3 0) (A 3 1) (A 3 2) (A 3 3) x = Scalar.select ((k0_pay37 (F := Ideal) (k0_pay5 (F := Ideal)) (k0_pay6 (F := Ideal) i) (k0_pay7 (F := Ideal) i) v119 (A 3 0) (A 3 1) (A 3 2) (A 3 3)) x) (A 3 2) (v125 x) := rfl
    simp only [hv125, p37] at e
    exact e.trans (sel g3 (fun s => A s 2))
  have hv164 : v164 x = A w3 2 := by rw [ev164]; exact p41
  have p42 : k0_pay42 (F := Ideal) (k0_pay5 (F := Ideal)) (k0_pay6 (F := Ideal) i) (k0_pay7 (F := Ideal) i) v119 v127 (A 3 0) (A 3 1) (A 3 2) (A 3 3) (A 3 4) x = A w3 4 := by
    have e : k0_pay42 (F := Ideal) (k0_pay5 (F := Ideal)) (k0_pay6 (F := Ideal) i) (k0_pay7 (F := Ideal) i) v119 v127 (A 3 0) (A 3 1) (A 3 2) (A 3 3) (A 3 4) x = Scalar.select ((k0_pay37 (F := Ideal) (k0_pay5 (F := Ideal)) (k0_pay6 (F := Ideal) i) (k0_pay7 (F := Ideal) i) v119 (A 3 0) (A 3 1) (A 3 2) (A 3 3)) x) (A 3 4) (v127 x) := rfl
    simp only [hv127, p37] at e
    exact e.trans (sel g3 (fun s => A s 4))
  have hv166 : v166 x = A w3 4 := by rw [ev166]; exact p42
  have p43 : k0_pay43 (F := Ideal) (k0_pay5 (F := Ideal)) (k0_pay6 (F := Ideal) i) (k0_pay7 (F := Ideal) i) v119 v129 (A 3 0) (A 3 1) (A 3 2) (A 3 3) (A 3 5) x = A w3 5 := by
    have e : k0_pay43 (F := Ideal) (k0_pay5 (F := Ideal)) (k0_pay6 (F := Ideal) i) (k0_pay7 (F := Ideal) i) v119 v129 (A 3 0) (A 3 1) (A 3 2) (A 3 3) (A 3 5) x = Scalar.select ((k0_pay37 (F := Ideal) (k0_pay5 (F := Ideal)) (k0_pay6 (F := Ideal) i) (k0_pay7 (F := Ideal) i) v119 (A 3 0) (A 3 1) (A 3 2) (A 3 3)) x) (A 3 5) (v129 x) := rfl
    simp only [hv129, p37] at e
    exact e.trans (sel g3 (fun s => A s 5))
  have hv168 : v168 x = A w3 5 := by rw [ev168]; exact p43
  have p44 : k0_pay44 (F := Ideal) (k0_pay5 (F := Ideal)) (k0_pay6 (F := Ideal) i) (k0_pay7 (F := Ideal) i) v119 v131 (A 3 0) (A 3 1) (A 3 2) (A 3 3) (A 3 6) x = A w3 6 := by
    have e : k0_pay44 (F := Ideal) (k0_pay5 (F := Ideal)) (k0_pay6 (F := Ideal) i) (k0_pay7 (F := Ideal) i) v119 v131 (A 3 0) (A 3 1) (A 3 2) (A 3 3) (A 3 6) x = Scalar.select ((k0_pay37 (F := Ideal) (k0_pay5 (F := Ideal)) (k0_pay6 (F := Ideal) i) (k0_pay7 (F := Ideal) i) v119 (A 3 0) (A 3 1) (A 3 2) (A 3 3)) x) (A 3 6) (v131 x) := rfl
    simp only [hv131, p37] at e
    exact e.trans (sel g3 (fun s => A s 6))
  have hv170 : v170 x = A w3 6 := by rw [ev170]; exact p44
  have p45 : k0_pay45 (F := Ideal) (k0_pay5 (F := Ideal)) (k0_pay6 (F := Ideal) i) (k0_pay7 (F := Ideal) i) (A 4 0) (A 4 1) (A 4 2) x = kQ U V I A 4 := by
    have e : k0_pay45 (F := Ideal) (k0_pay5 (F := Ideal)) (k0_pay6 (F := Ideal) i) (k0_pay7 (F := Ideal) i) (A 4 0) (A 4 1) (A 4 2) x = (((((k0_pay5 (F := Ideal)) x) * (A 4 0)) + (((k0_pay6 (F := Ideal) i) x) * (A 4 2))) + (A 4 1)) * ((k0_pay7 (F := Ideal) i) x) := rfl
    simp only [hI, hU, hV] at e
    exact e.trans (rfl)
  have hv186 : v186 x = kQ U V I A 4 := by rw [ev186]; exact p45
  have p46 : k0_pay46 (F := Ideal) (k0_pay5 (F := Ideal)) (k0_pay6 (F := Ideal) i) (k0_pay7 (F := Ideal) i) (A 4 0) (A 4 1) (A 4 2) x = (kQ U V I A 4) * (kQ U V I A 4) := by
    have e : k0_pay46 (F := Ideal) (k0_pay5 (F := Ideal)) (k0_pay6 (F := Ideal) i) (k0_pay7 (F := Ideal) i) (A 4 0) (A 4 1) (A 4 2) x = ((k0_pay45 (F := Ideal) (k0_pay5 (F := Ideal)) (k0_pay6 (F := Ideal) i) (k0_pay7 (F := Ideal) i) (A 4 0) (A 4 1) (A 4 2)) x) * ((k0_pay45 (F := Ideal) (k0_pay5 (F := Ideal)) (k0_pay6 (F := Ideal) i) (k0_pay7 (F := Ideal) i) (A 4 0) (A 4 1) (A 4 2)) x) := rfl
    simp only [p45] at e
    exact e.trans (rfl)
  have hv187 : v187 x = (kQ U V I A 4) * (kQ U V I A 4) := by rw [ev187]; exact p46
  have p47 : k0_pay47 (F := Ideal) (A 4 3) v187 x = kD U V I A 4 := by
    have e : k0_pay47 (F := Ideal) (A 4 3) v187 x = (v187 x) - (A 4 3) := rfl
    simp only [hv187] at e
    exact e.trans (rfl)
  have p48 : k0_pay48 (F := Ideal) (A 4 3) v186 v187 x = kR U V I A 4 := by
    have e : k0_pay48 (F := Ideal) (A 4 3) v186 v187 x = (v186 x) - (((k0_pay47 (F := Ideal) (A 4 3) v187) x) * (Ideal.rsqrt ((k0_pay47 (F := Ideal) (A 4 3) v187) x))) := rfl
    simp only [hv186, p47] at e
    exact e.trans (rfl)
  have p49 : k0_pay49 (F := Ideal) v158 (A 4 3) v186 v187 x = Ideal.cmp .olt (T 4) (T w3) := by
    have e : k0_pay49 (F := Ideal) v158 (A 4 3) v186 v187 x = IntOp.andi (Ideal.cmp .oge ((k0_pay47 (F := Ideal) (A 4 3) v187) x) (Ideal.ofBits .f32 0x00000000#32)) (Ideal.cmp .olt ((k0_pay48 (F := Ideal) (A 4 3) v186 v187) x) (v158 x)) := rfl
    simp only [hv158, p47, p48, w_zero] at e
    exact e.trans (msk 4 w3)
  have p50 : k0_pay50 (F := Ideal) v158 (A 4 3) v186 v187 x = T w4 := by
    have e : k0_pay50 (F := Ideal) v158 (A 4 3) v186 v187 x = Scalar.select ((k0_pay49 (F := Ideal) v158 (A 4 3) v186 v187) x) ((k0_pay48 (F := Ideal) (A 4 3) v186 v187) x) (v158 x) := rfl
    simp only [hv158, p48, p49] at e
    exact e.trans (best g4 hR)
  have p51 : k0_pay51 (F := Ideal) v158 v160 (A 4 0) (A 4 3) v186 v187 x = A w4 0 := by
    have e : k0_pay51 (F := Ideal) v158 v160 (A 4 0) (A 4 3) v186 v187 x = Scalar.select ((k0_pay49 (F := Ideal) v158 (A 4 3) v186 v187) x) (A 4 0) (v160 x) := rfl
    simp only [hv160, p49] at e
    exact e.trans (sel g4 (fun s => A s 0))
  have hv199 : v199 x = A w4 0 := by rw [ev199]; exact p51
  have p52 : k0_pay52 (F := Ideal) v158 v162 (A 4 3) (A 4 7) v186 v187 x = A w4 7 := by
    have e : k0_pay52 (F := Ideal) v158 v162 (A 4 3) (A 4 7) v186 v187 x = Scalar.select ((k0_pay49 (F := Ideal) v158 (A 4 3) v186 v187) x) (A 4 7) (v162 x) := rfl
    simp only [hv162, p49] at e
    exact e.trans (sel g4 (fun s => A s 7))
  have hv201 : v201 x = A w4 7 := by rw [ev201]; exact p52
  have p53 : k0_pay53 (F := Ideal) v158 v164 (A 4 2) (A 4 3) v186 v187 x = A w4 2 := by
    have e : k0_pay53 (F := Ideal) v158 v164 (A 4 2) (A 4 3) v186 v187 x = Scalar.select ((k0_pay49 (F := Ideal) v158 (A 4 3) v186 v187) x) (A 4 2) (v164 x) := rfl
    simp only [hv164, p49] at e
    exact e.trans (sel g4 (fun s => A s 2))
  have hv203 : v203 x = A w4 2 := by rw [ev203]; exact p53
  have p54 : k0_pay54 (F := Ideal) v158 v166 (A 4 3) (A 4 4) v186 v187 x = A w4 4 := by
    have e : k0_pay54 (F := Ideal) v158 v166 (A 4 3) (A 4 4) v186 v187 x = Scalar.select ((k0_pay49 (F := Ideal) v158 (A 4 3) v186 v187) x) (A 4 4) (v166 x) := rfl
    simp only [hv166, p49] at e
    exact e.trans (sel g4 (fun s => A s 4))
  have hv205 : v205 x = A w4 4 := by rw [ev205]; exact p54
  have p55 : k0_pay55 (F := Ideal) v158 v168 (A 4 3) (A 4 5) v186 v187 x = A w4 5 := by
    have e : k0_pay55 (F := Ideal) v158 v168 (A 4 3) (A 4 5) v186 v187 x = Scalar.select ((k0_pay49 (F := Ideal) v158 (A 4 3) v186 v187) x) (A 4 5) (v168 x) := rfl
    simp only [hv168, p49] at e
    exact e.trans (sel g4 (fun s => A s 5))
  have hv207 : v207 x = A w4 5 := by rw [ev207]; exact p55
  have p56 : k0_pay56 (F := Ideal) v158 v170 (A 4 3) (A 4 6) v186 v187 x = A w4 6 := by
    have e : k0_pay56 (F := Ideal) v158 v170 (A 4 3) (A 4 6) v186 v187 x = Scalar.select ((k0_pay49 (F := Ideal) v158 (A 4 3) v186 v187) x) (A 4 6) (v170 x) := rfl
    simp only [hv170, p49] at e
    exact e.trans (sel g4 (fun s => A s 6))
  have hv209 : v209 x = A w4 6 := by rw [ev209]; exact p56
  have p57 : k0_pay57 (F := Ideal) (k0_pay5 (F := Ideal)) (k0_pay6 (F := Ideal) i) (k0_pay7 (F := Ideal) i) (A 5 0) (A 5 1) (A 5 2) x = kQ U V I A 5 := by
    have e : k0_pay57 (F := Ideal) (k0_pay5 (F := Ideal)) (k0_pay6 (F := Ideal) i) (k0_pay7 (F := Ideal) i) (A 5 0) (A 5 1) (A 5 2) x = (((((k0_pay5 (F := Ideal)) x) * (A 5 0)) + (((k0_pay6 (F := Ideal) i) x) * (A 5 2))) + (A 5 1)) * ((k0_pay7 (F := Ideal) i) x) := rfl
    simp only [hI, hU, hV] at e
    exact e.trans (rfl)
  have p58 : k0_pay58 (F := Ideal) (k0_pay5 (F := Ideal)) (k0_pay6 (F := Ideal) i) (k0_pay7 (F := Ideal) i) (A 5 0) (A 5 1) (A 5 2) (A 5 3) x = kD U V I A 5 := by
    have e : k0_pay58 (F := Ideal) (k0_pay5 (F := Ideal)) (k0_pay6 (F := Ideal) i) (k0_pay7 (F := Ideal) i) (A 5 0) (A 5 1) (A 5 2) (A 5 3) x = (((k0_pay57 (F := Ideal) (k0_pay5 (F := Ideal)) (k0_pay6 (F := Ideal) i) (k0_pay7 (F := Ideal) i) (A 5 0) (A 5 1) (A 5 2)) x) * ((k0_pay57 (F := Ideal) (k0_pay5 (F := Ideal)) (k0_pay6 (F := Ideal) i) (k0_pay7 (F := Ideal) i) (A 5 0) (A 5 1) (A 5 2)) x)) - (A 5 3) := rfl
    simp only [p57] at e
    exact e.trans (rfl)
  have p59 : k0_pay59 (F := Ideal) (k0_pay5 (F := Ideal)) (k0_pay6 (F := Ideal) i) (k0_pay7 (F := Ideal) i) (A 5 0) (A 5 1) (A 5 2) (A 5 3) x = kR U V I A 5 := by
    have e : k0_pay59 (F := Ideal) (k0_pay5 (F := Ideal)) (k0_pay6 (F := Ideal) i) (k0_pay7 (F := Ideal) i) (A 5 0) (A 5 1) (A 5 2) (A 5 3) x = ((k0_pay57 (F := Ideal) (k0_pay5 (F := Ideal)) (k0_pay6 (F := Ideal) i) (k0_pay7 (F := Ideal) i) (A 5 0) (A 5 1) (A 5 2)) x) - (((k0_pay58 (F := Ideal) (k0_pay5 (F := Ideal)) (k0_pay6 (F := Ideal) i) (k0_pay7 (F := Ideal) i) (A 5 0) (A 5 1) (A 5 2) (A 5 3)) x) * (Ideal.rsqrt ((k0_pay58 (F := Ideal) (k0_pay5 (F := Ideal)) (k0_pay6 (F := Ideal) i) (k0_pay7 (F := Ideal) i) (A 5 0) (A 5 1) (A 5 2) (A 5 3)) x))) := rfl
    simp only [p57, p58] at e
    exact e.trans (rfl)
  have p60 : k0_pay60 (F := Ideal) (k0_pay5 (F := Ideal)) (k0_pay6 (F := Ideal) i) (k0_pay7 (F := Ideal) i) v158 (A 4 3) v186 v187 (A 5 0) (A 5 1) (A 5 2) (A 5 3) x = Ideal.cmp .olt (T 5) (T w4) := by
    have e : k0_pay60 (F := Ideal) (k0_pay5 (F := Ideal)) (k0_pay6 (F := Ideal) i) (k0_pay7 (F := Ideal) i) v158 (A 4 3) v186 v187 (A 5 0) (A 5 1) (A 5 2) (A 5 3) x = IntOp.andi (Ideal.cmp .oge ((k0_pay58 (F := Ideal) (k0_pay5 (F := Ideal)) (k0_pay6 (F := Ideal) i) (k0_pay7 (F := Ideal) i) (A 5 0) (A 5 1) (A 5 2) (A 5 3)) x) (Ideal.ofBits .f32 0x00000000#32)) (Ideal.cmp .olt ((k0_pay59 (F := Ideal) (k0_pay5 (F := Ideal)) (k0_pay6 (F := Ideal) i) (k0_pay7 (F := Ideal) i) (A 5 0) (A 5 1) (A 5 2) (A 5 3)) x) ((k0_pay50 (F := Ideal) v158 (A 4 3) v186 v187) x)) := rfl
    simp only [p50, p58, p59, w_zero] at e
    exact e.trans (msk 5 w4)
  have hv235 : v235 x = Ideal.cmp .olt (T 5) (T w4) := by rw [ev235]; exact p60
  have p61 : k0_pay61 (F := Ideal) (k0_pay5 (F := Ideal)) (k0_pay6 (F := Ideal) i) (k0_pay7 (F := Ideal) i) v158 (A 4 3) v186 v187 (A 5 0) (A 5 1) (A 5 2) (A 5 3) x = T w5 := by
    have e : k0_pay61 (F := Ideal) (k0_pay5 (F := Ideal)) (k0_pay6 (F := Ideal) i) (k0_pay7 (F := Ideal) i) v158 (A 4 3) v186 v187 (A 5 0) (A 5 1) (A 5 2) (A 5 3) x = Scalar.select ((k0_pay60 (F := Ideal) (k0_pay5 (F := Ideal)) (k0_pay6 (F := Ideal) i) (k0_pay7 (F := Ideal) i) v158 (A 4 3) v186 v187 (A 5 0) (A 5 1) (A 5 2) (A 5 3)) x) ((k0_pay59 (F := Ideal) (k0_pay5 (F := Ideal)) (k0_pay6 (F := Ideal) i) (k0_pay7 (F := Ideal) i) (A 5 0) (A 5 1) (A 5 2) (A 5 3)) x) ((k0_pay50 (F := Ideal) v158 (A 4 3) v186 v187) x) := rfl
    simp only [p50, p59, p60] at e
    exact e.trans (best g5 hR)
  have hv236 : v236 x = T w5 := by rw [ev236]; exact p61
  have p62 : k0_pay62 (F := Ideal) (A 5 0) x = A 5 0 := by
    have e : k0_pay62 (F := Ideal) (A 5 0) x = A 5 0 := rfl
    exact e.trans (rfl)
  have hv237 : v237 x = A 5 0 := by rw [ev237]; exact p62
  have p63 : k0_pay63 (F := Ideal) (k0_pay5 (F := Ideal)) (k0_pay6 (F := Ideal) i) (k0_pay7 (F := Ideal) i) (A 6 0) (A 6 1) (A 6 2) x = kQ U V I A 6 := by
    have e : k0_pay63 (F := Ideal) (k0_pay5 (F := Ideal)) (k0_pay6 (F := Ideal) i) (k0_pay7 (F := Ideal) i) (A 6 0) (A 6 1) (A 6 2) x = (((((k0_pay5 (F := Ideal)) x) * (A 6 0)) + (((k0_pay6 (F := Ideal) i) x) * (A 6 2))) + (A 6 1)) * ((k0_pay7 (F := Ideal) i) x) := rfl
    simp only [hI, hU, hV] at e
    exact e.trans (rfl)
  have p64 : k0_pay64 (F := Ideal) (k0_pay5 (F := Ideal)) (k0_pay6 (F := Ideal) i) (k0_pay7 (F := Ideal) i) (A 6 0) (A 6 1) (A 6 2) (A 6 3) x = kD U V I A 6 := by
    have e : k0_pay64 (F := Ideal) (k0_pay5 (F := Ideal)) (k0_pay6 (F := Ideal) i) (k0_pay7 (F := Ideal) i) (A 6 0) (A 6 1) (A 6 2) (A 6 3) x = (((k0_pay63 (F := Ideal) (k0_pay5 (F := Ideal)) (k0_pay6 (F := Ideal) i) (k0_pay7 (F := Ideal) i) (A 6 0) (A 6 1) (A 6 2)) x) * ((k0_pay63 (F := Ideal) (k0_pay5 (F := Ideal)) (k0_pay6 (F := Ideal) i) (k0_pay7 (F := Ideal) i) (A 6 0) (A 6 1) (A 6 2)) x)) - (A 6 3) := rfl
    simp only [p63] at e
    exact e.trans (rfl)
  have p65 : k0_pay65 (F := Ideal) (k0_pay5 (F := Ideal)) (k0_pay6 (F := Ideal) i) (k0_pay7 (F := Ideal) i) (A 6 0) (A 6 1) (A 6 2) (A 6 3) x = kR U V I A 6 := by
    have e : k0_pay65 (F := Ideal) (k0_pay5 (F := Ideal)) (k0_pay6 (F := Ideal) i) (k0_pay7 (F := Ideal) i) (A 6 0) (A 6 1) (A 6 2) (A 6 3) x = ((k0_pay63 (F := Ideal) (k0_pay5 (F := Ideal)) (k0_pay6 (F := Ideal) i) (k0_pay7 (F := Ideal) i) (A 6 0) (A 6 1) (A 6 2)) x) - (((k0_pay64 (F := Ideal) (k0_pay5 (F := Ideal)) (k0_pay6 (F := Ideal) i) (k0_pay7 (F := Ideal) i) (A 6 0) (A 6 1) (A 6 2) (A 6 3)) x) * (Ideal.rsqrt ((k0_pay64 (F := Ideal) (k0_pay5 (F := Ideal)) (k0_pay6 (F := Ideal) i) (k0_pay7 (F := Ideal) i) (A 6 0) (A 6 1) (A 6 2) (A 6 3)) x))) := rfl
    simp only [p63, p64] at e
    exact e.trans (rfl)
  have p66 : k0_pay66 (F := Ideal) (k0_pay5 (F := Ideal)) (k0_pay6 (F := Ideal) i) (k0_pay7 (F := Ideal) i) v236 (A 6 0) (A 6 1) (A 6 2) (A 6 3) x = Ideal.cmp .olt (T 6) (T w5) := by
    have e : k0_pay66 (F := Ideal) (k0_pay5 (F := Ideal)) (k0_pay6 (F := Ideal) i) (k0_pay7 (F := Ideal) i) v236 (A 6 0) (A 6 1) (A 6 2) (A 6 3) x = IntOp.andi (Ideal.cmp .oge ((k0_pay64 (F := Ideal) (k0_pay5 (F := Ideal)) (k0_pay6 (F := Ideal) i) (k0_pay7 (F := Ideal) i) (A 6 0) (A 6 1) (A 6 2) (A 6 3)) x) (Ideal.ofBits .f32 0x00000000#32)) (Ideal.cmp .olt ((k0_pay65 (F := Ideal) (k0_pay5 (F := Ideal)) (k0_pay6 (F := Ideal) i) (k0_pay7 (F := Ideal) i) (A 6 0) (A 6 1) (A 6 2) (A 6 3)) x) (v236 x)) := rfl
    simp only [hv236, p64, p65, w_zero] at e
    exact e.trans (msk 6 w5)
  have p67 : k0_pay67 (F := Ideal) (k0_pay5 (F := Ideal)) (k0_pay6 (F := Ideal) i) (k0_pay7 (F := Ideal) i) v236 (A 6 0) (A 6 1) (A 6 2) (A 6 3) x = T w6 := by
    have e : k0_pay67 (F := Ideal) (k0_pay5 (F := Ideal)) (k0_pay6 (F := Ideal) i) (k0_pay7 (F := Ideal) i) v236 (A 6 0) (A 6 1) (A 6 2) (A 6 3) x = Scalar.select ((k0_pay66 (F := Ideal) (k0_pay5 (F := Ideal)) (k0_pay6 (F := Ideal) i) (k0_pay7 (F := Ideal) i) v236 (A 6 0) (A 6 1) (A 6 2) (A 6 3)) x) ((k0_pay65 (F := Ideal) (k0_pay5 (F := Ideal)) (k0_pay6 (F := Ideal) i) (k0_pay7 (F := Ideal) i) (A 6 0) (A 6 1) (A 6 2) (A 6 3)) x) (v236 x) := rfl
    simp only [hv236, p65, p66] at e
    exact e.trans (best g6 hR)
  have hv275 : v275 x = T w6 := by rw [ev275]; exact p67
  have p68 : k0_pay68 (F := Ideal) (k0_pay5 (F := Ideal)) (k0_pay6 (F := Ideal) i) (k0_pay7 (F := Ideal) i) v199 v235 v236 v237 (A 6 0) (A 6 1) (A 6 2) (A 6 3) x = A w6 0 := by
    have e : k0_pay68 (F := Ideal) (k0_pay5 (F := Ideal)) (k0_pay6 (F := Ideal) i) (k0_pay7 (F := Ideal) i) v199 v235 v236 v237 (A 6 0) (A 6 1) (A 6 2) (A 6 3) x = Scalar.select ((k0_pay66 (F := Ideal) (k0_pay5 (F := Ideal)) (k0_pay6 (F := Ideal) i) (k0_pay7 (F := Ideal) i) v236 (A 6 0) (A 6 1) (A 6 2) (A 6 3)) x) (A 6 0) (Scalar.select (v235 x) (v237 x) (v199 x)) := rfl
    simp only [hv199, hv235, hv237, p66] at e
    exact e.trans ((congrArg (Scalar.select _ _) (sel g5 (fun s => A s 0))).trans (sel g6 (fun s => A s 0)))
  have hv277 : v277 x = A w6 0 := by rw [ev277]; exact p68
  have p69 : k0_pay69 (F := Ideal) (k0_pay5 (F := Ideal)) (k0_pay6 (F := Ideal) i) (k0_pay7 (F := Ideal) i) v201 (A 5 7) v235 v236 (A 6 0) (A 6 1) (A 6 2) (A 6 3) (A 6 7) x = A w6 7 := by
    have e : k0_pay69 (F := Ideal) (k0_pay5 (F := Ideal)) (k0_pay6 (F := Ideal) i) (k0_pay7 (F := Ideal) i) v201 (A 5 7) v235 v236 (A 6 0) (A 6 1) (A 6 2) (A 6 3) (A 6 7) x = Scalar.select ((k0_pay66 (F := Ideal) (k0_pay5 (F := Ideal)) (k0_pay6 (F := Ideal) i) (k0_pay7 (F := Ideal) i) v236 (A 6 0) (A 6 1) (A 6 2) (A 6 3)) x) (A 6 7) (Scalar.select (v235 x) (A 5 7) (v201 x)) := rfl
    simp only [hv201, hv235, p66] at e
    exact e.trans ((congrArg (Scalar.select _ _) (sel g5 (fun s => A s 7))).trans (sel g6 (fun s => A s 7)))
  have hv279 : v279 x = A w6 7 := by rw [ev279]; exact p69
  have p70 : k0_pay70 (F := Ideal) (k0_pay5 (F := Ideal)) (k0_pay6 (F := Ideal) i) (k0_pay7 (F := Ideal) i) v203 (A 5 2) v235 v236 (A 6 0) (A 6 1) (A 6 2) (A 6 3) x = A w6 2 := by
    have e : k0_pay70 (F := Ideal) (k0_pay5 (F := Ideal)) (k0_pay6 (F := Ideal) i) (k0_pay7 (F := Ideal) i) v203 (A 5 2) v235 v236 (A 6 0) (A 6 1) (A 6 2) (A 6 3) x = Scalar.select ((k0_pay66 (F := Ideal) (k0_pay5 (F := Ideal)) (k0_pay6 (F := Ideal) i) (k0_pay7 (F := Ideal) i) v236 (A 6 0) (A 6 1) (A 6 2) (A 6 3)) x) (A 6 2) (Scalar.select (v235 x) (A 5 2) (v203 x)) := rfl
    simp only [hv203, hv235, p66] at e
    exact e.trans ((congrArg (Scalar.select _ _) (sel g5 (fun s => A s 2))).trans (sel g6 (fun s => A s 2)))
  have hv281 : v281 x = A w6 2 := by rw [ev281]; exact p70
  have p71 : k0_pay71 (F := Ideal) (k0_pay5 (F := Ideal)) (k0_pay6 (F := Ideal) i) (k0_pay7 (F := Ideal) i) v205 (A 5 4) v235 v236 (A 6 0) (A 6 1) (A 6 2) (A 6 3) (A 6 4) x = A w6 4 := by
    have e : k0_pay71 (F := Ideal) (k0_pay5 (F := Ideal)) (k0_pay6 (F := Ideal) i) (k0_pay7 (F := Ideal) i) v205 (A 5 4) v235 v236 (A 6 0) (A 6 1) (A 6 2) (A 6 3) (A 6 4) x = Scalar.select ((k0_pay66 (F := Ideal) (k0_pay5 (F := Ideal)) (k0_pay6 (F := Ideal) i) (k0_pay7 (F := Ideal) i) v236 (A 6 0) (A 6 1) (A 6 2) (A 6 3)) x) (A 6 4) (Scalar.select (v235 x) (A 5 4) (v205 x)) := rfl
    simp only [hv205, hv235, p66] at e
    exact e.trans ((congrArg (Scalar.select _ _) (sel g5 (fun s => A s 4))).trans (sel g6 (fun s => A s 4)))
  have hv283 : v283 x = A w6 4 := by rw [ev283]; exact p71
  have p72 : k0_pay72 (F := Ideal) (k0_pay5 (F := Ideal)) (k0_pay6 (F := Ideal) i) (k0_pay7 (F := Ideal) i) v207 (A 5 5) v235 v236 (A 6 0) (A 6 1) (A 6 2) (A 6 3) (A 6 5) x = A w6 5 := by
    have e : k0_pay72 (F := Ideal) (k0_pay5 (F := Ideal)) (k0_pay6 (F := Ideal) i) (k0_pay7 (F := Ideal) i) v207 (A 5 5) v235 v236 (A 6 0) (A 6 1) (A 6 2) (A 6 3) (A 6 5) x = Scalar.select ((k0_pay66 (F := Ideal) (k0_pay5 (F := Ideal)) (k0_pay6 (F := Ideal) i) (k0_pay7 (F := Ideal) i) v236 (A 6 0) (A 6 1) (A 6 2) (A 6 3)) x) (A 6 5) (Scalar.select (v235 x) (A 5 5) (v207 x)) := rfl
    simp only [hv207, hv235, p66] at e
    exact e.trans ((congrArg (Scalar.select _ _) (sel g5 (fun s => A s 5))).trans (sel g6 (fun s => A s 5)))
  have hv285 : v285 x = A w6 5 := by rw [ev285]; exact p72
  have p73 : k0_pay73 (F := Ideal) (k0_pay5 (F := Ideal)) (k0_pay6 (F := Ideal) i) (k0_pay7 (F := Ideal) i) v209 (A 5 6) v235 v236 (A 6 0) (A 6 1) (A 6 2) (A 6 3) (A 6 6) x = A w6 6 := by
    have e : k0_pay73 (F := Ideal) (k0_pay5 (F := Ideal)) (k0_pay6 (F := Ideal) i) (k0_pay7 (F := Ideal) i) v209 (A 5 6) v235 v236 (A 6 0) (A 6 1) (A 6 2) (A 6 3) (A 6 6) x = Scalar.select ((k0_pay66 (F := Ideal) (k0_pay5 (F := Ideal)) (k0_pay6 (F := Ideal) i) (k0_pay7 (F := Ideal) i) v236 (A 6 0) (A 6 1) (A 6 2) (A 6 3)) x) (A 6 6) (Scalar.select (v235 x) (A 5 6) (v209 x)) := rfl
    simp only [hv209, hv235, p66] at e
    exact e.trans ((congrArg (Scalar.select _ _) (sel g5 (fun s => A s 6))).trans (sel g6 (fun s => A s 6)))
  have hv287 : v287 x = A w6 6 := by rw [ev287]; exact p73
  have p74 : k0_pay74 (F := Ideal) (k0_pay5 (F := Ideal)) (k0_pay6 (F := Ideal) i) (k0_pay7 (F := Ideal) i) (A 7 0) (A 7 1) (A 7 2) x = kQ U V I A 7 := by
    have e : k0_pay74 (F := Ideal) (k0_pay5 (F := Ideal)) (k0_pay6 (F := Ideal) i) (k0_pay7 (F := Ideal) i) (A 7 0) (A 7 1) (A 7 2) x = (((((k0_pay5 (F := Ideal)) x) * (A 7 0)) + (((k0_pay6 (F := Ideal) i) x) * (A 7 2))) + (A 7 1)) * ((k0_pay7 (F := Ideal) i) x) := rfl
    simp only [hI, hU, hV] at e
    exact e.trans (rfl)
  have p75 : k0_pay75 (F := Ideal) (k0_pay5 (F := Ideal)) (k0_pay6 (F := Ideal) i) (k0_pay7 (F := Ideal) i) (A 7 0) (A 7 1) (A 7 2) (A 7 3) x = kD U V I A 7 := by
    have e : k0_pay75 (F := Ideal) (k0_pay5 (F := Ideal)) (k0_pay6 (F := Ideal) i) (k0_pay7 (F := Ideal) i) (A 7 0) (A 7 1) (A 7 2) (A 7 3) x = (((k0_pay74 (F := Ideal) (k0_pay5 (F := Ideal)) (k0_pay6 (F := Ideal) i) (k0_pay7 (F := Ideal) i) (A 7 0) (A 7 1) (A 7 2)) x) * ((k0_pay74 (F := Ideal) (k0_pay5 (F := Ideal)) (k0_pay6 (F := Ideal) i) (k0_pay7 (F := Ideal) i) (A 7 0) (A 7 1) (A 7 2)) x)) - (A 7 3) := rfl
    simp only [p74] at e
    exact e.trans (rfl)
  have p76 : k0_pay76 (F := Ideal) (k0_pay5 (F := Ideal)) (k0_pay6 (F := Ideal) i) (k0_pay7 (F := Ideal) i) (A 7 0) (A 7 1) (A 7 2) (A 7 3) x = kR U V I A 7 := by
    have e : k0_pay76 (F := Ideal) (k0_pay5 (F := Ideal)) (k0_pay6 (F := Ideal) i) (k0_pay7 (F := Ideal) i) (A 7 0) (A 7 1) (A 7 2) (A 7 3) x = ((k0_pay74 (F := Ideal) (k0_pay5 (F := Ideal)) (k0_pay6 (F := Ideal) i) (k0_pay7 (F := Ideal) i) (A 7 0) (A 7 1) (A 7 2)) x) - (((k0_pay75 (F := Ideal) (k0_pay5 (F := Ideal)) (k0_pay6 (F := Ideal) i) (k0_pay7 (F := Ideal) i) (A 7 0) (A 7 1) (A 7 2) (A 7 3)) x) * (Ideal.rsqrt ((k0_pay75 (F := Ideal) (k0_pay5 (F := Ideal)) (k0_pay6 (F := Ideal) i) (k0_pay7 (F := Ideal) i) (A 7 0) (A 7 1) (A 7 2) (A 7 3)) x))) := rfl
    simp only [p74, p75] at e
    exact e.trans (rfl)
  have p77 : k0_pay77 (F := Ideal) (k0_pay5 (F := Ideal)) (k0_pay6 (F := Ideal) i) (k0_pay7 (F := Ideal) i) v275 (A 7 0) (A 7 1) (A 7 2) (A 7 3) x = Ideal.cmp .olt (T 7) (T w6) := by
    have e : k0_pay77 (F := Ideal) (k0_pay5 (F := Ideal)) (k0_pay6 (F := Ideal) i) (k0_pay7 (F := Ideal) i) v275 (A 7 0) (A 7 1) (A 7 2) (A 7 3) x = IntOp.andi (Ideal.cmp .oge ((k0_pay75 (F := Ideal) (k0_pay5 (F := Ideal)) (k0_pay6 (F := Ideal) i) (k0_pay7 (F := Ideal) i) (A 7 0) (A 7 1) (A 7 2) (A 7 3)) x) (Ideal.ofBits .f32 0x00000000#32)) (Ideal.cmp .olt ((k0_pay76 (F := Ideal) (k0_pay5 (F := Ideal)) (k0_pay6 (F := Ideal) i) (k0_pay7 (F := Ideal) i) (A 7 0) (A 7 1) (A 7 2) (A 7 3)) x) (v275 x)) := rfl
    simp only [hv275, p75, p76, w_zero] at e
    exact e.trans (msk 7 w6)
  have p78 : k0_pay78 (F := Ideal) (k0_pay5 (F := Ideal)) (k0_pay6 (F := Ideal) i) (k0_pay7 (F := Ideal) i) v275 (A 7 0) (A 7 1) (A 7 2) (A 7 3) x = T w7 := by
    have e : k0_pay78 (F := Ideal) (k0_pay5 (F := Ideal)) (k0_pay6 (F := Ideal) i) (k0_pay7 (F := Ideal) i) v275 (A 7 0) (A 7 1) (A 7 2) (A 7 3) x = Scalar.select ((k0_pay77 (F := Ideal) (k0_pay5 (F := Ideal)) (k0_pay6 (F := Ideal) i) (k0_pay7 (F := Ideal) i) v275 (A 7 0) (A 7 1) (A 7 2) (A 7 3)) x) ((k0_pay76 (F := Ideal) (k0_pay5 (F := Ideal)) (k0_pay6 (F := Ideal) i) (k0_pay7 (F := Ideal) i) (A 7 0) (A 7 1) (A 7 2) (A 7 3)) x) (v275 x) := rfl
    simp only [hv275, p76, p77] at e
    exact e.trans (best g7 hR)
  have hv314 : v314 x = T w7 := by rw [ev314]; exact p78
  have p79 : k0_pay79 (F := Ideal) (k0_pay5 (F := Ideal)) (k0_pay6 (F := Ideal) i) (k0_pay7 (F := Ideal) i) v275 v277 (A 7 0) (A 7 1) (A 7 2) (A 7 3) x = A w7 0 := by
    have e : k0_pay79 (F := Ideal) (k0_pay5 (F := Ideal)) (k0_pay6 (F := Ideal) i) (k0_pay7 (F := Ideal) i) v275 v277 (A 7 0) (A 7 1) (A 7 2) (A 7 3) x = Scalar.select ((k0_pay77 (F := Ideal) (k0_pay5 (F := Ideal)) (k0_pay6 (F := Ideal) i) (k0_pay7 (F := Ideal) i) v275 (A 7 0) (A 7 1) (A 7 2) (A 7 3)) x) (A 7 0) (v277 x) := rfl
    simp only [hv277, p77] at e
    exact e.trans (sel g7 (fun s => A s 0))
  have hv316 : v316 x = A w7 0 := by rw [ev316]; exact p79
  have p80 : k0_pay80 (F := Ideal) (k0_pay5 (F := Ideal)) (k0_pay6 (F := Ideal) i) (k0_pay7 (F := Ideal) i) v275 v279 (A 7 0) (A 7 1) (A 7 2) (A 7 3) (A 7 7) x = A w7 7 := by
    have e : k0_pay80 (F := Ideal) (k0_pay5 (F := Ideal)) (k0_pay6 (F := Ideal) i) (k0_pay7 (F := Ideal) i) v275 v279 (A 7 0) (A 7 1) (A 7 2) (A 7 3) (A 7 7) x = Scalar.select ((k0_pay77 (F := Ideal) (k0_pay5 (F := Ideal)) (k0_pay6 (F := Ideal) i) (k0_pay7 (F := Ideal) i) v275 (A 7 0) (A 7 1) (A 7 2) (A 7 3)) x) (A 7 7) (v279 x) := rfl
    simp only [hv279, p77] at e
    exact e.trans (sel g7 (fun s => A s 7))
  have hv318 : v318 x = A w7 7 := by rw [ev318]; exact p80
  have p81 : k0_pay81 (F := Ideal) (k0_pay5 (F := Ideal)) (k0_pay6 (F := Ideal) i) (k0_pay7 (F := Ideal) i) v275 v281 (A 7 0) (A 7 1) (A 7 2) (A 7 3) x = A w7 2 := by
    have e : k0_pay81 (F := Ideal) (k0_pay5 (F := Ideal)) (k0_pay6 (F := Ideal) i) (k0_pay7 (F := Ideal) i) v275 v281 (A 7 0) (A 7 1) (A 7 2) (A 7 3) x = Scalar.select ((k0_pay77 (F := Ideal) (k0_pay5 (F := Ideal)) (k0_pay6 (F := Ideal) i) (k0_pay7 (F := Ideal) i) v275 (A 7 0) (A 7 1) (A 7 2) (A 7 3)) x) (A 7 2) (v281 x) := rfl
    simp only [hv281, p77] at e
    exact e.trans (sel g7 (fun s => A s 2))
  have hv320 : v320 x = A w7 2 := by rw [ev320]; exact p81
  have p82 : k0_pay82 (F := Ideal) (k0_pay5 (F := Ideal)) (k0_pay6 (F := Ideal) i) (k0_pay7 (F := Ideal) i) v275 v283 (A 7 0) (A 7 1) (A 7 2) (A 7 3) (A 7 4) x = A w7 4 := by
    have e : k0_pay82 (F := Ideal) (k0_pay5 (F := Ideal)) (k0_pay6 (F := Ideal) i) (k0_pay7 (F := Ideal) i) v275 v283 (A 7 0) (A 7 1) (A 7 2) (A 7 3) (A 7 4) x = Scalar.select ((k0_pay77 (F := Ideal) (k0_pay5 (F := Ideal)) (k0_pay6 (F := Ideal) i) (k0_pay7 (F := Ideal) i) v275 (A 7 0) (A 7 1) (A 7 2) (A 7 3)) x) (A 7 4) (v283 x) := rfl
    simp only [hv283, p77] at e
    exact e.trans (sel g7 (fun s => A s 4))
  have hv322 : v322 x = A w7 4 := by rw [ev322]; exact p82
  have p83 : k0_pay83 (F := Ideal) (k0_pay5 (F := Ideal)) (k0_pay6 (F := Ideal) i) (k0_pay7 (F := Ideal) i) v275 v285 (A 7 0) (A 7 1) (A 7 2) (A 7 3) (A 7 5) x = A w7 5 := by
    have e : k0_pay83 (F := Ideal) (k0_pay5 (F := Ideal)) (k0_pay6 (F := Ideal) i) (k0_pay7 (F := Ideal) i) v275 v285 (A 7 0) (A 7 1) (A 7 2) (A 7 3) (A 7 5) x = Scalar.select ((k0_pay77 (F := Ideal) (k0_pay5 (F := Ideal)) (k0_pay6 (F := Ideal) i) (k0_pay7 (F := Ideal) i) v275 (A 7 0) (A 7 1) (A 7 2) (A 7 3)) x) (A 7 5) (v285 x) := rfl
    simp only [hv285, p77] at e
    exact e.trans (sel g7 (fun s => A s 5))
  have hv324 : v324 x = A w7 5 := by rw [ev324]; exact p83
  have p84 : k0_pay84 (F := Ideal) (k0_pay5 (F := Ideal)) (k0_pay6 (F := Ideal) i) (k0_pay7 (F := Ideal) i) v275 v287 (A 7 0) (A 7 1) (A 7 2) (A 7 3) (A 7 6) x = A w7 6 := by
    have e : k0_pay84 (F := Ideal) (k0_pay5 (F := Ideal)) (k0_pay6 (F := Ideal) i) (k0_pay7 (F := Ideal) i) v275 v287 (A 7 0) (A 7 1) (A 7 2) (A 7 3) (A 7 6) x = Scalar.select ((k0_pay77 (F := Ideal) (k0_pay5 (F := Ideal)) (k0_pay6 (F := Ideal) i) (k0_pay7 (F := Ideal) i) v275 (A 7 0) (A 7 1) (A 7 2) (A 7 3)) x) (A 7 6) (v287 x) := rfl
    simp only [hv287, p77] at e
    exact e.trans (sel g7 (fun s => A s 6))
  have hv326 : v326 x = A w7 6 := by rw [ev326]; exact p84
  have p85 : k0_pay85 (F := Ideal) (k0_pay5 (F := Ideal)) (k0_pay6 (F := Ideal) i) (k0_pay7 (F := Ideal) i) v275 (A 7 0) (A 7 1) (A 7 2) (A 7 3) x = Ideal.cmp .olt (T w7) (⊤) := by
    have e : k0_pay85 (F := Ideal) (k0_pay5 (F := Ideal)) (k0_pay6 (F := Ideal) i) (k0_pay7 (F := Ideal) i) v275 (A 7 0) (A 7 1) (A 7 2) (A 7 3) x = Ideal.cmp .olt ((k0_pay78 (F := Ideal) (k0_pay5 (F := Ideal)) (k0_pay6 (F := Ideal) i) (k0_pay7 (F := Ideal) i) v275 (A 7 0) (A 7 1) (A 7 2) (A 7 3)) x) (Ideal.ofBits .f32 0x7F800000#32) := rfl
    simp only [p78, w_inf] at e
    exact e.trans (rfl)
  have hv331 : v331 x = Ideal.cmp .olt (T w7) (⊤) := by rw [ev331]; exact p85
  have p86 : k0_pay86 (F := Ideal) (k0_pay5 (F := Ideal)) (k0_pay6 (F := Ideal) i) (k0_pay7 (F := Ideal) i) v275 (A 7 0) (A 7 1) (A 7 2) (A 7 3) x = s332 := by
    have e : k0_pay86 (F := Ideal) (k0_pay5 (F := Ideal)) (k0_pay6 (F := Ideal) i) (k0_pay7 (F := Ideal) i) v275 (A 7 0) (A 7 1) (A 7 2) (A 7 3) x = ((k0_pay78 (F := Ideal) (k0_pay5 (F := Ideal)) (k0_pay6 (F := Ideal) i) (k0_pay7 (F := Ideal) i) v275 (A 7 0) (A 7 1) (A 7 2) (A 7 3)) x) * ((k0_pay7 (F := Ideal) i) x) := rfl
    simp only [hI, p78] at e
    exact e.trans (by simp only [d332])
  have hv332 : v332 x = s332 := by rw [ev332]; exact p86
  have p87 : k0_pay87 (F := Ideal) (k0_pay5 (F := Ideal)) (k0_pay6 (F := Ideal) i) (k0_pay7 (F := Ideal) i) v275 (A 7 0) (A 7 1) (A 7 2) (A 7 3) x = s333 := by
    have e : k0_pay87 (F := Ideal) (k0_pay5 (F := Ideal)) (k0_pay6 (F := Ideal) i) (k0_pay7 (F := Ideal) i) v275 (A 7 0) (A 7 1) (A 7 2) (A 7 3) x = ((k0_pay86 (F := Ideal) (k0_pay5 (F := Ideal)) (k0_pay6 (F := Ideal) i) (k0_pay7 (F := Ideal) i) v275 (A 7 0) (A 7 1) (A 7 2) (A 7 3)) x) * ((k0_pay5 (F := Ideal)) x) := rfl
    simp only [hU, p86] at e
    exact e.trans (by simp only [d333])
  have hv333 : v333 x = s333 := by rw [ev333]; exact p87
  have p88 : k0_pay88 (F := Ideal) x = ((5 : ℝ) : EReal) := by
    have e : k0_pay88 (F := Ideal) x = Ideal.ofBits .f32 0x40A00000#32 := rfl
    simp only [w_five] at e
    exact e.trans (rfl)
  have hv334 : v334 x = ((5 : ℝ) : EReal) := by rw [ev334]; exact p88
  have p89 : k0_pay89 (F := Ideal) v332 v334 x = s335 := by
    have e : k0_pay89 (F := Ideal) v332 v334 x = (v332 x) * (v334 x) := rfl
    simp only [hv332, hv334] at e
    exact e.trans (by simp only [d335])
  have p90 : k0_pay90 (F := Ideal) (k0_pay6 (F := Ideal) i) v332 x = s336 := by
    have e : k0_pay90 (F := Ideal) (k0_pay6 (F := Ideal) i) v332 x = (v332 x) * ((k0_pay6 (F := Ideal) i) x) := rfl
    simp only [hV, hv332] at e
    exact e.trans (by simp only [d336])
  have p91 : k0_pay91 (F := Ideal) v316 v333 x = s337 := by
    have e : k0_pay91 (F := Ideal) v316 v333 x = (v333 x) - (v316 x) := rfl
    simp only [hv316, hv333] at e
    exact e.trans (by simp only [d337])
  have p92 : k0_pay92 (F := Ideal) v318 v332 v334 x = s338 := by
    have e : k0_pay92 (F := Ideal) v318 v332 v334 x = ((k0_pay89 (F := Ideal) v332 v334) x) - (v318 x) := rfl
    simp only [hv318, p89] at e
    exact e.trans (by simp only [d338])
  have p93 : k0_pay93 (F := Ideal) (k0_pay6 (F := Ideal) i) v320 v332 x = s339 := by
    have e : k0_pay93 (F := Ideal) (k0_pay6 (F := Ideal) i) v320 v332 x = ((k0_pay90 (F := Ideal) (k0_pay6 (F := Ideal) i) v332) x) - (v320 x) := rfl
    simp only [hv320, p90] at e
    exact e.trans (by simp only [d339])
  have p94 : k0_pay94 (F := Ideal) (k0_pay6 (F := Ideal) i) v316 v318 v320 v332 v333 v334 x = s345 := by
    have e : k0_pay94 (F := Ideal) (k0_pay6 (F := Ideal) i) v316 v318 v320 v332 v333 v334 x = Ideal.rsqrt (((((k0_pay91 (F := Ideal) v316 v333) x) * ((k0_pay91 (F := Ideal) v316 v333) x)) + (((k0_pay92 (F := Ideal) v318 v332 v334) x) * ((k0_pay92 (F := Ideal) v318 v332 v334) x))) + (((k0_pay93 (F := Ideal) (k0_pay6 (F := Ideal) i) v320 v332) x) * ((k0_pay93 (F := Ideal) (k0_pay6 (F := Ideal) i) v320 v332) x))) := rfl
    simp only [p91, p92, p93] at e
    exact e.trans (by simp only [d340, d341, d342, d343, d344, d345])
  have p95 : k0_pay95 (F := Ideal) (k0_pay6 (F := Ideal) i) v316 v318 v320 v332 v333 v334 x = s346 := by
    have e : k0_pay95 (F := Ideal) (k0_pay6 (F := Ideal) i) v316 v318 v320 v332 v333 v334 x = ((k0_pay91 (F := Ideal) v316 v333) x) * ((k0_pay94 (F := Ideal) (k0_pay6 (F := Ideal) i) v316 v318 v320 v332 v333 v334) x) := rfl
    simp only [p91, p94] at e
    exact e.trans (by simp only [d346])
  have hv346 : v346 x = s346 := by rw [ev346]; exact p95
  have p96 : k0_pay96 (F := Ideal) (k0_pay6 (F := Ideal) i) v316 v318 v320 v332 v333 v334 x = s347 := by
    have e : k0_pay96 (F := Ideal) (k0_pay6 (F := Ideal) i) v316 v318 v320 v332 v333 v334 x = ((k0_pay92 (F := Ideal) v318 v332 v334) x) * ((k0_pay94 (F := Ideal) (k0_pay6 (F := Ideal) i) v316 v318 v320 v332 v333 v334) x) := rfl
    simp only [p92, p94] at e
    exact e.trans (by simp only [d347])
  have hv347 : v347 x = s347 := by rw [ev347]; exact p96
  have p97 : k0_pay97 (F := Ideal) (k0_pay6 (F := Ideal) i) v316 v318 v320 v332 v333 v334 x = s348 := by
    have e : k0_pay97 (F := Ideal) (k0_pay6 (F := Ideal) i) v316 v318 v320 v332 v333 v334 x = ((k0_pay93 (F := Ideal) (k0_pay6 (F := Ideal) i) v320 v332) x) * ((k0_pay94 (F := Ideal) (k0_pay6 (F := Ideal) i) v316 v318 v320 v332 v333 v334) x) := rfl
    simp only [p93, p94] at e
    exact e.trans (by simp only [d348])
  have hv348 : v348 x = s348 := by rw [ev348]; exact p97
  have p98 : k0_pay98 (F := Ideal) (L 0) v333 x = s350 := by
    have e : k0_pay98 (F := Ideal) (L 0) v333 x = (L 0) - (v333 x) := rfl
    simp only [hv333] at e
    exact e.trans (by simp only [d350])
  have p99 : k0_pay99 (F := Ideal) (L 1) v332 v334 x = s352 := by
    have e : k0_pay99 (F := Ideal) (L 1) v332 v334 x = (L 1) - ((k0_pay89 (F := Ideal) v332 v334) x) := rfl
    simp only [p89] at e
    exact e.trans (by simp only [d352])
  have p100 : k0_pay100 (F := Ideal) (k0_pay6 (F := Ideal) i) (L 2) v332 x = s354 := by
    have e : k0_pay100 (F := Ideal) (k0_pay6 (F := Ideal) i) (L 2) v332 x = (L 2) - ((k0_pay90 (F := Ideal) (k0_pay6 (F := Ideal) i) v332) x) := rfl
    simp only [p90] at e
    exact e.trans (by simp only [d354])
  have p101 : k0_pay101 (F := Ideal) (k0_pay6 (F := Ideal) i) (L 0) (L 1) (L 2) v332 v333 v334 x = s360 := by
    have e : k0_pay101 (F := Ideal) (k0_pay6 (F := Ideal) i) (L 0) (L 1) (L 2) v332 v333 v334 x = Ideal.rsqrt (((((k0_pay98 (F := Ideal) (L 0) v333) x) * ((k0_pay98 (F := Ideal) (L 0) v333) x)) + (((k0_pay99 (F := Ideal) (L 1) v332 v334) x) * ((k0_pay99 (F := Ideal) (L 1) v332 v334) x))) + (((k0_pay100 (F := Ideal) (k0_pay6 (F := Ideal) i) (L 2) v332) x) * ((k0_pay100 (F := Ideal) (k0_pay6 (F := Ideal) i) (L 2) v332) x))) := rfl
    simp only [p100, p98, p99] at e
    exact e.trans (by simp only [d355, d356, d357, d358, d359, d360])
  have p102 : k0_pay102 (F := Ideal) (k0_pay6 (F := Ideal) i) (L 0) (L 1) (L 2) v332 v333 v334 x = s361 := by
    have e : k0_pay102 (F := Ideal) (k0_pay6 (F := Ideal) i) (L 0) (L 1) (L 2) v332 v333 v334 x = ((k0_pay98 (F := Ideal) (L 0) v333) x) * ((k0_pay101 (F := Ideal) (k0_pay6 (F := Ideal) i) (L 0) (L 1) (L 2) v332 v333 v334) x) := rfl
    simp only [p101, p98] at e
    exact e.trans (by simp only [d361])
  have hv361 : v361 x = s361 := by rw [ev361]; exact p102
  have p103 : k0_pay103 (F := Ideal) (k0_pay6 (F := Ideal) i) (L 0) (L 1) (L 2) v332 v333 v334 x = s362 := by
    have e : k0_pay103 (F := Ideal) (k0_pay6 (F := Ideal) i) (L 0) (L 1) (L 2) v332 v333 v334 x = ((k0_pay99 (F := Ideal) (L 1) v332 v334) x) * ((k0_pay101 (F := Ideal) (k0_pay6 (F := Ideal) i) (L 0) (L 1) (L 2) v332 v333 v334) x) := rfl
    simp only [p101, p99] at e
    exact e.trans (by simp only [d362])
  have hv362 : v362 x = s362 := by rw [ev362]; exact p103
  have p104 : k0_pay104 (F := Ideal) (k0_pay6 (F := Ideal) i) (L 0) (L 1) (L 2) v332 v333 v334 x = s363 := by
    have e : k0_pay104 (F := Ideal) (k0_pay6 (F := Ideal) i) (L 0) (L 1) (L 2) v332 v333 v334 x = ((k0_pay100 (F := Ideal) (k0_pay6 (F := Ideal) i) (L 2) v332) x) * ((k0_pay101 (F := Ideal) (k0_pay6 (F := Ideal) i) (L 0) (L 1) (L 2) v332 v333 v334) x) := rfl
    simp only [p100, p101] at e
    exact e.trans (by simp only [d363])
  have hv363 : v363 x = s363 := by rw [ev363]; exact p104
  have p105 : k0_pay105 (F := Ideal) (k0_pay7 (F := Ideal) i) v314 x = s375 := by
    have e : k0_pay105 (F := Ideal) (k0_pay7 (F := Ideal) i) v314 x = (Ideal.ofBits .f32 0x00000000#32) - (Scalar.select (Ideal.cmp .olt (v314 x) (Ideal.ofBits .f32 0x00000000#32)) ((Ideal.ofBits .f32 0x00000000#32) - (max ((k0_pay7 (F := Ideal) i) x) (-((k0_pay7 (F := Ideal) i) x)))) (max ((k0_pay7 (F := Ideal) i) x) (-((k0_pay7 (F := Ideal) i) x)))) := rfl
    simp only [hI, hv314, w_zero] at e
    exact e.trans (by simp only [d373, d375])
  have p106 : k0_pay106 (F := Ideal) (k0_pay5 (F := Ideal)) (k0_pay7 (F := Ideal) i) v314 x = s376 := by
    have e : k0_pay106 (F := Ideal) (k0_pay5 (F := Ideal)) (k0_pay7 (F := Ideal) i) v314 x = ((k0_pay105 (F := Ideal) (k0_pay7 (F := Ideal) i) v314) x) * ((k0_pay5 (F := Ideal)) x) := rfl
    simp only [hU, p105] at e
    exact e.trans (by simp only [d376])
  have hv376 : v376 x = s376 := by rw [ev376]; exact p106
  have p107 : k0_pay107 (F := Ideal) (k0_pay7 (F := Ideal) i) v314 x = s378 := by
    have e : k0_pay107 (F := Ideal) (k0_pay7 (F := Ideal) i) v314 x = ((k0_pay105 (F := Ideal) (k0_pay7 (F := Ideal) i) v314) x) * (Ideal.ofBits .f32 0x40A00000#32) := rfl
    simp only [p105, w_five] at e
    exact e.trans (by simp only [d378])
  have hv378 : v378 x = s378 := by rw [ev378]; exact p107
  have p108 : k0_pay108 (F := Ideal) (k0_pay6 (F := Ideal) i) (k0_pay7 (F := Ideal) i) v314 x = s379 := by
    have e : k0_pay108 (F := Ideal) (k0_pay6 (F := Ideal) i) (k0_pay7 (F := Ideal) i) v314 x = ((k0_pay105 (F := Ideal) (k0_pay7 (F := Ideal) i) v314) x) * ((k0_pay6 (F := Ideal) i) x) := rfl
    simp only [hV, p105] at e
    exact e.trans (by simp only [d379])
  have hv379 : v379 x = s379 := by rw [ev379]; exact p108
  have p109 : k0_pay109 (F := Ideal) (k0_pay6 (F := Ideal) i) v316 v318 v320 (L 0) (L 1) (L 2) v332 v333 v334 x = s384 := by
    have e : k0_pay109 (F := Ideal) (k0_pay6 (F := Ideal) i) v316 v318 v320 (L 0) (L 1) (L 2) v332 v333 v334 x = ((((k0_pay95 (F := Ideal) (k0_pay6 (F := Ideal) i) v316 v318 v320 v332 v333 v334) x) * ((k0_pay102 (F := Ideal) (k0_pay6 (F := Ideal) i) (L 0) (L 1) (L 2) v332 v333 v334) x)) + (((k0_pay96 (F := Ideal) (k0_pay6 (F := Ideal) i) v316 v318 v320 v332 v333 v334) x) * ((k0_pay103 (F := Ideal) (k0_pay6 (F := Ideal) i) (L 0) (L 1) (L 2) v332 v333 v334) x))) + (((k0_pay97 (F := Ideal) (k0_pay6 (F := Ideal) i) v316 v318 v320 v332 v333 v334) x) * ((k0_pay104 (F := Ideal) (k0_pay6 (F := Ideal) i) (L 0) (L 1) (L 2) v332 v333 v334) x)) := rfl
    simp only [p102, p103, p104, p95, p96, p97] at e
    exact e.trans (by simp only [d380, d381, d382, d383, d384])
  have p110 : k0_pay110 (F := Ideal) (k0_pay6 (F := Ideal) i) v316 v318 v320 (L 0) (L 1) (L 2) v332 v333 v334 x = s388 := by
    have e : k0_pay110 (F := Ideal) (k0_pay6 (F := Ideal) i) v316 v318 v320 (L 0) (L 1) (L 2) v332 v333 v334 x = (Ideal.ofBits .f32 0x3F000000#32) * (max ((k0_pay109 (F := Ideal) (k0_pay6 (F := Ideal) i) v316 v318 v320 (L 0) (L 1) (L 2) v332 v333 v334) x) (Ideal.ofBits .f32 0x00000000#32)) := rfl
    simp only [p109, w_half, w_zero] at e
    exact e.trans (by simp only [d386, d388])
  have hv388 : v388 x = s388 := by rw [ev388]; exact p110
  have p111 : k0_pay111 (F := Ideal) (k0_pay6 (F := Ideal) i) v316 v318 v320 (L 0) (L 1) (L 2) v332 v333 v334 x = s389 := by
    have e : k0_pay111 (F := Ideal) (k0_pay6 (F := Ideal) i) v316 v318 v320 (L 0) (L 1) (L 2) v332 v333 v334 x = ((k0_pay109 (F := Ideal) (k0_pay6 (F := Ideal) i) v316 v318 v320 (L 0) (L 1) (L 2) v332 v333 v334) x) + ((k0_pay109 (F := Ideal) (k0_pay6 (F := Ideal) i) v316 v318 v320 (L 0) (L 1) (L 2) v332 v333 v334) x) := rfl
    simp only [p109] at e
    exact e.trans (by simp only [d389])
  have hv389 : v389 x = s389 := by rw [ev389]; exact p111
  have p112 : k0_pay112 (F := Ideal) v346 v347 v348 v361 v362 v363 v376 v378 v379 v388 v389 x = s411 := by
    have e : k0_pay112 (F := Ideal) v346 v347 v348 v361 v362 v363 v376 v378 v379 v388 v389 x = ((Ideal.ofBits .f32 0x3ECCCCCD#32) + (v388 x)) + ((Ideal.ofBits .f32 0x3F4CCCCD#32) * (pow16 (max ((((((v346 x) * (v389 x)) - (v361 x)) * (v376 x)) + ((((v347 x) * (v389 x)) - (v362 x)) * (v378 x))) + ((((v348 x) * (v389 x)) - (v363 x)) * (v379 x))) (Ideal.ofBits .f32 0x00000000#32)))) := rfl
    simp only [hv346, hv347, hv348, hv361, hv362, hv363, hv376, hv378, hv379, hv388, hv389, w_amb, w_spc, w_zero] at e
    exact e.trans (by simp only [pow16, d390, d391, d392, d393, d394, d395, d396, d397, d398, d399, d400, d402, d403, d404, d405, d406, d408, d410, d411])
  have p113 : k0_pay113 (F := Ideal) (k0_pay4 (F := Ideal) i) x = (Y * ((2 / 1023 : ℝ) : EReal)) - ((1 : ℝ) : EReal) := by
    have e : k0_pay113 (F := Ideal) (k0_pay4 (F := Ideal) i) x = (((k0_pay4 (F := Ideal) i) x) * (Named.named (F := Ideal) κ "pitch" 0x3B002008#32)) - (Ideal.ofBits .f32 0x3F800000#32) := rfl
    simp only [hY, w_one, w_pitch] at e
    exact e.trans (rfl)
  have p114 : k0_pay114 (F := Ideal) (k0_pay4 (F := Ideal) i) x = ((1 : ℝ) : EReal) - ((Y * ((2 / 1023 : ℝ) : EReal)) - ((1 : ℝ) : EReal)) := by
    have e : k0_pay114 (F := Ideal) (k0_pay4 (F := Ideal) i) x = (Ideal.ofBits .f32 0x3F800000#32) - ((k0_pay113 (F := Ideal) (k0_pay4 (F := Ideal) i)) x) := rfl
    simp only [p113, w_one] at e
    exact e.trans (rfl)
  have p115 : k0_pay115 (F := Ideal) (k0_pay4 (F := Ideal) i) x = ((((1 : ℝ) : EReal) - ((Y * ((2 / 1023 : ℝ) : EReal)) - ((1 : ℝ) : EReal))) * ((1 / 2 : ℝ) : EReal)) + ((Y * ((2 / 1023 : ℝ) : EReal)) - ((1 : ℝ) : EReal)) := by
    have e : k0_pay115 (F := Ideal) (k0_pay4 (F := Ideal) i) x = (((k0_pay114 (F := Ideal) (k0_pay4 (F := Ideal) i)) x) * (Ideal.ofBits .f32 0x3F000000#32)) + ((k0_pay113 (F := Ideal) (k0_pay4 (F := Ideal) i)) x) := rfl
    simp only [p113, p114, w_half] at e
    exact e.trans (rfl)
  have hv420 : v420 x = ((((1 : ℝ) : EReal) - ((Y * ((2 / 1023 : ℝ) : EReal)) - ((1 : ℝ) : EReal))) * ((1 / 2 : ℝ) : EReal)) + ((Y * ((2 / 1023 : ℝ) : EReal)) - ((1 : ℝ) : EReal)) := by rw [ev420]; exact p115
  have p116 : k0_pay116 (F := Ideal) (k0_pay4 (F := Ideal) i) x = ((((1 : ℝ) : EReal) - ((Y * ((2 / 1023 : ℝ) : EReal)) - ((1 : ℝ) : EReal))) * ((sky : ℝ) : EReal)) + ((Y * ((2 / 1023 : ℝ) : EReal)) - ((1 : ℝ) : EReal)) := by
    have e : k0_pay116 (F := Ideal) (k0_pay4 (F := Ideal) i) x = (((k0_pay114 (F := Ideal) (k0_pay4 (F := Ideal) i)) x) * (Ideal.ofBits .f32 0x3F333333#32)) + ((k0_pay113 (F := Ideal) (k0_pay4 (F := Ideal) i)) x) := rfl
    simp only [p113, p114, w_sky] at e
    exact e.trans (rfl)
  have hv423 : v423 x = ((((1 : ℝ) : EReal) - ((Y * ((2 / 1023 : ℝ) : EReal)) - ((1 : ℝ) : EReal))) * ((sky : ℝ) : EReal)) + ((Y * ((2 / 1023 : ℝ) : EReal)) - ((1 : ℝ) : EReal)) := by rw [ev423]; exact p116
  have p117 : k0_pay117 (F := Ideal) (k0_pay4 (F := Ideal) i) x = (((1 : ℝ) : EReal) - ((Y * ((2 / 1023 : ℝ) : EReal)) - ((1 : ℝ) : EReal))) + ((Y * ((2 / 1023 : ℝ) : EReal)) - ((1 : ℝ) : EReal)) := by
    have e : k0_pay117 (F := Ideal) (k0_pay4 (F := Ideal) i) x = ((k0_pay114 (F := Ideal) (k0_pay4 (F := Ideal) i)) x) + ((k0_pay113 (F := Ideal) (k0_pay4 (F := Ideal) i)) x) := rfl
    simp only [p113, p114] at e
    exact e.trans (rfl)
  have hv424 : v424 x = (((1 : ℝ) : EReal) - ((Y * ((2 / 1023 : ℝ) : EReal)) - ((1 : ℝ) : EReal))) + ((Y * ((2 / 1023 : ℝ) : EReal)) - ((1 : ℝ) : EReal)) := by rw [ev424]; exact p117
  have p118 : k0_pay118 (F := Ideal) v322 v346 v347 v348 v361 v362 v363 v376 v378 v379 v388 v389 x = min ((1 : ℝ) : EReal) (max ((0 : ℝ) : EReal) s425) := by
    have e : k0_pay118 (F := Ideal) v322 v346 v347 v348 v361 v362 v363 v376 v378 v379 v388 v389 x = min (Ideal.ofBits .f32 0x3F800000#32) (max (Ideal.ofBits .f32 0x00000000#32) (((k0_pay112 (F := Ideal) v346 v347 v348 v361 v362 v363 v376 v378 v379 v388 v389) x) * (v322 x))) := rfl
    simp only [hv322, p112, w_one, w_zero] at e
    exact e.trans (by simp only [d425])
  have hv429 : v429 x = min ((1 : ℝ) : EReal) (max ((0 : ℝ) : EReal) s425) := by rw [ev429]; exact p118
  have p119 : k0_pay119 (F := Ideal) v324 v346 v347 v348 v361 v362 v363 v376 v378 v379 v388 v389 x = min ((1 : ℝ) : EReal) (max ((0 : ℝ) : EReal) s430) := by
    have e : k0_pay119 (F := Ideal) v324 v346 v347 v348 v361 v362 v363 v376 v378 v379 v388 v389 x = min (Ideal.ofBits .f32 0x3F800000#32) (max (Ideal.ofBits .f32 0x00000000#32) (((k0_pay112 (F := Ideal) v346 v347 v348 v361 v362 v363 v376 v378 v379 v388 v389) x) * (v324 x))) := rfl
    simp only [hv324, p112, w_one, w_zero] at e
    exact e.trans (by simp only [d430])
  have hv434 : v434 x = min ((1 : ℝ) : EReal) (max ((0 : ℝ) : EReal) s430) := by rw [ev434]; exact p119
  have p120 : k0_pay120 (F := Ideal) v326 v346 v347 v348 v361 v362 v363 v376 v378 v379 v388 v389 x = s435 := by
    have e : k0_pay120 (F := Ideal) v326 v346 v347 v348 v361 v362 v363 v376 v378 v379 v388 v389 x = ((k0_pay112 (F := Ideal) v346 v347 v348 v361 v362 v363 v376 v378 v379 v388 v389) x) * (v326 x) := rfl
    simp only [hv326, p112] at e
    exact e.trans (by simp only [d435])
  have hv435 : v435 x = s435 := by rw [ev435]; exact p120
  have p1 : k0_pay1 (F := Ideal) v331 v420 v429 y = Scalar.select (Ideal.cmp .olt (T w7) (⊤)) (min ((1 : ℝ) : EReal) (max ((0 : ℝ) : EReal) s425)) (((((1 : ℝ) : EReal) - ((Y * ((2 / 1023 : ℝ) : EReal)) - ((1 : ℝ) : EReal))) * ((1 / 2 : ℝ) : EReal)) + ((Y * ((2 / 1023 : ℝ) : EReal)) - ((1 : ℝ) : EReal))) := by
    have e : k0_pay1 (F := Ideal) v331 v420 v429 y = Scalar.select (v331 x) (v429 x) (v420 x) := hy (fun x => Scalar.select (v331 x) (v429 x) (v420 x))
    simp only [hv331, hv420, hv429] at e
    exact e
  have p2 : k0_pay2 (F := Ideal) v331 v423 v434 y = Scalar.select (Ideal.cmp .olt (T w7) (⊤)) (min ((1 : ℝ) : EReal) (max ((0 : ℝ) : EReal) s430)) (((((1 : ℝ) : EReal) - ((Y * ((2 / 1023 : ℝ) : EReal)) - ((1 : ℝ) : EReal))) * ((sky : ℝ) : EReal)) + ((Y * ((2 / 1023 : ℝ) : EReal)) - ((1 : ℝ) : EReal))) := by
    have e : k0_pay2 (F := Ideal) v331 v423 v434 y = Scalar.select (v331 x) (v434 x) (v423 x) := hy (fun x => Scalar.select (v331 x) (v434 x) (v423 x))
    simp only [hv331, hv423, hv434] at e
    exact e
  have p3 : k0_pay3 (F := Ideal) v331 v424 v435 (Ideal.ofBits .f32 0x00000000#32) (Ideal.ofBits .f32 0x3F800000#32) y = Scalar.select (Ideal.cmp .olt (T w7) (⊤)) (min ((1 : ℝ) : EReal) (max ((0 : ℝ) : EReal) s435)) ((((1 : ℝ) : EReal) - ((Y * ((2 / 1023 : ℝ) : EReal)) - ((1 : ℝ) : EReal))) + ((Y * ((2 / 1023 : ℝ) : EReal)) - ((1 : ℝ) : EReal))) := by
    have e : k0_pay3 (F := Ideal) v331 v424 v435 (Ideal.ofBits .f32 0x00000000#32) (Ideal.ofBits .f32 0x3F800000#32) y = Scalar.select (v331 x) (min (Ideal.ofBits .f32 0x3F800000#32) (max (Ideal.ofBits .f32 0x00000000#32) (v435 x))) (v424 x) := hy (fun x => Scalar.select (v331 x) (min (Ideal.ofBits .f32 0x3F800000#32) (max (Ideal.ofBits .f32 0x00000000#32) (v435 x))) (v424 x))
    simp only [hv331, hv424, hv435, w_one, w_zero] at e
    simp only [w_zero, w_one]; exact e
  rw [d425, hs, hw] at p1
  rw [d430, hs, hw] at p2
  rw [d435, hs, hw] at p3
  exact ⟨p1, p2, p3⟩

end Cert.GuardedIdeal.Gen

end
-- ==== Proof.LoadsG.lean ====
/- What a grid step of the guarded kernel loads, and the coordinates of its block. -/
module

public import proofs.«01_k».proof.Proof.Gen.GuardedIdeal.Frame
public import proofs.«01_k».proof.Proof.BodyG
public import proofs.«01_k».proof.Proof.Coords
public import Idealize.ShloMosaic.Lib.Claim
public import Idealize.ShloMosaic.Lib.Pointwise
public import Idealize.ShloMosaic.Lib.Pipeline.ValueKit

@[expose] public section
noncomputable section
namespace Cert.GuardedIdeal.Gen
open Idealize.ShloMosaic Idealize.ShloMosaic.TcCoe Idealize.ShloMosaic.Tactic Idealize.SL.Sem RayTrace

/-- Each step of the grid sees the whole array of parameters. -/
theorem idx0 : ∀ t : Fin cfg0.N, win0_0.index t = ![0] := (by decide +kernel : ∀ t : Fin grid0.N, _)
/-- Each step of the grid writes its own block of the result's rows. -/
theorem idx1 : ∀ t : Fin cfg0.N, win0_1.index t = ![0, t.val, 0] := (by decide +kernel : ∀ t : Fin grid0.N, _)
/-- The grid's coordinate is the step's number. -/
theorem crd : ∀ t : Fin cfg0.N, (grid0.coords t 0).val = t.val := (by decide +kernel : ∀ t : Fin grid0.N, _)

/-- The row of the picture. -/
theorem row_at (i : grid0.Coords) (x : S128x1024.Idx) :
    k0_pay4 (F := Ideal) i x = ((((i 0).val * 128 + (x 0).val : ℕ) : ℝ) : EReal) := by
  have e : k0_pay4 (F := Ideal) i x = (((iota .tc S128x1024 32 [0] iota_S128x1024_d0_w32 x).toInt : ℝ) : EReal)
      + (((Scalar.muli (BitVec.ofNat 32 (i 0).val) 128#32).toInt : ℝ) : EReal) := rfl
  have h0 : (i 0).val < 8 := (i 0).isLt
  have h1 : (x 0).val < 128 := (x 0).isLt
  have e2 : Scalar.muli (BitVec.ofNat 32 (i 0).val) 128#32 = BitVec.ofNat 32 ((i 0).val * 128) := by
    apply BitVec.eq_of_toNat_eq
    show (BitVec.ofNat 32 (i 0).val * 128#32).toNat = _
    simp [BitVec.toNat_mul]
  rw [e, iota_single_apply, e2, word_real (by omega), word_real (by omega), ← EReal.coe_add]
  congr 1
  push_cast
  ring

/-- The horizontal coordinate of an element of a block. -/
theorem U_at (x : S128x1024.Idx) : k0_pay5 (F := Ideal) x = ((ux (x 1).val : ℝ) : EReal) := by
  have e : k0_pay5 (F := Ideal) x = (((iota .tc S128x1024 32 [1] iota_S128x1024_d1_w32 x).toInt : ℝ) : EReal)
      * Named.named (F := Ideal) (φ := .f32) κ "pitch" 0x3B002008#32 - Ideal.ofBits .f32 0x3F800000#32 := rfl
  have h1 : (x 1).val < 1024 := (x 1).isLt
  rw [e, iota_single_apply, word_real (by omega), w_one]
  exact ux_coe _ _ _ rfl w_pitch

/-- The vertical coordinate of an element of a block. -/
theorem V_at (i : grid0.Coords) (x : S128x1024.Idx) :
    k0_pay6 (F := Ideal) i x = ((vy ((i 0).val * 128 + (x 0).val) : ℝ) : EReal) := by
  have e : k0_pay6 (F := Ideal) i x = Ideal.ofBits .f32 0x3F800000#32
      - k0_pay4 (F := Ideal) i x * Named.named (F := Ideal) (φ := .f32) κ "pitch" 0x3B002008#32 := rfl
  rw [e, w_one]
  exact vy_coe _ _ _ (row_at i x) w_pitch

/-- The reciprocal of the length of the line of sight at an element of a block. -/
theorem I_at (i : grid0.Coords) (x : S128x1024.Idx) :
    k0_pay7 (F := Ideal) i x = ((inv (ux (x 1).val) (vy ((i 0).val * 128 + (x 0).val)) : ℝ) : EReal) := by
  have e : k0_pay7 (F := Ideal) i x = Ideal.rsqrt (k0_pay5 (F := Ideal) x * k0_pay5 (F := Ideal) x
      + k0_pay6 (F := Ideal) i x * k0_pay6 (F := Ideal) i x + Ideal.ofBits .f32 0x41C80000#32) := rfl
  rw [e, U_at, V_at, w_25, inv_coe]

variable (m : (ℓ : Loc nD τ sig) → Buf (Elt Ideal) ℓ)

/-- A parameter as a step loads it is that element of the array the host made. -/
theorem par_read (c : Dev nD) (t : Fin cfg0.N) (k : Fin 67) (inb) (h) :
    View.ld (iblk m c 0 t) (Rect.unit (s := S67) ![k.val] ![1] inb) (Shape.Idx.first h) = V m c main_v14 (ix1 k) := by
  show V m c main_v14 _ = V m c main_v14 _
  congr 1
  funext a
  apply Fin.ext
  fin_cases a
  show ((cfg0.win 0).blk t).view.emb _ 0 = k.val
  blk_simp [idx0]
  rfl

/-- A plane stored under a leading axis of extent one is read at the plane's own index. -/
theorem cast_at (x : S1x128x1024.Idx) (a : FVec Ideal S128x1024 .f32) :
    shapeCast S1x128x1024 a shapeCasts_S128x1024_S1x128x1024 x = a (ix2 (x 1) (x 2)) := by
  rw [show x = ix3 (x 0) (x 1) (x 2) from by funext a; fin_cases a <;> rfl]
  pointwise

/-- A sphere's parameters lie in the array. -/
theorem inA (s k : Fin 8) (a : Fin 1) : (![8 * s.val + k.val] : Fin 1 → ℕ) a + (![1] : Fin 1 → ℕ) a ≤ S67.size a := by
  fin_cases a
  show 8 * s.val + k.val + 1 ≤ 67
  omega
/-- The light's position lies in the array. -/
theorem inL (k : Fin 3) (a : Fin 1) : (![64 + k.val] : Fin 1 → ℕ) a + (![1] : Fin 1 → ℕ) a ≤ S67.size a := by
  fin_cases a
  show 64 + k.val + 1 ≤ 67
  omega
/-- A sphere's parameter's place is below 67. -/
theorem ltA (s k : Fin 8) : 8 * s.val + k.val < 67 := by omega
/-- The light's place is below 67. -/
theorem ltL (k : Fin 3) : 64 + k.val < 67 := by omega
/-- One element is an element. -/
theorem one_pt : 0 < (⟨1, ![1]⟩ : Shape).numel := by decide

/-- The parameters as a point loads them. -/
def ldA (c : Dev nD) (t : Fin cfg0.N) (s k : Fin 8) : EReal :=
  View.ld (iblk m c 0 t) (Rect.unit (s := S67) ![8 * s.val + k.val] ![1] (inA s k))
    (Shape.Idx.first one_pt)
/-- The light as a point loads it. -/
def ldL (c : Dev nD) (t : Fin cfg0.N) (k : Fin 3) : EReal :=
  View.ld (iblk m c 0 t) (Rect.unit (s := S67) ![64 + k.val] ![1] (inL k))
    (Shape.Idx.first one_pt)

section
variable (c : Dev nD) {cs : Fin 8 → Fin 3 → EReal} {r : Fin 8 → ℝ} {L : Fin 3 → EReal} {col : Fin 8 → Fin 3 → EReal}
  {lc : Fin 3 → EReal} (ok : ∀ s, Near (cs s) → Ok (pos (cs s)) (r s) L)
  (hP : ∀ s k : Fin 8, V m c main_v14 (ix1 ⟨8 * s.val + k.val, ltA s k⟩) = par cs r col lc s k)
  (hL : ∀ k : Fin 3, V m c main_v14 (ix1 ⟨64 + k.val, ltL k⟩) = L k)

include hP in
/-- The spheres' parameters as a step loads them are those of the scene. -/
theorem ldA_par (t : Fin cfg0.N) : ldA m c t = par cs r col lc := by
  funext s k
  rw [← hP]
  exact par_read m c t ⟨8 * s.val + k.val, ltA s k⟩ _ _

include hL in
/-- The light's position as a step loads it is that of the scene. -/
theorem ldL_par (t : Fin cfg0.N) (k : Fin 3) : ldL m c t k = L k := by
  rw [← hL]
  exact par_read m c t ⟨64 + k.val, ltL k⟩ _ _

end

end Cert.GuardedIdeal.Gen

end
-- ==== Proof.ValueG.lean ====
/- What the guarded kernel leaves in its result: every block, from the parameters the host made. -/
module

public import proofs.«01_k».proof.Proof.Gen.GuardedIdeal.Frame
public import proofs.«01_k».proof.Proof.BodyG
public import proofs.«01_k».proof.Proof.LoadsG
public import proofs.«01_k».proof.Proof.Coords
public import Idealize.ShloMosaic.Lib.Claim
public import Idealize.ShloMosaic.Lib.Pointwise
public import Idealize.ShloMosaic.Lib.Pipeline.ValueKit

@[expose] public section
noncomputable section
namespace Cert.GuardedIdeal.Gen
open Idealize.ShloMosaic Idealize.ShloMosaic.TcCoe Idealize.ShloMosaic.Tactic Idealize.SL.Sem RayTrace
variable (m : (ℓ : Loc nD τ sig) → Buf (Elt Ideal) ℓ)
section
variable (c : Dev nD) {cs : Fin 8 → Fin 3 → EReal} {r : Fin 8 → ℝ} {L : Fin 3 → EReal} {col : Fin 8 → Fin 3 → EReal}
  {lc : Fin 3 → EReal} (ok : ∀ s, Near (cs s) → Ok (pos (cs s)) (r s) L)
  (hP : ∀ s k : Fin 8, V m c main_v14 (ix1 ⟨8 * s.val + k.val, ltA s k⟩) = par cs r col lc s k)
  (hL : ∀ k : Fin 3, V m c main_v14 (ix1 ⟨64 + k.val, ltL k⟩) = L k)

include ok hP hL in
set_option maxHeartbeats 4000000 in
/-- A point's block, element by element. -/
theorem block_at (t : Fin cfg0.N) (y : S3x128x1024.Idx) :
    outsAt0 m c t y = shot cs r L col lc (t.val * 128 + (y 1).val) (y 2).val (y 0) := by
  unfold outsAt0
  frame_out
  refine planes _ _ _ _ _ _ y (fun k => shot cs r L col lc (t.val * 128 + (y 1).val) (y 2).val k) ?_
  have fin := final_par (ux (y 2).val) (vy (t.val * 128 + (y 1).val)) cs r col lc L (ux (t.val * 128 + (y 1).val)) ok
  have hA := ldA_par m c hP t
  have hL0 := ldL_par m c hL t
  have f0 := fin 0 4 _ (fun w => rfl) (background0 _)
  have f1 := fin 1 5 _ (fun w => rfl) (background1 _)
  have f2 := fin 2 6 _ (fun w => rfl) (background2 _)
  simp only [← hA, ← hL0, ← ux_coe _ _ _ (rfl : (((t.val * 128 + (y 1).val : ℕ) : ℝ) : EReal) = _) rfl] at f0 f1 f2
  have b := body (grid0.coords t) (ix2 (y 1) (y 2)) (ix3 0 (y 1) (y 2)) (cast_at _)
    (U := ((ux (y 2).val : ℝ) : EReal)) (V := ((vy (t.val * 128 + (y 1).val) : ℝ) : EReal))
    (I := ((inv (ux (y 2).val) (vy (t.val * 128 + (y 1).val)) : ℝ) : EReal))
    (Y := (((t.val * 128 + (y 1).val : ℕ) : ℝ) : EReal)) (A := ldA m c t) (L := ldL m c t)
    (T := meets (ux (y 2).val) (vy (t.val * 128 + (y 1).val)) cs r)
    (U_at _) (by rw [← crd t]; exact V_at _ _) (by rw [← crd t]; exact I_at _ _) (by rw [← crd t]; exact row_at _ _)
    (by rw [ldA_par m c hP]; exact first_par _ _ _ _ _ _)
    (by rw [ldA_par m c hP]; exact near_par _ _ _ _ _ _)
    (by rw [ldA_par m c hP]; exact mask_guarded _ _ _ _ _ _)
    rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl
  exact ⟨b.1.trans f0, b.2.1.trans f1, b.2.2.trans f2⟩

/-- Row `n` of a block in the picture. -/
theorem spot (t : Fin cfg0.N) (y : S3x128x1024.Idx) :
    (win0_1.blk t).view.emb y = (ix3 (y 0) ⟨t.val * 128 + (y 1).val, by
      have := t.isLt; have h : (y 1).val < 128 := (y 1).isLt; have h8 : cfg0.N = 8 := by decide
      omega⟩ (y 2) : S3x1024x1024.Idx) := by
  funext a
  apply Fin.ext
  fin_cases a
  · show ((win0_1.blk t).view.emb y 0).val = (y 0).val
    blk_simp [idx1]
  · show ((win0_1.blk t).view.emb y 1).val = t.val * 128 + (y 1).val
    blk_simp [idx1]
  · show ((win0_1.blk t).view.emb y 2).val = (y 2).val
    blk_simp [idx1]

include ok hP hL in
/-- The kernel's array, element by element. -/
theorem arr_at (i : S3x1024x1024.Idx) :
    (dats m 0 c).arrAt 1 cfg0.N i = shot cs r L col lc (i 1).val (i 2).val (i 0) := by
  refine (dats m 0 c).arrAt_forall_of_covers 1
    (fun (i : S3x1024x1024.Idx) (v : EReal) =>
      v = shot cs r L col lc (i 1).val (i 2).val (i 0)) (by decide +kernel) (fun t hf y => ?_) i
  have e := spot t y
  show (dats m 0 c).after 1 t y = shot cs r L col lc ((win0_1.blk t).view.emb y (1 : Fin 3)).val ((win0_1.blk t).view.emb y (2 : Fin 3)).val ((win0_1.blk t).view.emb y (0 : Fin 3))
  rw [after0_1]
  generalize (win0_1.blk t).view.emb y = z at e
  subst e
  exact block_at m c ok hP hL t y
end
end Cert.GuardedIdeal.Gen

end
-- ==== Proof.HostG.lean ====
module

public import proofs.«01_k».proof.Proof.LoadsG
public import Idealize.ShloMosaic.Lib.StableHlo.ReadAt
public import Idealize.ShloMosaic.Lib.Claim

/-! The kernel's parameters as the launch finds them, computed on the host from the arguments. -/

@[expose] public section
noncomputable section
namespace Cert.GuardedIdeal.Gen
open Idealize.ShloMosaic Idealize.ShloMosaic.TcCoe Idealize.ShloMosaic.Tactic Idealize.SL.Sem RayTrace
variable (m : (ℓ : Loc nD τ sig) → Buf (Elt Ideal) ℓ) (c : Dev nD)

/-- The light's position stands after the spheres' parameters. -/
theorem light_at (k : Fin 3) : V m c main_v14 (ix1 ⟨64 + k.val, ltL k⟩) = m ((c.tc : Thread nD τ).loc main_arg3) (ix1 k) := by
  unfold V
  after_reads_at

/-- Eight columns, read by which of the four pieces a column lies in. -/
theorem eight_of {α : Type} (x : Fin 3 → α) (e : α) (y : Fin 3 → α) (z : α) (k : Fin 8) :
    (if h : k.val < 3 then x ⟨k.val, h⟩
      else if h1 : k.val - 3 < 1 then e
      else if h2 : k.val - 3 - 1 < 3 then y ⟨k.val - 3 - 1, h2⟩ else z)
      = (![x 0, x 1, x 2, e, y 0, y 1, y 2, z] : Fin 8 → α) k := by
  fin_cases k <;> rfl

section
variable {cs : Fin 8 → Fin 3 → EReal} {r : Fin 8 → ℝ} {col : Fin 8 → Fin 3 → EReal} {lc : Fin 3 → EReal}
    (h0 : ∀ s j, m ((c.tc : Thread nD τ).loc main_arg0) (ix2 s j) = cs s j)
    (h1 : ∀ s, m ((c.tc : Thread nD τ).loc main_arg1) (ix1 s) = ((r s : ℝ) : EReal))
    (h2 : ∀ s j, m ((c.tc : Thread nD τ).loc main_arg2) (ix2 s j) = col s j)
    (h4 : ∀ j, m ((c.tc : Thread nD τ).loc main_arg4) (ix1 j) = lc j)

include h0 in
/-- The centres, the middle coordinate scaled. -/
theorem scaled_at (s : Fin 8) (j : Fin 3) :
    StableHlo.upto (Val := Elt Ideal) [hostOps0].flatten (fun b => m (c, b)) 14 (Proc.tc.devRef main_v6) (ix2 s j)
      = cs s j * Ideal.ofBits FTy.f32 (lit0 j) := by
  have e : lit0 j = lit0 (S3.rowMajor (ix1 j)) := by fin_cases j <;> rfl
  rw [← h0, e]
  unfold StableHlo.upto
  after_reads_at

include h0 h1 in
/-- A centre's squared distance from the camera less the squared radius. -/
theorem offset_at (s : Fin 8) (j : Fin 1) :
    StableHlo.upto (Val := Elt Ideal) [hostOps0].flatten (fun b => m (c, b)) 14 (Proc.tc.devRef main_v10) (ix2 s j)
      = cs s 0 * cs s 0 + cs s 1 * cs s 1 + cs s 2 * cs s 2 - ((r s : ℝ) : EReal) * ((r s : ℝ) : EReal) := by
  rw [← Fin.sum_univ_three (fun x => cs s x * cs s x)]
  simp only [← h0, ← h1]
  unfold StableHlo.upto
  after_reads_at

include h2 h4 in
/-- The colours under the light. -/
theorem lit_at (s : Fin 8) (j : Fin 3) :
    StableHlo.upto (Val := Elt Ideal) [hostOps0].flatten (fun b => m (c, b)) 14 (Proc.tc.devRef main_v9) (ix2 s j)
      = col s j * lc j := by
  rw [← h2, ← h4]
  unfold StableHlo.upto
  after_reads_at

include h0 in
/-- The centres' middle coordinate. -/
theorem middle_at (s : Fin 8) (j : Fin 1) :
    StableHlo.upto (Val := Elt Ideal) [hostOps0].flatten (fun b => m (c, b)) 14 (Proc.tc.devRef main_v11) (ix2 s j)
      = cs s 1 := by
  rw [← h0, show j = 0 from Subsingleton.elim _ _]
  unfold StableHlo.upto
  after_reads_at

include h0 h1 h2 h4 in
/-- A sphere's parameters, from the arguments. -/
theorem par_at (s k : Fin 8) :
    V m c main_v14 (ix1 ⟨8 * s.val + k.val, ltA s k⟩) = par cs r col lc s k := by
  have hs := s.isLt
  have hk := k.isLt
  unfold V
  after_reads_at
  rw [dif_pos (by omega : 8 * s.val + k.val < 64)]
  have hd : (8 * s.val + k.val) / 8 = s.val := by omega
  have hm : (8 * s.val + k.val) % 8 = k.val := by omega
  simp only [scaled_at m c h0, offset_at m c h0 h1, lit_at m c h2 h4, middle_at m c h0, hd, hm, Fin.eta]
  refine (eight_of (fun j => cs s j * Ideal.ofBits FTy.f32 (lit0 j)) _ (fun j => col s j * lc j) _ k).trans ?_
  have e0 : cs s 0 * Ideal.ofBits FTy.f32 (lit0 0) = cs s 0 := by
    rw [show lit0 0 = 0x3F800000#32 from rfl, w_one, EReal.coe_one, mul_one]
  have e1 : cs s 1 * Ideal.ofBits FTy.f32 (lit0 1) = cs s 1 * ((5 : ℝ) : EReal) := by
    rw [show lit0 1 = 0x40A00000#32 from rfl, w_five]
  have e2 : cs s 2 * Ideal.ofBits FTy.f32 (lit0 2) = cs s 2 := by
    rw [show lit0 2 = 0x3F800000#32 from rfl, w_one, EReal.coe_one, mul_one]
  rw [e0, e1, e2]
  rfl
end

end Cert.GuardedIdeal.Gen

end
-- ==== Proof.OutG.lean ====
module

public import proofs.«01_k».proof.Proof.ValueG
public import proofs.«01_k».proof.Proof.HostG

/-! The guarded kernel's result after the run. -/

@[expose] public section
noncomputable section
namespace Cert.GuardedIdeal.Gen
open Idealize.ShloMosaic Idealize.ShloMosaic.TcCoe Idealize.ShloMosaic.Tactic Idealize.SL.Sem RayTrace

variable (m : (ℓ : Loc nD τ sig) → Buf (Elt Ideal) ℓ) (ρ : Dev nD → PrngReg)

/-- The result's element is the launch's output with the color plane first. -/
theorem out_at (r) (h : Pipeline.FramePost cfgs (dats m) 0 (Pipeline.afterTail₀ cfgs (dats m) 0 (V0 m) [hostOps1]) r) (c : Dev nD) (y x : Fin 1024) (k : Fin 3) :
    r.2.mem ((c.tc : Thread nD τ).loc main_v16) (ix3 y x k) = (dats m 0 c).arrAt 1 cfg0.N (ix3 k y x) := by
  refine (congrFun ((h c).2 main_v16 (by decide)) (ix3 y x k)).trans ?_
  unfold Pipeline.afterTail₀ hostOps1
  after_reads_at
  exact congrFun (Pipeline.withArrays_arr (cfgs 0).spec (by decide) c (V0 m c) (fun w => (dats m 0 c).arrAt w (cfgs 0).N) 1) (ix3 k y x)

/-- The guarded kernel's result at a pixel. -/
theorem shot_at {cs : Fin 8 → Fin 3 → EReal} {R : Fin 8 → ℝ} {L : Fin 3 → EReal} {col : Fin 8 → Fin 3 → EReal} {lc : Fin 3 → EReal}
    (r) (h : Pipeline.FramePost cfgs (dats m) 0 (Pipeline.afterTail₀ cfgs (dats m) 0 (V0 m) [hostOps1]) r) (c : Dev nD)
    (h0 : ∀ s j, m ((c.tc : Thread nD τ).loc main_arg0) (ix2 s j) = cs s j)
    (h1 : ∀ s, m ((c.tc : Thread nD τ).loc main_arg1) (ix1 s) = ((R s : ℝ) : EReal))
    (h2 : ∀ s j, m ((c.tc : Thread nD τ).loc main_arg2) (ix2 s j) = col s j)
    (h3 : ∀ j, m ((c.tc : Thread nD τ).loc main_arg3) (ix1 j) = L j)
    (h4 : ∀ j, m ((c.tc : Thread nD τ).loc main_arg4) (ix1 j) = lc j)
    (ok : ∀ s, Near (cs s) → Ok (pos (cs s)) (R s) L) (y x : Fin 1024) (k : Fin 3) :
    r.2.mem ((c.tc : Thread nD τ).loc main_v16) (ix3 y x k) = shot cs R L col lc y x k :=
  (out_at m r h c y x k).trans
    (arr_at m c ok (fun s j => par_at m c h0 h1 h2 h4 s j) (fun j => (light_at m c j).trans (h3 j)) (ix3 k y x))

end Cert.GuardedIdeal.Gen
-- ==== Proof.Ref.lean ====
module

public import proofs.«01_k».proof.Proof.Gen.ReferenceIdeal.Run
public import proofs.«01_k».proof.Proof.Coords
public import Idealize.ShloMosaic.Lib.Claim
public import Idealize.ShloMosaic.Lib.Pointwise

/-! The reference's rays and the spheres they meet, element by element for real and infinite centers. -/

@[expose] public section
noncomputable section
namespace RayTrace
open Idealize.ShloMosaic

/-- An evenly spaced line from `a` to `b`, its last point written apart. -/
theorem line_at (n : ℕ) (hn : n < 1024) (a b : ℝ) :
    (if _h : n < 1023 then ((a : ℝ) : EReal) * (1 - Ideal.div (FloatOps.sitofp (F := Ideal) FTy.f32 (BitVec.ofNat 32 n)) (Ideal.ofBits .f32 1149222912#32))
        + ((b : ℝ) : EReal) * Ideal.div (FloatOps.sitofp (F := Ideal) FTy.f32 (BitVec.ofNat 32 n)) (Ideal.ofBits .f32 1149222912#32)
      else ((b : ℝ) : EReal)) = ((a + (b - a) * n / 1023 : ℝ) : EReal) := by
  have e : FloatOps.sitofp (F := Ideal) FTy.f32 (BitVec.ofNat 32 n) = ((n : ℝ) : EReal) := by
    show (((BitVec.ofNat 32 n).toInt : ℝ) : EReal) = _
    rw [word_real (by omega)]
  rw [e, w_1023, Ideal.div_coe (by norm_num), ← EReal.coe_mul]
  split_ifs with h
  · rw [← EReal.coe_one, ← EReal.coe_sub, ← EReal.coe_mul, ← EReal.coe_mul, ← EReal.coe_add]
    congr 1; ring
  · have : n = 1023 := by omega
    subst this
    congr 1; push_cast; ring

/-- Three columns, read by which one. -/
theorem three_of {α : Type} (a b c : α) (k : Fin 3) :
    (if _h : k.val < 1 then a else if _h : k.val - 1 < 1 then b else c) = (![a, b, c] : Fin 3 → α) k := by
  fin_cases k <;> rfl

/-- A real vector over its length, the length kept from below by `eps`. -/
theorem over_len (a : Fin 3 → ℝ) (h : Real.sqrt (dot3 a a) = 0 ∨ eps ≤ Real.sqrt (dot3 a a)) (k : Fin 3) :
    Ideal.div ((a k : ℝ) : EReal) (max (Ideal.sqrt (∑ j : Fin 3, ((a j : ℝ) : EReal) * ((a j : ℝ) : EReal))) (Ideal.ofBits .f32 730643660#32))
      = ((over a (Real.sqrt (dot3 a a)) k : ℝ) : EReal) := by
  have hn : 0 ≤ dot3 a a := by
    unfold dot3; nlinarith [mul_self_nonneg (a 0), mul_self_nonneg (a 1), mul_self_nonneg (a 2)]
  have hs : ∑ j : Fin 3, ((a j : ℝ) : EReal) * ((a j : ℝ) : EReal) = ((dot3 a a : ℝ) : EReal) := by
    rw [Fin.sum_univ_three]; simp only [← EReal.coe_mul, ← EReal.coe_add]; rfl
  have hp := eps_pos
  rw [hs, Ideal.sqrt_coe, if_neg (not_lt.mpr hn), w_eps, coe_max,
    Ideal.div_coe (ne_of_gt (lt_of_lt_of_le hp (le_max_right _ _))), ← EReal.coe_mul]
  congr 1
  unfold over
  rcases h with h | h
  · have h0 : dot3 a a = 0 := (Real.sqrt_eq_zero hn).mp h
    have hk : a k = 0 := by
      unfold dot3 at h0
      have h1 := mul_self_nonneg (a 0)
      have h2 := mul_self_nonneg (a 1)
      have h3 := mul_self_nonneg (a 2)
      have z0 : a 0 * a 0 = 0 := by linarith
      have z1 : a 1 * a 1 = 0 := by linarith
      have z2 : a 2 * a 2 = 0 := by linarith
      fin_cases k
      · exact mul_self_eq_zero.mp z0
      · exact mul_self_eq_zero.mp z1
      · exact mul_self_eq_zero.mp z2
    rw [hk]; simp
  · rw [max_eq_left h]; ring

/-- A real dot product as the reference sums it. -/
theorem sum_dot (a b : Fin 3 → ℝ) : ∑ j : Fin 3, ((a j : ℝ) : EReal) * ((b j : ℝ) : EReal) = ((dot3 a b : ℝ) : EReal) := by
  rw [Fin.sum_univ_three]; simp only [← EReal.coe_mul, ← EReal.coe_add]; rfl

/-- The least of eight. -/
theorem fold_win (T : Fin 8 → EReal) : (Finset.univ : Finset (Fin 8)).fold min ⊤ T = T (win T) := by
  apply le_antisymm
  · exact (Finset.fold_min_le _).mpr (Or.inr ⟨win T, Finset.mem_univ _, le_rfl⟩)
  · exact (Finset.le_fold_min _).mpr ⟨le_top, fun j _ => (win_spec T j).1⟩

/-- The first place of the least of eight, as words. -/
theorem fold_first : ∀ (w : Fin 8) (b : Fin 8 → Bool), b w = true → (∀ j < w, b j = false) →
    (Finset.univ : Finset (Fin 8)).fold IntOp.minsi 2147483647#32 (fun s => if b s then BitVec.ofNat 32 s.val else 8#32)
      = BitVec.ofNat 32 w.val := by
  decide +kernel

end RayTrace

namespace Cert.ReferenceIdeal.Value
open Idealize.ShloMosaic Idealize.ShloMosaic.TcCoe Idealize.ShloMosaic.Tactic Idealize.SL.Sem RayTrace

variable (V0 : Valuation τ sig (Elt Ideal))

/-- The direction before it is made a unit one. -/
theorem aim_at (y x : Fin 1024) (k : Fin 3) :
    res_main_v12 (F := Ideal) V0 (ix3 y x k) = (((![ux x, 5, vy y] : Fin 3 → ℝ) k : ℝ) : EReal) := by
  unfold res_main_v12 res_main_call0_v0 res_main_call0_v1 res_main_call0_v6 res_main_call1_v0 res_main_call1_v1 res_main_call1_v6 res_main_v9
  pointwise
  have hx := x.isLt
  have hy := y.isLt
  have c1 : id (constant (F := Ideal) S_ FTy.f32 3212836864#32) ix0 = ((-1 : ℝ) : EReal) := w_neg_one
  have c2 : id (constant (F := Ideal) S_ FTy.f32 1065353216#32) ix0 = ((1 : ℝ) : EReal) := w_one
  simp only [c1, c2, w_five]
  rw [line_at x.val hx, line_at y.val hy]
  refine (three_of _ _ _ k).trans ?_
  fin_cases k
  · show ((-1 + (1 - -1) * (x.val : ℝ) / 1023 : ℝ) : EReal) = ((ux x.val : ℝ) : EReal)
    congr 1; unfold ux; ring
  · rfl
  · show ((1 + (-1 - 1) * (y.val : ℝ) / 1023 : ℝ) : EReal) = ((vy y.val : ℝ) : EReal)
    congr 1; unfold vy; ring

/-- The length of the direction before it is made a unit one. -/
theorem aim_len (u v : ℝ) : dot3 ![u, 5, v] ![u, 5, v] = u * u + v * v + 25 := by
  show u * u + 5 * 5 + v * v = _
  ring

/-- The unit direction of a pixel's ray. -/
theorem dir_at (y x : Fin 1024) (k : Fin 3) :
    res_main_v20 (F := Ideal) V0 (ix3 y x k) = ((dir (ux x) (vy y) k : ℝ) : EReal) := by
  unfold res_main_v20
  pointwise
  simp only [aim_at]
  have hl : eps ≤ Real.sqrt (dot3 ![ux x, 5, vy y] ![ux x, 5, vy y]) := by
    rw [aim_len]
    refine eps_le_five.trans (Real.le_sqrt_of_sq_le ?_)
    nlinarith [mul_self_nonneg (ux x.val), mul_self_nonneg (vy y.val)]
  rw [over_len _ (Or.inr hl)]
  congr 1
  unfold over
  rw [aim_len]
  fin_cases k
  · exact div_eq_mul_inv _ _
  · exact div_eq_mul_inv _ _
  · exact div_eq_mul_inv _ _

section
variable {V0} {cs : Fin 8 → Fin 3 → EReal} {r : Fin 8 → ℝ}
  (h0 : ∀ s k, V0 (Proc.tc.devRef main_arg0) (ix2 s k) = cs s k)
  (h1 : ∀ s, V0 (Proc.tc.devRef main_arg1) (ix1 s) = ((r s : ℝ) : EReal))

include h0 in
/-- From a sphere's centre to the camera. -/
theorem away_at (y x : Fin 1024) (s : Fin 8) (k : Fin 3) :
    res_main_v42 (F := Ideal) V0 (ix4 y x s k) = -cs s k := by
  unfold res_main_v42 res_main_v21 res_main_v9
  pointwise
  rw [h0, zero_sub]

include h0 in
/-- From a sphere's real centre to the camera. -/
theorem away_near (y x : Fin 1024) (s : Fin 8) (near : Near (cs s)) (k : Fin 3) :
    res_main_v42 (F := Ideal) V0 (ix4 y x s k) = (((-pos (cs s)) k : ℝ) : EReal) :=
  (away_at h0 y x s k).trans ((congrArg Neg.neg (near k)).trans (EReal.coe_neg _).symm)

/-- The direction's squared length. -/
theorem one_at (y x : Fin 1024) : res_main_v45 (F := Ideal) V0 (ix3 y x 0) = ((1 : ℝ) : EReal) := by
  unfold res_main_v45
  pointwise
  simp only [dir_at]
  rw [sum_dot, dir_unit]

include h0 in
/-- The quadratic's middle coefficient. -/
theorem mid_at (y x : Fin 1024) (s : Fin 8) (near : Near (cs s)) :
    res_main_v51 (F := Ideal) V0 (ix3 y x s) = ((-(2 * dot3 (dir (ux x) (vy y)) (pos (cs s))) : ℝ) : EReal) := by
  unfold res_main_v51
  pointwise
  simp only [dir_at, away_near h0 y x s near]
  rw [sum_dot, w_two, ← EReal.coe_mul]
  congr 1
  simp only [dot3, Pi.neg_apply]
  ring

include h0 h1 in
/-- The quadratic's discriminant. -/
theorem disc_at (y x : Fin 1024) (s : Fin 8) (near : Near (cs s)) :
    res_main_v63 (F := Ideal) V0 (ix3 y x s) = ((4 * disc (dir (ux x) (vy y)) (pos (cs s)) (r s) : ℝ) : EReal) := by
  unfold res_main_v63
  pointwise
  simp only [mid_at h0 y x s near, away_near h0 y x s near, one_at, h1]
  rw [sum_dot, w_four]
  simp only [← EReal.coe_mul, ← EReal.coe_sub]
  congr 1
  simp only [disc, dot3, Pi.neg_apply]
  ring

include h0 h1 in
/-- Of a sphere at infinity the quadratic's discriminant is minus infinity. -/
theorem disc_far (y x : Fin 1024) (s : Fin 8) (far : ¬Near (cs s)) : res_main_v63 (F := Ideal) V0 (ix3 y x s) = (⊥ : EReal) := by
  unfold res_main_v63
  pointwise
  simp only [away_at h0, one_at, h1]
  rw [Fin.sum_univ_three]
  simp only [neg_mul_neg]
  rw [far_len (cs s) far, w_four, ← EReal.coe_mul, ← EReal.coe_mul, EReal.top_sub_coe, EReal.coe_mul_top_of_pos (by norm_num),
    EReal.sub_top]

include h0 h1 in
/-- Where the ray meets each sphere. -/
theorem meets_at (y x : Fin 1024) (s : Fin 8) :
    res_main_v76 (F := Ideal) V0 (ix3 y x s) = meets (ux x) (vy y) cs r s := by
  unfold res_main_v76
  pointwise
  unfold meets meet
  by_cases near : Near (cs s)
  · simp only [disc_at h0 h1 y x s near, mid_at h0 y x s near, one_at]
    have e : (0 : EReal) ≤ ((4 * disc (dir (ux x) (vy y)) (pos (cs s)) (r s) : ℝ) : EReal) ↔ Met (dir (ux x) (vy y)) (cs s) (r s) := by
      rw [← EReal.coe_zero, EReal.coe_le_coe_iff]
      exact ⟨fun h => ⟨near, by linarith⟩, fun h => by linarith [h.2]⟩
    by_cases h : Met (dir (ux x) (vy y)) (cs s) (r s)
    · have h2 := h.2
      rw [if_pos (e.mpr h), if_pos h, if_pos (e.mpr h), Ideal.sqrt_coe, if_neg (not_lt.mpr (by linarith)), w_two, ← EReal.coe_mul,
        Ideal.div_coe (by norm_num), ← EReal.coe_neg, ← EReal.coe_sub, ← EReal.coe_mul]
      congr 1
      have h4 : Real.sqrt (4 * disc (dir (ux x) (vy y)) (pos (cs s)) (r s)) = 2 * Real.sqrt (disc (dir (ux x) (vy y)) (pos (cs s)) (r s)) := by
        rw [Real.sqrt_mul (by norm_num), show (4 : ℝ) = 2 * 2 by norm_num, Real.sqrt_mul_self (by norm_num)]
      rw [h4]
      unfold root
      ring
    · rw [if_neg (mt e.mp h), if_neg h]
      exact w_inf
  · have h : ¬Met (dir (ux x) (vy y)) (cs s) (r s) := fun h => near h.1
    rw [disc_far h0 h1 y x s near, if_neg (by simp), if_neg h]
    exact w_inf

include h0 h1 in
/-- The nearest meeting. -/
theorem near_at (y x : Fin 1024) :
    res_main_v77 (F := Ideal) V0 (ix2 y x) = meets (ux x) (vy y) cs r (win (meets (ux x) (vy y) cs r)) := by
  unfold res_main_v77
  pointwise
  rw [w_inf]
  refine (Shape.ReducesTo.fold_fiber_r3_a2 _ _ _ _ _).trans ?_
  refine Eq.trans ?_ (fold_win _)
  congr 1
  funext s
  exact meets_at h0 h1 y x s

include h0 h1 in
/-- The first of the nearest spheres. -/
theorem first_at (y x : Fin 1024) :
    res_main_v83 (F := Ideal) V0 (ix2 y x) = BitVec.ofNat 32 (win (meets (ux x) (vy y) cs r)).val := by
  unfold res_main_v83
  refine (Host.reduce_eq_fold (α := BitVec 32) (IntOp.minsi (w := 32)) _ _ _ _ _).trans ?_
  refine (Shape.ReducesTo.fold_fiber_r3_a2 _ _ _ _ _).trans ?_
  rw [← fold_first (win (meets (ux x) (vy y) cs r))
    (fun s => decide (meets (ux x) (vy y) cs r s = meets (ux x) (vy y) cs r (win (meets (ux x) (vy y) cs r))))
    (by simp) (fun j hj => decide_eq_false (ne_of_gt ((win_spec _ j).2 hj)))]
  congr 1
  funext s
  refine Eq.trans (b := Scalar.select (Ideal.cmp .oeq (res_main_v76 (F := Ideal) V0 (ix3 y x s)) (res_main_v77 (F := Ideal) V0 (ix2 y x))) (BitVec.ofNat 32 s.val) 8#32) ?_ ?_
  · pointwise
    rfl
  · rw [meets_at h0 h1, near_at h0 h1]
    unfold Scalar.select Ideal.cmp
    by_cases h : meets (ux x) (vy y) cs r s = meets (ux x) (vy y) cs r (win (meets (ux x) (vy y) cs r)) <;> simp [h]

end

end Cert.ReferenceIdeal.Value

end
-- ==== Proof.Reads.lean ====
module

public import proofs.«01_k».proof.Proof.Ref

/-! The reference's later stages read at an element, each over whatever arrays it takes. -/

@[expose] public section
set_option maxRecDepth 8192
noncomputable section
namespace Cert.ReferenceIdeal.Value
open Idealize.ShloMosaic Idealize.ShloMosaic.TcCoe Idealize.ShloMosaic.Tactic Idealize.SL.Sem RayTrace Gen

local notation "Pic" => S1024x1024x3.Idx → EReal
local notation "Map" => S1024x1024x1.Idx → EReal

/-- The word of one as an array of one element. -/
theorem id_one : (id (constant (F := Ideal) S_ .f32 0x3F800000#32) ix0 : EReal) = 1 := w_one

/-- The word of zero as an array of one element. -/
theorem id_zero : (id (constant (F := Ideal) S_ .f32 0x00000000#32) ix0 : EReal) = 0 := w_zero

/-- The hit points. -/
theorem hit_read (O D : Pic) (M : S1024x1024.Idx → EReal) (Z : S_.Idx → EReal) (B : IVec S1024x1024 1) (y x : Fin 1024) (k : Fin 3) :
    addf (F := Ideal) (φ := .f32) O (mulf (broadcastInDim S1024x1024x3 ![0, 1, 2] bcast_S1024x1024x1_S1024x1024x3_0_1_2 (broadcastInDim S1024x1024x1 ![0, 1] bcast_S1024x1024_S1024x1024x1_0_1 (select B M (broadcastInDim S1024x1024 ![] bcast_S_S1024x1024 Z)))) D) (ix3 y x k) = O (ix3 y x k) + Scalar.select (B (ix2 y x)) (M (ix2 y x)) (Z ix0) * D (ix3 y x k) := by
  pointwise

/-- An array taken from another where the picked element exists. -/
theorem take_read (P G : Pic) (R : IVec S1024x1024 1) (y x : Fin 1024) (k : Fin 3) :
    subf (F := Ideal) (φ := .f32) P (select (broadcastInDim S1024x1024x3 ![0, 1] bcast_S1024x1024_S1024x1024x3_0_1 R) G (broadcastInDim S1024x1024x3 ![] bcast_S_S1024x1024x3 (constant S_ .f32 0x7FC00000#32))) (ix3 y x k) = P (ix3 y x k) - Scalar.select (R (ix2 y x)) (G (ix3 y x k)) (Ideal.ofBits .f32 2143289344#32) := by
  pointwise

/-- Whether an index lies among the spheres: it does. -/
theorem in_read (C : IVec S1024x1024x1 32) (w : Fin 8) (y x : Fin 1024) (h : C (ix3 y x 0) = BitVec.ofNat 32 w.val) :
    Host.reduce IntOp.andi (andi (cmpi .sge C (broadcastInDim S1024x1024x1 ![] bcast_S_S1024x1024x1 (constantI S_ 32 0#32))) (cmpi .sle C (broadcastInDim S1024x1024x1 ![0, 1, 2] bcast_S1x1x1_S1024x1024x1_0_1_2 (broadcastInDim S1x1x1 ![2] bcast_S1_S1x1x1_2 (constantI S1 32 7#32))))) (constantI S_ 1 1#1) reducesTo_S1024x1024x1_S1024x1024_d2 h_S_ (ix2 y x) = 1#1 := by
  refine (Host.reduce_eq_fold (α := BitVec 1) (IntOp.andi (w := 1)) _ _ _ _ _).trans ?_
  refine (Shape.ReducesTo.fold_fiber_r3_a2 _ _ _ _ _).trans ?_
  have e : ∀ k : Fin 1, (ix3 y x k : S1024x1024x1.Idx) = ix3 y x 0 := fun k => by rw [Subsingleton.elim k 0]
  have q : IntOp.andi (IntOp.cmpi .sge (BitVec.ofNat 32 w.val) 0#32) (IntOp.cmpi .sle (BitVec.ofNat 32 w.val) 7#32) = 1#1 :=
    (by decide +kernel : ∀ w : Fin 8, IntOp.andi (IntOp.cmpi .sge (BitVec.ofNat 32 w.val) 0#32) (IntOp.cmpi .sle (BitVec.ofNat 32 w.val) 7#32) = 1#1) w
  refine Eq.trans (b := (Finset.univ : Finset (Fin 1)).fold IntOp.andi 1#1 (fun _ => 1#1)) ?_ (by decide)
  congr 1
  funext k
  refine Eq.trans ?_ q
  rw [← h]
  exact congrArg (fun z => IntOp.andi (IntOp.cmpi .sge (C z) 0#32) (IntOp.cmpi .sle (C z) 7#32)) (e k)

/-- The specular term before its power. -/
theorem shine_read (N E P : Pic) (Q : Map) (y x : Fin 1024) :
  maximumf (F := Ideal) (φ := .f32) (broadcastInDim S1024x1024x1 ![0, 1] bcast_S1024x1024_S1024x1024x1_0_1 (Host.reduceAdd (mulf (subf (mulf (mulf (broadcastInDim S1024x1024x3 ![] bcast_S_S1024x1024x3 (constant S_ .f32 0x40000000#32)) N) (broadcastInDim S1024x1024x3 ![0, 1, 2] bcast_S1024x1024x1_S1024x1024x3_0_1_2 Q)) E) P) (constant S_ .f32 0x00000000#32) reducesTo_S1024x1024x3_S1024x1024_d2 h_S_)) (broadcastInDim S1024x1024x1 ![] bcast_S_S1024x1024x1 (constant S_ .f32 0x00000000#32)) (ix3 y x 0) = max (∑ j, (Ideal.ofBits .f32 1073741824#32 * N (ix3 y x j) * Q (ix3 y x 0) - E (ix3 y x j)) * P (ix3 y x j)) 0 := by
  pointwise

/-- The row of a table an index picks. -/
theorem pick_read (x0 : S8x3.Idx → EReal) (C : IVec S1024x1024x1 32) (w : Fin 8) (y x : Fin 1024) (k : Fin 3) (h : C (ix3 y x 0) = BitVec.ofNat 32 w.val) :
    Host.gather gather_S8x3_S1024x1024x1_S1024x1024x3_2_0_n_n_0_2_13 x0 C (ix3 y x k) = x0 (ix2 w k) := by
  have hw : min (BitVec.ofNat 32 w.val).toInt.toNat 7 = w.val := (by decide +kernel : ∀ w : Fin 8, min (BitVec.ofNat 32 w.val).toInt.toNat 7 = w.val) w
  unfold Host.gather
  congr 1
  funext a
  apply Fin.ext
  have hk : (1 : Fin S8x3.rank) ∈ GatherDims.sKept gather_S8x3_S1024x1024x1_S1024x1024x3_2_0_n_n_0_2_13 := by decide
  have hk0 : (0 : Fin S8x3.rank) ∉ GatherDims.sKept gather_S8x3_S1024x1024x1_S1024x1024x3_2_0_n_n_0_2_13 := by decide
  have b : ∀ a : Fin S8x3.rank, a ∉ gather_S8x3_S1024x1024x1_S1024x1024x3_2_0_n_n_0_2_13.operandBatchingDims := by intro a; exact List.not_mem_nil
  have hs : (0 : Fin S8x3.rank) ∈ gather_S8x3_S1024x1024x1_S1024x1024x3_2_0_n_n_0_2_13.startIndexMap := List.mem_cons_self
  have hs1 : (1 : Fin S8x3.rank) ∉ gather_S8x3_S1024x1024x1_S1024x1024x3_2_0_n_n_0_2_13.startIndexMap := by intro hh; exact absurd (List.mem_singleton.mp hh) (by decide)
  fin_cases a
  · show GatherDims.start _ (ix3 y x k) C 0 + GatherDims.batchCoord _ (ix3 y x k) 0 + GatherDims.offCoord _ (ix3 y x k) 0 = w.val
    unfold GatherDims.start GatherDims.batchCoord GatherDims.offCoord
    rw [dif_pos hs, dif_neg (b 0), dif_neg hk0]
    have e : gather_S8x3_S1024x1024x1_S1024x1024x3_2_0_n_n_0_2_13.siIdx (ix3 y x k) ⟨gather_S8x3_S1024x1024x1_S1024x1024x3_2_0_n_n_0_2_13.startIndexMap.idxOf 0, List.idxOf_lt_length_iff.2 hs⟩ = ix3 y x 0 := by
      funext a
      fin_cases a
      · rfl
      · rfl
      · exact Subsingleton.elim (α := Fin 1) _ _
    rw [e, h]
    exact hw
  · show GatherDims.start _ (ix3 y x k) C 1 + GatherDims.batchCoord _ (ix3 y x k) 1 + GatherDims.offCoord _ (ix3 y x k) 1 = k.val
    unfold GatherDims.start GatherDims.batchCoord GatherDims.offCoord
    rw [dif_neg hs1, dif_neg (b 1), dif_pos hk]
    show 0 + 0 + k.val = k.val
    omega

/-- A vector divided by its length, the length kept from zero. -/
theorem len_read (D : Pic) (y x : Fin 1024) (k : Fin 3) :
    Host.divf (F := Ideal) (φ := .f32) D (broadcastInDim S1024x1024x3 ![0, 1, 2] bcast_S1024x1024x1_S1024x1024x3_0_1_2 (maximumf (Host.sqrt (broadcastInDim S1024x1024x1 ![0, 1] bcast_S1024x1024_S1024x1024x1_0_1 (Host.reduceAdd (mulf D D) (constant S_ .f32 0x00000000#32) reducesTo_S1024x1024x3_S1024x1024_d2 h_S_))) (broadcastInDim S1024x1024x1 ![] bcast_S_S1024x1024x1 (constant S_ .f32 0x2B8CBCCC#32)))) (ix3 y x k) = Ideal.div (D (ix3 y x k)) (max (Ideal.sqrt (∑ j, D (ix3 y x j) * D (ix3 y x j))) (Ideal.ofBits .f32 730643660#32)) := by
  pointwise

/-- A sum of products over the last axis. -/
theorem dot_read (A B : Pic) (y x : Fin 1024) :
    broadcastInDim S1024x1024x1 ![0, 1] bcast_S1024x1024_S1024x1024x1_0_1 (Host.reduceAdd (mulf (F := Ideal) (φ := .f32) A B) (constant S_ .f32 0x00000000#32) reducesTo_S1024x1024x3_S1024x1024_d2 h_S_) (ix3 y x 0) = ∑ j, A (ix3 y x j) * B (ix3 y x j) := by
  pointwise

/-- A sphere's colour lit. -/
theorem fore_read (Q T : Map) (C : Pic) (R : IVec S1024x1024 1) (L : S3.Idx → EReal) (y x : Fin 1024) (k : Fin 3) :
    minimumf (F := Ideal) (φ := .f32) (broadcastInDim S1024x1024x3 ![] bcast_S_S1024x1024x3 (id (constant S_ .f32 0x3F800000#32))) (maximumf (broadcastInDim S1024x1024x3 ![] bcast_S_S1024x1024x3 (id (constant S_ .f32 0x00000000#32))) (mulf (mulf (broadcastInDim S1024x1024x3 ![0, 1, 2] bcast_S1024x1024x1_S1024x1024x3_0_1_2 (addf (addf (broadcastInDim S1024x1024x1 ![] bcast_S_S1024x1024x1 (constant S_ .f32 0x3ECCCCCD#32)) (mulf (broadcastInDim S1024x1024x1 ![] bcast_S_S1024x1024x1 (constant S_ .f32 0x3F000000#32)) (maximumf Q (broadcastInDim S1024x1024x1 ![] bcast_S_S1024x1024x1 (constant S_ .f32 0x00000000#32))))) (mulf (broadcastInDim S1024x1024x1 ![] bcast_S_S1024x1024x1 (constant S_ .f32 0x3F4CCCCD#32)) (mulf T T)))) (select (broadcastInDim S1024x1024x3 ![0, 1] bcast_S1024x1024_S1024x1024x3_0_1 R) C (broadcastInDim S1024x1024x3 ![] bcast_S_S1024x1024x3 (constant S_ .f32 0x7FC00000#32)))) (broadcastInDim S1024x1024x3 ![0, 1, 2] bcast_S1x1x3_S1024x1024x3_0_1_2 (broadcastInDim S1x1x3 ![2] bcast_S3_S1x1x3_2 L)))) (ix3 y x k) = min 1 (max 0 ((Ideal.ofBits .f32 0x3ECCCCCD#32 + Ideal.ofBits .f32 0x3F000000#32 * max (Q (ix3 y x 0)) 0 + Ideal.ofBits .f32 0x3F4CCCCD#32 * (T (ix3 y x 0) * T (ix3 y x 0))) * Scalar.select (R (ix2 y x)) (C (ix3 y x k)) (Ideal.ofBits .f32 2143289344#32) * L (ix1 k))) := by
  pointwise
  rw [id_one, id_zero]

/-- The background's colour. -/
theorem back_read (G : S1024x1.Idx → EReal) (y x : Fin 1024) (k : Fin 3) :
    broadcastInDim S1024x1024x3 ![0, 1, 2] bcast_S1024x1x3_S1024x1024x3_0_1_2 (broadcastInDim S1024x1x3 ![0, 2] bcast_S1024x3_S1024x1x3_0_2 (minimumf (F := Ideal) (φ := .f32) (broadcastInDim S1024x3 ![] bcast_S_S1024x3 (id (constant S_ .f32 0x3F800000#32))) (maximumf (broadcastInDim S1024x3 ![] bcast_S_S1024x3 (id (constant S_ .f32 0x00000000#32))) (addf (mulf (broadcastInDim S1024x3 ![0, 1] bcast_S1024x1_S1024x3_0_1 (subf (broadcastInDim S1024x1 ![] bcast_S_S1024x1 (constant S_ .f32 0x3F800000#32)) G)) (broadcastInDim S1024x3 ![0, 1] bcast_S1x3_S1024x3_0_1 (broadcastInDim S1x3 ![1] bcast_S3_S1x3_1 ((fun i => FloatOps.ofBits (F := Ideal) .f32 (lit0 (S3.rowMajor i))))))) (mulf (broadcastInDim S1024x3 ![0, 1] bcast_S1024x1_S1024x3_0_1 G) (broadcastInDim S1024x3 ![0, 1] bcast_S1x3_S1024x3_0_1 (broadcastInDim S1x3 ![1] bcast_S3_S1x3_1 (constant S3 .f32 0x3F800000#32)))))))) (ix3 y x k) = min 1 (max 0 ((1 - G (ix2 y 0)) * Ideal.ofBits .f32 (lit0 (S3.rowMajor (ix1 k))) + G (ix2 y 0) * 1)) := by
  pointwise
  rw [id_one, id_zero]

/-- One of two pictures by a condition on the pixel. -/
theorem either_read (B : IVec S1024x1024 1) (P Q : Pic) (y x : Fin 1024) (k : Fin 3) :
    select (broadcastInDim S1024x1024x3 ![0, 1, 2] bcast_S1024x1024x1_S1024x1024x3_0_1_2 (broadcastInDim S1024x1024x1 ![0, 1] bcast_S1024x1024_S1024x1024x1_0_1 B)) P Q (ix3 y x k) = Scalar.select (B (ix2 y x)) (P (ix3 y x k)) (Q (ix3 y x k)) := by
  pointwise

/-- A point's vector to each hit point. -/
theorem from_read (A : S3.Idx → EReal) (P : Pic) (y x : Fin 1024) (k : Fin 3) :
    subf (F := Ideal) (φ := .f32) (broadcastInDim S1024x1024x3 ![0, 1, 2] bcast_S1x1x3_S1024x1024x3_0_1_2 (broadcastInDim S1x1x3 ![2] bcast_S3_S1x1x3_2 A)) P (ix3 y x k) = A (ix1 k) - P (ix3 y x k) := by
  pointwise

/-- A picture negated. -/
theorem neg_read (P : Pic) (y x : Fin 1024) (k : Fin 3) : Host.negf (F := Ideal) (φ := .f32) P (ix3 y x k) = -P (ix3 y x k) := by
  pointwise

/-- Whether a pixel's nearest meeting is finite. -/
theorem lit_read (M : S1024x1024.Idx → EReal) (y x : Fin 1024) :
    cmpf (F := Ideal) (φ := .f32) .olt M (broadcastInDim S1024x1024 ![] bcast_S_S1024x1024 (constant S_ .f32 0x7F800000#32)) (ix2 y x) = Ideal.cmp .olt (M (ix2 y x)) (Ideal.ofBits .f32 2139095040#32) := by
  pointwise

end Cert.ReferenceIdeal.Value

end
-- ==== Proof.RefOut.lean ====
module

public import proofs.«01_k».proof.Proof.Reads

/-! The reference's result at a pixel: the shot the kernel takes. -/

@[expose] public section
set_option maxRecDepth 8192
noncomputable section
namespace RayTrace
open Idealize.ShloMosaic

/-- The background's color lies between zero and one, so clipping leaves it. -/
theorem sky_clip (n : ℕ) (hn : n < 1024) (k : Fin 3) :
    min (1 : EReal) (max 0 ((((1 - ux n) * top k + ux n : ℝ)) : EReal)) = (((1 - ux n) * top k + ux n : ℝ) : EReal) := by
  have h0 : (n : ℝ) ≤ 1023 := by exact_mod_cast Nat.le_of_lt_succ hn
  have h1 : (0 : ℝ) ≤ n := Nat.cast_nonneg n
  have hu : ux n ≤ 1 := by unfold ux; linarith
  have hl : -1 ≤ ux n := by unfold ux; linarith
  have ht : 1 / 2 ≤ top k ∧ top k ≤ 1 := by
    fin_cases k
    · exact ⟨le_refl _, by show (1 / 2 : ℝ) ≤ 1; norm_num⟩
    · exact ⟨by show (1 / 2 : ℝ) ≤ sky; unfold sky; norm_num, sky_le_one⟩
    · exact ⟨by show (1 / 2 : ℝ) ≤ 1; norm_num, le_refl _⟩
  have a : 0 ≤ (1 - ux n) * top k + ux n := by nlinarith [ht.1]
  have b : (1 - ux n) * top k + ux n ≤ 1 := by nlinarith [ht.2]
  rw [max_eq_right (by exact_mod_cast a), min_eq_right (by exact_mod_cast b)]

/-- An eighth power by three squarings. -/
def pow8 (a : EReal) : EReal := a * a * (a * a) * (a * a * (a * a))

/-- The three parts of the light summed. -/
theorem lit_sum (p q : ℝ) :
    ((amb : ℝ) : EReal) + ((1 / 2 : ℝ) : EReal) * max ((p : ℝ) : EReal) 0 + ((spc : ℝ) : EReal) * (pow8 ((q : ℝ) : EReal) * pow8 ((q : ℝ) : EReal))
      = ((amb + 1 / 2 * max p 0 + spc * q ^ 16 : ℝ) : EReal) := by
  unfold pow8
  simp only [← EReal.coe_zero, ← EReal.coe_mul, ← EReal.coe_add, coe_max]
  congr 1
  ring

/-- The vector to the light over its length, the length kept from below by `eps`. -/
theorem over_toward (L : Fin 3 → EReal) (H : Fin 3 → ℝ)
    (h : Near L → eps ≤ Real.sqrt (dot3 (pos L - H) (pos L - H))) (k : Fin 3) :
    Ideal.div (L k - (H k : ℝ)) (max (Ideal.sqrt (∑ j : Fin 3, (L j - (H j : ℝ)) * (L j - (H j : ℝ)))) (Ideal.ofBits .f32 730643660#32))
      = ((toward L H k : ℝ) : EReal) := by
  unfold toward
  split_ifs with near
  · have e : ∀ k, L k - ((H k : ℝ) : EReal) = (((pos L - H) k : ℝ) : EReal) := fun k => by
      rw [near k, ← EReal.coe_sub]; rfl
    simp only [e]
    exact over_len _ (Or.inr (h near)) k
  · rw [Fin.sum_univ_three, far_sq L H near, Ideal.sqrt_top, max_eq_left le_top]
    unfold Ideal.div
    rw [if_neg EReal.top_ne_zero, EReal.inv_top, mul_zero]
    rfl

end RayTrace
namespace Cert.ReferenceIdeal.Value
open Idealize.ShloMosaic Idealize.ShloMosaic.TcCoe Idealize.ShloMosaic.Tactic Idealize.SL.Sem RayTrace Gen

/-- The background's coordinate down the rows. -/
theorem row_at (V0 : Valuation τ sig (Elt Ideal)) (y : Fin 1024) : res_main_v23 (F := Ideal) V0 (ix2 y 0) = ((ux y : ℝ) : EReal) := by
  unfold res_main_v23 res_main_call2_v0 res_main_call2_v1 res_main_call2_v6
  pointwise
  have c1 : id (constant (F := Ideal) S_ FTy.f32 3212836864#32) ix0 = ((-1 : ℝ) : EReal) := w_neg_one
  have c2 : id (constant (F := Ideal) S_ FTy.f32 1065353216#32) ix0 = ((1 : ℝ) : EReal) := w_one
  simp only [c1, c2]
  rw [line_at y.val y.isLt]
  congr 1
  unfold ux
  ring

section
variable {V0 : Valuation τ sig (Elt Ideal)} {cs : Fin 8 → Fin 3 → EReal} {r : Fin 8 → ℝ} {L : Fin 3 → EReal}
  (h0 : ∀ s k, V0 (Proc.tc.devRef main_arg0) (ix2 s k) = cs s k)
  (h1 : ∀ s, V0 (Proc.tc.devRef main_arg1) (ix1 s) = ((r s : ℝ) : EReal))
  (h3 : ∀ k, V0 (Proc.tc.devRef main_arg3) (ix1 k) = L k)
  (y x : Fin 1024) {w : Fin 8} (e : win (meets (ux x) (vy y) cs r) = w)

include h0 h1 in
/-- A pixel is lit where the nearest sphere is met. -/
theorem lit_at : res_main_v85 (F := Ideal) V0 (ix2 y x) = Ideal.cmp .olt (meets (ux x) (vy y) cs r (win (meets (ux x) (vy y) cs r))) ⊤ := by
  unfold res_main_v85
  refine (lit_read _ y x).trans ?_
  rw [near_at h0 h1, w_inf]

include h0 h1 e in
/-- The index of the nearest sphere as the centers are picked by it. -/
theorem index8_at : res_main_call8_v5 (F := Ideal) V0 (ix3 y x 0) = BitVec.ofNat 32 w.val := by
  unfold res_main_call8_v5
  pointwise
  rw [first_at h0 h1, e]
  exact (by decide +kernel : ∀ w : Fin 8, Scalar.select (IntOp.cmpi .slt (BitVec.ofNat 32 w.val) 0#32) (IntOp.addi (BitVec.ofNat 32 w.val) 8#32) (BitVec.ofNat 32 w.val) = BitVec.ofNat 32 w.val) w

include h0 h1 e in
/-- The index of the nearest sphere as the colors are picked by it. -/
theorem index9_at : res_main_call9_v5 (F := Ideal) V0 (ix3 y x 0) = BitVec.ofNat 32 w.val := by
  unfold res_main_call9_v5
  pointwise
  rw [first_at h0 h1, e]
  exact (by decide +kernel : ∀ w : Fin 8, Scalar.select (IntOp.cmpi .slt (BitVec.ofNat 32 w.val) 0#32) (IntOp.addi (BitVec.ofNat 32 w.val) 8#32) (BitVec.ofNat 32 w.val) = BitVec.ofNat 32 w.val) w

variable (hw : meets (ux x) (vy y) cs r w < ⊤)

include h0 h1 e hw in
/-- The hit point. -/
theorem hit_at (k : Fin 3) : res_main_v90 (F := Ideal) V0 (ix3 y x k) = ((at3 (dir (ux x) (vy y)) (root (dir (ux x) (vy y)) (pos (cs w)) (r w)) k : ℝ) : EReal) := by
  unfold res_main_v90
  refine (hit_read _ _ _ _ _ y x k).trans ?_
  rw [lit_at h0 h1, near_at h0 h1, e, select_olt, if_pos hw, (meets_lt _ _ _ _ hw).2, dir_at]
  have z : res_main_v21 (F := Ideal) V0 (ix3 y x k) = ((0 : ℝ) : EReal) := by
    unfold res_main_v21 res_main_v9
    pointwise
    rfl
  rw [z, EReal.coe_zero, zero_add, ← EReal.coe_mul]
  rfl

include h0 h1 e hw in
/-- The hit point seen from the center. -/
theorem out_at (k : Fin 3) : res_main_v92 (F := Ideal) V0 (ix3 y x k) = (((at3 (dir (ux x) (vy y)) (root (dir (ux x) (vy y)) (pos (cs w)) (r w)) - pos (cs w)) k : ℝ) : EReal) := by
  unfold res_main_v92
  refine (take_read _ _ _ y x k).trans ?_
  rw [hit_at h0 h1 y x e hw, in_read _ w y x (index8_at h0 h1 y x e), pick_read _ _ w y x k (index8_at h0 h1 y x e), h0]
  exact (congrArg (_ - ·) ((meets_lt _ _ _ _ hw).1.1 k)).trans (EReal.coe_sub _ _).symm

variable (ok : Ok (pos (cs w)) (r w) L)

include h0 h1 e hw ok in
/-- The normal. -/
theorem normal_at (k : Fin 3) : res_main_v100 (F := Ideal) V0 (ix3 y x k) = ((over (at3 (dir (ux x) (vy y)) (root (dir (ux x) (vy y)) (pos (cs w)) (r w)) - pos (cs w)) |r w| k : ℝ) : EReal) := by
  unfold res_main_v100
  refine (len_read _ y x k).trans ?_
  simp only [out_at h0 h1 y x e hw]
  have hl := hit_len (dir_unit (ux x) (vy y)) (meets_lt _ _ _ _ hw).1.2 ok
  rw [over_len _ (by rw [hl]; exact ok.size.imp (fun z => by rw [z, abs_zero]) id), hl]

include h0 h1 h3 e hw ok in
/-- The direction to the light. -/
theorem toward_at (k : Fin 3) : res_main_v111 (F := Ideal) V0 (ix3 y x k)
    = ((toward L (at3 (dir (ux x) (vy y)) (root (dir (ux x) (vy y)) (pos (cs w)) (r w))) k : ℝ) : EReal) := by
  have a : ∀ k, res_main_v103 (F := Ideal) V0 (ix3 y x k) = L k - ((at3 (dir (ux x) (vy y)) (root (dir (ux x) (vy y)) (pos (cs w)) (r w)) k : ℝ) : EReal) := by
    intro k
    unfold res_main_v103
    refine (from_read _ _ y x k).trans ?_
    rw [h3, hit_at h0 h1 y x e hw]
  unfold res_main_v111
  refine (len_read _ y x k).trans ?_
  simp only [a]
  exact over_toward L _ (l_far (dir_unit (ux x) (vy y)) (meets_lt _ _ _ _ hw).1.2 ok) k

include h0 h1 h3 e hw ok in
/-- The cosine between the normal and the direction to the light. -/
theorem cos_at : res_main_v123 (F := Ideal) V0 (ix3 y x 0)
    = ((dot3 (over (at3 (dir (ux x) (vy y)) (root (dir (ux x) (vy y)) (pos (cs w)) (r w)) - pos (cs w)) |r w|) (toward L (at3 (dir (ux x) (vy y)) (root (dir (ux x) (vy y)) (pos (cs w)) (r w)))) : ℝ) : EReal) := by
  unfold res_main_v123
  refine (dot_read _ _ y x).trans ?_
  simp only [normal_at h0 h1 y x e hw ok, toward_at h0 h1 h3 y x e hw ok]
  exact sum_dot _ _

include h0 h1 h3 e hw ok in
/-- The specular term before its power. -/
theorem shine_at : res_main_v137 (F := Ideal) V0 (ix3 y x 0)
    = ((max (dot3 (fun k => 2 * over (at3 (dir (ux x) (vy y)) (root (dir (ux x) (vy y)) (pos (cs w)) (r w)) - pos (cs w)) |r w| k
        * dot3 (over (at3 (dir (ux x) (vy y)) (root (dir (ux x) (vy y)) (pos (cs w)) (r w)) - pos (cs w)) |r w|) (toward L (at3 (dir (ux x) (vy y)) (root (dir (ux x) (vy y)) (pos (cs w)) (r w))))
        - toward L (at3 (dir (ux x) (vy y)) (root (dir (ux x) (vy y)) (pos (cs w)) (r w))) k)
        (over (-at3 (dir (ux x) (vy y)) (root (dir (ux x) (vy y)) (pos (cs w)) (r w))) |root (dir (ux x) (vy y)) (pos (cs w)) (r w)|)) 0 : ℝ) : EReal) := by
  have a : ∀ k, res_main_v112 (F := Ideal) V0 (ix3 y x k) = (((-at3 (dir (ux x) (vy y)) (root (dir (ux x) (vy y)) (pos (cs w)) (r w))) k : ℝ) : EReal) := by
    intro k
    unfold res_main_v112
    refine (neg_read _ y x k).trans ?_
    rw [hit_at h0 h1 y x e hw, ← EReal.coe_neg]
    rfl
  have hl : Real.sqrt (dot3 (-at3 (dir (ux x) (vy y)) (root (dir (ux x) (vy y)) (pos (cs w)) (r w))) (-at3 (dir (ux x) (vy y)) (root (dir (ux x) (vy y)) (pos (cs w)) (r w)))) = |root (dir (ux x) (vy y)) (pos (cs w)) (r w)| := by
    rw [← at_len (dir_unit (ux x) (vy y))]
    congr 1
    simp only [dot3, Pi.neg_apply]
    ring
  unfold res_main_v137
  refine (shine_read _ _ _ _ y x).trans ?_
  refine Eq.trans (b := max (∑ j, _) 0) (congrArg (fun z => max z 0) (Finset.sum_congr rfl fun j _ => congrArg _ (len_read _ y x j))) ?_
  simp only [a]
  have hf : eps ≤ |root (dir (ux x) (vy y)) (pos (cs w)) (r w)| := t_far (dir_unit (ux x) (vy y)) (meets_lt _ _ _ _ hw).1.2 ok
  simp only [over_len _ (Or.inr (hl.symm ▸ hf)), hl, normal_at h0 h1 y x e hw ok, toward_at h0 h1 h3 y x e hw ok, cos_at h0 h1 h3 y x e hw ok, w_two]
  rw [← coe_max, EReal.coe_zero]
  congr 1
  refine Eq.trans ?_ (sum_dot _ _)
  refine Finset.sum_congr rfl fun j _ => ?_
  rw [← EReal.coe_mul, ← EReal.coe_mul, ← EReal.coe_sub]

omit hw ok e in
include h0 h1 h3 in
/-- The reference's result. -/
theorem shot_at {col : Fin 8 → Fin 3 → EReal} {lc : Fin 3 → EReal}
    (h2 : ∀ s k, V0 (Proc.tc.devRef main_arg2) (ix2 s k) = col s k) (h4 : ∀ k, V0 (Proc.tc.devRef main_arg4) (ix1 k) = lc k)
    (ok : ∀ s, Near (cs s) → Ok (pos (cs s)) (r s) L) (k : Fin 3) :
    val4 (F := Ideal) V0 (Proc.tc.devRef main_v155) (ix3 y x k) = shot cs r L col lc y x k := by
  refine (congrFun (val4_main_v155 V0) (ix3 y x k)).trans ?_
  refine (either_read _ _ _ y x k).trans ?_
  rw [lit_at h0 h1, select_olt]
  show _ = if meets (ux x) (vy y) cs r (win (meets (ux x) (vy y) cs r)) < ⊤ then
      min 1 (max 0 (((share (dir (ux x) (vy y)) (pos (cs (win (meets (ux x) (vy y) cs r)))) (r (win (meets (ux x) (vy y) cs r))) L : ℝ) : EReal)
        * (col (win (meets (ux x) (vy y) cs r)) k * lc k)))
    else (((1 - ux y) * top k + ux y : ℝ) : EReal)
  obtain ⟨w, e⟩ : ∃ w, win (meets (ux x) (vy y) cs r) = w := ⟨_, rfl⟩
  rw [e]
  split_ifs with hw
  · refine (fore_read _ _ _ _ _ y x k).trans ?_
    have q : res_main_v140 (F := Ideal) V0 (ix3 y x 0) = pow8 (res_main_v137 (F := Ideal) V0 (ix3 y x 0)) := by
      unfold res_main_v140 res_main_v139 res_main_v138
      pointwise
      rfl
    rw [q, shine_at h0 h1 h3 y x e hw (ok w (meets_lt _ _ _ _ hw).1.1), cos_at h0 h1 h3 y x e hw (ok w (meets_lt _ _ _ _ hw).1.1), in_read _ w y x (index9_at h0 h1 y x e),
      pick_read _ _ w y x k (index9_at h0 h1 y x e), h2, h4, w_amb, w_half, w_spc]
    rw [lit_sum, mul_assoc]
    rfl
  · refine (back_read _ y x k).trans ?_
    have l : Ideal.ofBits .f32 (lit0 (S3.rowMajor (ix1 k))) = ((top k : ℝ) : EReal) := by
      fin_cases k
      · exact w_half
      · exact w_sky
      · exact w_one
    rw [row_at, l, mul_one, ← EReal.coe_one, ← EReal.coe_sub, ← EReal.coe_mul, ← EReal.coe_add, EReal.coe_one]
    exact sky_clip y.val y.isLt k

end
end Cert.ReferenceIdeal.Value
-- ==== Proof.Scene.lean ====
module

public import proofs.«01_k».proof.Pre_scene
public import proofs.«01_k».proof.Proof.Ref

/-! What the precondition says of a scene. -/

@[expose] public section
set_option maxRecDepth 8192
noncomputable section

namespace RayTrace
open Idealize.ShloMosaic

/-- A number whose absolute value is below infinity is real. -/
theorem real_of_abs (a : EReal) (h : max a (-a) < ⊤) : ∃ r : ℝ, a = (r : EReal) := by
  induction a with
  | bot => simp at h
  | top => simp at h
  | coe r => exact ⟨r, rfl⟩

/-- The length of a real vector. -/
theorem len_coe (a : Fin 3 → ℝ) : Ideal.sqrt (∑ j : Fin 3, ((a j : ℝ) : EReal) * ((a j : ℝ) : EReal)) = ((Real.sqrt (dot3 a a) : ℝ) : EReal) := by
  have hn : 0 ≤ dot3 a a := by
    unfold dot3; nlinarith [mul_self_nonneg (a 0), mul_self_nonneg (a 1), mul_self_nonneg (a 2)]
  rw [sum_dot, Ideal.sqrt_coe, if_neg (not_lt.mpr hn)]

/-- The absolute value of a real number. -/
theorem abs_coe (a : ℝ) : max ((a : ℝ) : EReal) (-((a : ℝ) : EReal)) = ((|a| : ℝ) : EReal) := by
  rw [← EReal.coe_neg, coe_max]; rfl

/-- A condition holds where its bit is one. -/
theorem of_bit {p : Prop} {d : Decidable p} (h : BitVec.ofBool (@decide p d) = 1#1) : p := by
  by_contra hp
  rw [decide_eq_false hp] at h
  exact absurd h (by decide)

end RayTrace

namespace Cert.Pre_scene
open Idealize.ShloMosaic Idealize.ShloMosaic.Tactic RayTrace

/-- The shape relations the precondition's operations take. -/
theorem facts : Facts where
  reducesTo_S8x3_S8_d1 := by decide
  h_S_ := by decide
  bcast_S3_S1x3_1 := by decide
  bcast_S1x3_S8x3_0_1 := by decide
  bcast_S_S8 := by decide

/-- The precondition's bit from a sphere's radius and its distances from the camera and the light. -/
def bits (a b c : EReal) : BitVec 1 :=
  IntOp.andi (IntOp.andi (IntOp.andi (Ideal.cmp .olt a (Ideal.ofBits .f32 0x7F800000#32))
    (IntOp.ori (Ideal.cmp .oeq a 0) (Ideal.cmp .oge a (Ideal.ofBits .f32 0x2B8CBCCC#32))))
    (Ideal.cmp .oge (max (b - a) (-(b - a))) (Ideal.ofBits .f32 0x2B8CBCCC#32)))
    (Ideal.cmp .oge (max (c - a) (-(c - a))) (Ideal.ofBits .f32 0x2B8CBCCC#32))

section
variable [Facts] (C : S8x3.Idx → EReal) (R : S8.Idx → EReal) (K : S8x3.Idx → EReal) (L M : S3.Idx → EReal)

/-- The precondition read at a sphere. -/
theorem scene_read (s : Fin 8) (h : fn (F := Ideal) C R K L M (ix1 s) = 1#1) :
    max (R (ix1 s)) (-R (ix1 s)) < ⊤
    ∧ (max (R (ix1 s)) (-R (ix1 s)) = 0 ∨ Ideal.ofBits .f32 0x2B8CBCCC#32 ≤ max (R (ix1 s)) (-R (ix1 s)))
    ∧ Ideal.ofBits .f32 0x2B8CBCCC#32 ≤ max (Ideal.sqrt (∑ j, C (ix2 s j) * C (ix2 s j)) - max (R (ix1 s)) (-R (ix1 s))) (-(Ideal.sqrt (∑ j, C (ix2 s j) * C (ix2 s j)) - max (R (ix1 s)) (-R (ix1 s))))
    ∧ Ideal.ofBits .f32 0x2B8CBCCC#32 ≤ max (Ideal.sqrt (∑ j, (L (ix1 j) - C (ix2 s j)) * (L (ix1 j) - C (ix2 s j))) - max (R (ix1 s)) (-R (ix1 s))) (-(Ideal.sqrt (∑ j, (L (ix1 j) - C (ix2 s j)) * (L (ix1 j) - C (ix2 s j))) - max (R (ix1 s)) (-R (ix1 s)))) := by
  have e : fn (F := Ideal) C R K L M (ix1 s) = bits (max (R (ix1 s)) (-R (ix1 s))) (Ideal.sqrt (∑ j, C (ix2 s j) * C (ix2 s j)))
      (Ideal.sqrt (∑ j, (L (ix1 j) - C (ix2 s j)) * (L (ix1 j) - C (ix2 s j)))) := by
    unfold fn fn_part1
    pointwise
    rfl
  rw [e] at h
  unfold bits at h
  simp only [IntOp.andi_eq_one, IntOp.ori_eq_one] at h
  obtain ⟨⟨⟨a, d⟩, f⟩, g⟩ := h
  have top : ∀ z : EReal, z < Ideal.ofBits .f32 0x7F800000#32 → z < ⊤ := fun z hz => by rw [← w_inf]; exact hz
  exact ⟨top _ (of_bit a), d.imp of_bit of_bit, of_bit f, of_bit g⟩

/-- A scene under the precondition has real radii, and its lengths are what the claims take. -/
theorem scene_ok (h : ∀ s, fn (F := Ideal) C R K L M (ix1 s) = 1#1) :
    ∃ r : Fin 8 → ℝ, (∀ s, R (ix1 s) = ((r s : ℝ) : EReal))
      ∧ ∀ s, Near (fun k => C (ix2 s k)) → Ok (pos (fun k => C (ix2 s k))) (r s) (fun k => L (ix1 k)) := by
  have q := fun s => scene_read C R K L M s (h s)
  choose r hr using fun s => real_of_abs _ (q s).1
  refine ⟨r, hr, fun s near => ?_⟩
  obtain ⟨p, hp⟩ : ∃ p, pos (fun k => C (ix2 s k)) = p := ⟨_, rfl⟩
  have hc : ∀ k, C (ix2 s k) = ((p k : ℝ) : EReal) := fun k => (near k).trans (by rw [← hp]; rfl)
  rw [hp]
  obtain ⟨_, q4, q5, q6⟩ := q s
  simp only [hc, hr, abs_coe, w_eps] at q4 q5 q6
  rw [len_coe, ← EReal.coe_sub, abs_coe] at q5
  refine ⟨?_, ?_, fun here => ?_⟩
  · refine q4.imp (fun z => ?_) (fun z => by exact_mod_cast z)
    exact abs_eq_zero.mp (by exact_mod_cast z)
  · exact_mod_cast q5
  · have e : ∀ k, L (ix1 k) - ((p k : ℝ) : EReal) = (((pos (fun k => L (ix1 k)) - p) k : ℝ) : EReal) := fun k =>
      (congrArg (· - ((p k : ℝ) : EReal)) (here k)).trans (EReal.coe_sub _ _).symm
    simp only [e] at q6
    rw [len_coe, ← EReal.coe_sub, abs_coe] at q6
    exact_mod_cast q6

end
end Cert.Pre_scene
-- ==== Proof.Mask.lean ====
module

public import proofs.«01_k».proof.On_meets_1_to_7
public import proofs.«01_k».proof.Proof.Scene

/-! What the mask says of a pixel. -/

@[expose] public section
set_option maxRecDepth 8192
noncomputable section

namespace RayTrace
open Idealize.ShloMosaic

/-- The mask's bit for a sphere: the ray's projection squared, less its length squared times the excess of the center's squared
    length over the squared radius, is not negative. -/
def meetBit (u v c0 c1 c2 r : EReal) : BitVec 1 :=
  Ideal.cmp .oge ((u * c0 + Ideal.ofBits .f32 0x40A00000#32 * c1 + v * c2) * (u * c0 + Ideal.ofBits .f32 0x40A00000#32 * c1 + v * c2)
    - (u * u + v * v + Ideal.ofBits .f32 0x41C80000#32) * (c0 * c0 + c1 * c1 + c2 * c2 - r * r)) 0

/-- The mask's bit is one only where the ray meets the sphere. -/
theorem meetBit_met (u v : ℝ) (c : Fin 3 → EReal) (r : ℝ) (h : meetBit u v (c 0) (c 1) (c 2) r = 1#1) : Met (dir u v) c r := by
  unfold meetBit at h
  have h : _ ≤ _ := of_bit h
  rw [w_five, w_25] at h
  have n := nn_pos u v
  by_cases near : Near c
  · refine ⟨near, ?_⟩
    obtain ⟨p, hp⟩ : ∃ p, pos c = p := ⟨_, rfl⟩
    have hc : ∀ k, c k = ((p k : ℝ) : EReal) := fun k => (near k).trans (by rw [← hp]; rfl)
    rw [hp]
    simp only [hc, ← EReal.coe_zero, ← EReal.coe_mul, ← EReal.coe_add, ← EReal.coe_sub, EReal.coe_le_coe_iff] at h
    have q := inv_sq u v
    have e : (u * u + v * v + 25) * disc (dir u v) p r
        = (u * p 0 + 5 * p 1 + v * p 2) * (u * p 0 + 5 * p 1 + v * p 2) - (u * u + v * v + 25) * (p 0 * p 0 + p 1 * p 1 + p 2 * p 2 - r * r) := by
      simp only [disc, dot3, dir, Matrix.cons_val_zero, Matrix.cons_val_one, Matrix.cons_val]
      linear_combination ((u * p 0 + 5 * p 1 + v * p 2) * (u * p 0 + 5 * p 1 + v * p 2)) * q
    have p : 0 ≤ (u * u + v * v + 25) * disc (dir u v) p r := by rw [e]; exact h
    exact nonneg_of_mul_nonneg_right p n
  · rw [far_len c near, ← EReal.coe_mul r, EReal.top_sub_coe] at h
    simp only [← EReal.coe_mul u u, ← EReal.coe_mul v v, ← EReal.coe_add] at h
    rw [EReal.coe_mul_top_of_pos n, EReal.sub_top] at h
    exact absurd h (by simp)

end RayTrace

namespace Cert.On_meets_1_to_7
open Idealize.ShloMosaic Idealize.ShloMosaic.Tactic RayTrace

/-- The shape relations the mask's operations take. -/
theorem facts : Facts := by
  constructor <;> decide

section
variable [Facts] (C : S8x3.Idx → EReal) (R : S8.Idx → EReal) (K : S8x3.Idx → EReal) (L M : S3.Idx → EReal) (y x : Fin 1024) (k : Fin 3)

/-- The mask's coordinate across the picture. -/
def uWord (x : Fin 1024) : EReal :=
  Ideal.div (FloatOps.sitofp (F := Ideal) .f32 (BitVec.ofNat 32 x.val) * Ideal.ofBits .f32 1073741824#32) (Ideal.ofBits .f32 1149222912#32) - 1

/-- The mask's coordinate up the picture. -/
def vWord (y : Fin 1024) : EReal :=
  1 - Ideal.div (FloatOps.sitofp (F := Ideal) .f32 (BitVec.ofNat 32 y.val) * Ideal.ofBits .f32 1073741824#32) (Ideal.ofBits .f32 1149222912#32)

/-- A pixel's quotient of twice its number by 1023. -/
theorem step_at (n : Fin 1024) :
    Ideal.div (FloatOps.sitofp (F := Ideal) .f32 (BitVec.ofNat 32 n.val) * Ideal.ofBits .f32 1073741824#32) (Ideal.ofBits .f32 1149222912#32)
      = (((n.val : ℝ) * (2 / 1023) : ℝ) : EReal) := by
  have hn := n.isLt
  have e : FloatOps.sitofp (F := Ideal) FTy.f32 (BitVec.ofNat 32 n.val) = (((n.val : ℕ) : ℝ) : EReal) := by
    show (((BitVec.ofNat 32 n.val).toInt : ℝ) : EReal) = _
    rw [word_real (by omega)]
  rw [e, w_two, w_1023, Ideal.div_coe (by norm_num), ← EReal.coe_mul, ← EReal.coe_mul]
  congr 1
  ring

/-- It is the picture's column. -/
theorem uWord_at : uWord x = ((ux x : ℝ) : EReal) := by
  unfold uWord
  rw [step_at, ← EReal.coe_one, ← EReal.coe_sub]; rfl

/-- It is the picture's row. -/
theorem vWord_at : vWord y = ((vy y : ℝ) : EReal) := by
  unfold vWord
  rw [step_at, ← EReal.coe_one, ← EReal.coe_sub]; rfl

/-- The mask read at an element. -/
theorem mask_read : fn (F := Ideal) C R K L M (ix3 y x k)
    = IntOp.andi (IntOp.andi (IntOp.andi (IntOp.andi (IntOp.andi (IntOp.andi (IntOp.andi 1#1
      (meetBit (uWord x) (vWord y) (C (ix2 1 0)) (C (ix2 1 1)) (C (ix2 1 2)) (R (ix1 1))))
      (meetBit (uWord x) (vWord y) (C (ix2 2 0)) (C (ix2 2 1)) (C (ix2 2 2)) (R (ix1 2))))
      (meetBit (uWord x) (vWord y) (C (ix2 3 0)) (C (ix2 3 1)) (C (ix2 3 2)) (R (ix1 3))))
      (meetBit (uWord x) (vWord y) (C (ix2 4 0)) (C (ix2 4 1)) (C (ix2 4 2)) (R (ix1 4))))
      (meetBit (uWord x) (vWord y) (C (ix2 5 0)) (C (ix2 5 1)) (C (ix2 5 2)) (R (ix1 5))))
      (meetBit (uWord x) (vWord y) (C (ix2 6 0)) (C (ix2 6 1)) (C (ix2 6 2)) (R (ix1 6))))
      (meetBit (uWord x) (vWord y) (C (ix2 7 0)) (C (ix2 7 1)) (C (ix2 7 2)) (R (ix1 7))) := by
  unfold fn fn_part1 fn_part2 fn_part3 fn_part4 fn_part5 fn_part6 fn_part7 fn_part8 fn_part9 fn_part10 fn_part11
  pointwise
  rfl

/-- Where the mask holds, the ray meets the spheres 1 to 7. -/
theorem mask_met {r : Fin 8 → ℝ} (hr : ∀ s, R (ix1 s) = ((r s : ℝ) : EReal))
    (h : fn (F := Ideal) C R K L M (ix3 y x k) = 1#1) (s : Fin 8) (hs : s ≠ 0) :
    Met (dir (ux x) (vy y)) (fun k => C (ix2 s k)) (r s) := by
  rw [mask_read] at h
  simp only [IntOp.andi_eq_one, uWord_at, vWord_at, hr] at h
  obtain ⟨⟨⟨⟨⟨⟨⟨_, a1⟩, a2⟩, a3⟩, a4⟩, a5⟩, a6⟩, a7⟩ := h
  match s, hs with
  | 0, hs => exact absurd rfl hs
  | 1, _ => exact meetBit_met _ _ _ _ a1
  | 2, _ => exact meetBit_met _ _ _ _ a2
  | 3, _ => exact meetBit_met _ _ _ _ a3
  | 4, _ => exact meetBit_met _ _ _ _ a4
  | 5, _ => exact meetBit_met _ _ _ _ a5
  | 6, _ => exact meetBit_met _ _ _ _ a6
  | 7, _ => exact meetBit_met _ _ _ _ a7

end
end Cert.On_meets_1_to_7
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Guarded
public import proofs.«01_k».proof.Proof.Gen.Guarded.Skeleton
public import proofs.«01_k».proof.Proof.Gen.Guarded.Launch
public import proofs.«01_k».proof.Proof.Gen.Guarded.Points
public import proofs.«01_k».proof.Proof.Gen.Guarded.Frame
public import proofs.«01_k».proof.Proof.Gen.GuardedIdeal
public import proofs.«01_k».proof.Proof.Gen.GuardedIdeal.Skeleton
public import proofs.«01_k».proof.Proof.Gen.GuardedIdeal.Launch
public import proofs.«01_k».proof.Proof.Gen.GuardedIdeal.Points
public import proofs.«01_k».proof.Proof.Gen.GuardedIdeal.Frame
public import proofs.«01_k».proof.Proof.Gen.ReferenceIdeal
public import proofs.«01_k».proof.Proof.Gen.ReferenceIdeal.Run
public import proofs.«01_k».proof.Proof.OutK
public import proofs.«01_k».proof.Proof.OutG
public import proofs.«01_k».proof.Proof.RefOut
public import proofs.«01_k».proof.Proof.Mask
public import Idealize.ShloMosaic.Adequacy
public import Idealize.ShloMosaic.Init

@[expose] public section

noncomputable section

namespace Cert.Proof

open Idealize.ShloMosaic Idealize.SL.Sem Cert.Kernel

/-- The reference's frame: a line of host operations that writes no argument and declares no semaphore. -/
theorem frame_r : Cert.quiescent_ReferenceIdeal := by
  intro m g _
  exact (θ_run Cert.ReferenceIdeal.defs _ _).mono
    (fun r h => ⟨fun c => (h c).2, sem_eq_zero_of_no_sems (by decide) r.2⟩)
    (Cert.ReferenceIdeal.Value.run (F := Ideal) m g)

/-- The two rewrites of the idealization, each its rule's statement. -/
theorem preserves : Cert.preserves_Kernel_KernelIdeal :=
  ⟨IdealRules.named_const.statement Cert.KernelIdeal.κ "pitch" .f32 0x3B002008#32 ((2 / 1023 : ℝ) : EReal) rfl,
    IdealRules.sign_bit.maskStatement Cert.KernelIdeal.S128x1024 .f32⟩

/-- The same two rewrites, of the guarded kernel. -/
theorem preserves_guarded : Cert.preserves_Guarded_GuardedIdeal :=
  ⟨IdealRules.named_const.statement Cert.GuardedIdeal.κ "pitch" .f32 0x3B002008#32 ((2 / 1023 : ℝ) : EReal) rfl,
    IdealRules.sign_bit.maskStatement Cert.GuardedIdeal.S128x1024 .f32⟩

/-- The reference's result. -/
def picture (m' : (ℓ : Loc Cert.ReferenceIdeal.nD Cert.ReferenceIdeal.τ Cert.ReferenceIdeal.sig) → Buf (Elt Ideal) ℓ) (c : Dev Cert.ReferenceIdeal.nD) :
    Cert.ReferenceIdeal.S1024x1024x3.Idx → EReal :=
  Cert.ReferenceIdeal.Value.val4 (F := Ideal) (StableHlo.launchContents m' c) (Proc.tc.devRef Cert.ReferenceIdeal.main_v155)

/-- The reference ends with its result and its arguments unchanged. -/
theorem run_r (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v155) = picture m' c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans (Cert.ReferenceIdeal.Value.val4_main_v155 (StableHlo.launchContents m' c)).symm, (h c).2⟩)
    (Cert.ReferenceIdeal.Value.run (F := Ideal) m' g')

section
attribute [local instance] Cert.Pre_scene.facts Cert.On_meets_1_to_7.facts

/-- The guarded kernel computes the reference. -/
theorem computes_guarded : Cert.algebraic_GuardedIdeal_ReferenceIdeal_pre_scene := by
  intro m g m' g' hpre hargs
  refine ⟨fun c => picture m' c, ?_, run_r m' g'⟩
  refine (θ_run Cert.GuardedIdeal.defs _ _).mono (fun r h c => ⟨?_, h.2 c⟩)
    (θ_run_and (Cert.GuardedIdeal.Gen.run_main m g) (Cert.GuardedIdeal.Gen.unchanged m g))
  obtain ⟨R, h1, ok⟩ := Cert.Pre_scene.scene_ok _ _ _ _ _ (fun s => congrFun (hpre c) (ix1 s))
  obtain ⟨a0, a1, a2, a3, a4⟩ := hargs c
  funext i
  obtain ⟨y, x, k, rfl⟩ : ∃ (y x : Fin 1024) (k : Fin 3), i = ix3 y x k := ⟨i 0, i 1, i 2, (ix3_eta i).symm⟩
  refine (Cert.GuardedIdeal.Gen.shot_at m r h.1 c (fun _ _ => rfl) h1 (fun _ _ => rfl) (fun _ => rfl) (fun _ => rfl) ok y x k).trans ?_
  exact (Cert.ReferenceIdeal.Value.shot_at (V0 := StableHlo.launchContents m' c)
    (fun s j => congrFun a0 (ix2 s j)) (fun s => (congrFun a1 (ix1 s)).trans (h1 s))
    (fun j => congrFun a3 (ix1 j)) y x
    (fun s j => congrFun a2 (ix2 s j)) (fun j => congrFun a4 (ix1 j)) ok k).symm

/-- The kernel computes the reference at the pixels whose line of sight meets every sphere after the first. -/
theorem computes : Cert.algebraic_KernelIdeal_ReferenceIdeal_on_meets_1_to_7_pre_scene := by
  intro m g m' g' hpre hargs
  refine ⟨fun c => picture m' c, ?_, (θ_run Cert.ReferenceIdeal.defs _ _).mono (fun r h c => ⟨fun i _ => congrFun (h c).1 i, (h c).2⟩) (run_r m' g')⟩
  refine (θ_run Cert.KernelIdeal.defs _ _).mono (fun r h c => ⟨fun i hi => ?_, h.2 c⟩)
    (θ_run_and (Cert.KernelIdeal.Gen.run_main m g) (Cert.KernelIdeal.Gen.unchanged m g))
  obtain ⟨R, h1, ok⟩ := Cert.Pre_scene.scene_ok _ _ _ _ _ (fun s => congrFun (hpre c) (ix1 s))
  obtain ⟨a0, a1, a2, a3, a4⟩ := hargs c
  obtain ⟨y, x, k, rfl⟩ : ∃ (y x : Fin 1024) (k : Fin 3), i = ix3 y x k := ⟨i 0, i 1, i 2, (ix3_eta i).symm⟩
  refine (Cert.KernelIdeal.Gen.shot_at m r h.1 c (fun _ _ => rfl) h1 (fun _ _ => rfl) (fun _ => rfl) (fun _ => rfl) ok y x k
    (Cert.On_meets_1_to_7.mask_met _ _ _ _ _ y x k h1 hi)).trans ?_
  exact (Cert.ReferenceIdeal.Value.shot_at (V0 := StableHlo.launchContents m' c)
    (fun s j => congrFun a0 (ix2 s j)) (fun s => (congrFun a1 (ix1 s)).trans (h1 s))
    (fun j => congrFun a3 (ix1 j)) y x
    (fun s j => congrFun a2 (ix2 s j)) (fun j => congrFun a4 (ix1 j)) ok k).symm

end

/-- The certificate's claim. -/
theorem claim : Cert.Claim :=
  ⟨Cert.Kernel.Gen.facts, Cert.KernelIdeal.Gen.facts, Cert.Guarded.Gen.facts, Cert.GuardedIdeal.Gen.facts,
    Cert.ReferenceIdeal.Gen.facts, Cert.Pre_scene.facts, Cert.On_meets_1_to_7.facts,
    fun m g _ => Cert.Kernel.Gen.frame m g, fun m g _ => Cert.KernelIdeal.Gen.frame m g, fun m g _ => Cert.KernelIdeal.Gen.frame m g,
    fun m g _ => Cert.Guarded.Gen.frame m g, fun m g _ => Cert.GuardedIdeal.Gen.frame m g, fun m g _ => Cert.GuardedIdeal.Gen.frame m g,
    frame_r, fun m g _ => frame_r m g trivial, preserves, preserves_guarded, computes, computes_guarded⟩

end Cert.Proof

end
